-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_densities [hPre_densities : Cert.Pre_densities.Facts] (m : (ℓ : Loc Cert.KernelIdeal.nD Cert.KernelIdeal.τ Cert.KernelIdeal.sig) → Buf (Elt Ideal) ℓ) : Prop :=
  ∀ c : Dev Cert.KernelIdeal.nD,
    (Cert.Pre_densities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_densities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_densities [hPre_densities : Cert.Pre_densities.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_densities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_densities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_even_grid [hPre_even_grid : Cert.Pre_even_grid.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_even_grid.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_even_grid.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_even_grid.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_even_grid [hPre_even_grid : Cert.Pre_even_grid.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_even_grid.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_even_grid.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_even_grid.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_densities [hKernelIdeal : Cert.KernelIdeal.Facts] [hPre_densities : Cert.Pre_densities.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_densities m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_densities [hReferenceIdeal : Cert.ReferenceIdeal.Facts] [hPre_densities : Cert.Pre_densities.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_densities m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_even_grid [hKernel2Ideal : Cert.Kernel2Ideal.Facts] [hPre_even_grid : Cert.Pre_even_grid.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_even_grid m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_even_grid [hReference2Ideal : Cert.Reference2Ideal.Facts] [hPre_even_grid : Cert.Pre_even_grid.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_even_grid m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_densities [hKernelIdeal : Cert.KernelIdeal.Facts] [hReferenceIdeal : Cert.ReferenceIdeal.Facts] [hPre_densities : Cert.Pre_densities.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_densities m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_even_grid [hKernel2Ideal : Cert.Kernel2Ideal.Facts] [hReference2Ideal : Cert.Reference2Ideal.Facts] [hPre_even_grid : Cert.Pre_even_grid.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_even_grid m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v41_0)) (v1 : (c : Dev Cert.Kernel2Ideal.nD) → Buf (Elt Ideal) ((c.tc : Thread Cert.Kernel2Ideal.nD Cert.Kernel2Ideal.τ).loc Cert.Kernel2Ideal.main_v41_1)) (v2 : (c : Dev Cert.Kernel2Ideal.nD) → Buf (Elt Ideal) ((c.tc : Thread Cert.Kernel2Ideal.nD Cert.Kernel2Ideal.τ).loc Cert.Kernel2Ideal.main_v41_2)) (v3 : (c : Dev Cert.Kernel2Ideal.nD) → Buf (Elt Ideal) ((c.tc : Thread Cert.Kernel2Ideal.nD Cert.Kernel2Ideal.τ).loc Cert.Kernel2Ideal.main_v41_3)) (v4 : (c : Dev Cert.Kernel2Ideal.nD) → Buf (Elt Ideal) ((c.tc : Thread Cert.Kernel2Ideal.nD Cert.Kernel2Ideal.τ).loc Cert.Kernel2Ideal.main_v41_4)) (v5 : (c : Dev Cert.Kernel2Ideal.nD) → Buf (Elt Ideal) ((c.tc : Thread Cert.Kernel2Ideal.nD Cert.Kernel2Ideal.τ).loc Cert.Kernel2Ideal.main_v41_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41_0) = v0 c
          ∧ r.2.mem ((c.tc : Thread Cert.Kernel2Ideal.nD Cert.Kernel2Ideal.τ).loc Cert.Kernel2Ideal.main_v41_1) = v1 c
          ∧ r.2.mem ((c.tc : Thread Cert.Kernel2Ideal.nD Cert.Kernel2Ideal.τ).loc Cert.Kernel2Ideal.main_v41_2) = v2 c
          ∧ r.2.mem ((c.tc : Thread Cert.Kernel2Ideal.nD Cert.Kernel2Ideal.τ).loc Cert.Kernel2Ideal.main_v41_3) = v3 c
          ∧ r.2.mem ((c.tc : Thread Cert.Kernel2Ideal.nD Cert.Kernel2Ideal.τ).loc Cert.Kernel2Ideal.main_v41_4) = v4 c
          ∧ r.2.mem ((c.tc : Thread Cert.Kernel2Ideal.nD Cert.Kernel2Ideal.τ).loc Cert.Kernel2Ideal.main_v41_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v957) = v0 c
          ∧ r.2.mem ((c.tc : Thread Cert.Reference2Ideal.nD Cert.Reference2Ideal.τ).loc Cert.Reference2Ideal.main_v960) = v1 c
          ∧ r.2.mem ((c.tc : Thread Cert.Reference2Ideal.nD Cert.Reference2Ideal.τ).loc Cert.Reference2Ideal.main_v963) = v2 c
          ∧ r.2.mem ((c.tc : Thread Cert.Reference2Ideal.nD Cert.Reference2Ideal.τ).loc Cert.Reference2Ideal.main_v966) = v3 c
          ∧ r.2.mem ((c.tc : Thread Cert.Reference2Ideal.nD Cert.Reference2Ideal.τ).loc Cert.Reference2Ideal.main_v969) = v4 c
          ∧ r.2.mem ((c.tc : Thread Cert.Reference2Ideal.nD Cert.Reference2Ideal.τ).loc Cert.Reference2Ideal.main_v972) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_in_range : Cert.Pre_in_range.Facts) (hPre_densities : Cert.Pre_densities.Facts) (hPre_even_grid : Cert.Pre_even_grid.Facts),
    quiescent_Kernel (hKernel := hKernel) (hPre_in_range := hPre_in_range)
    ∧ quiescent_KernelIdeal (hKernelIdeal := hKernelIdeal) (hPre_in_range := hPre_in_range)
    ∧ quiescent_KernelIdeal_pre_densities (hKernelIdeal := hKernelIdeal) (hPre_densities := hPre_densities)
    ∧ quiescent_ReferenceIdeal (hReferenceIdeal := hReferenceIdeal)
    ∧ quiescent_ReferenceIdeal_pre_densities (hReferenceIdeal := hReferenceIdeal) (hPre_densities := hPre_densities)
    ∧ quiescent_Kernel2 (hKernel2 := hKernel2)
    ∧ quiescent_Kernel2Ideal (hKernel2Ideal := hKernel2Ideal)
    ∧ quiescent_Kernel2Ideal_pre_even_grid (hKernel2Ideal := hKernel2Ideal) (hPre_even_grid := hPre_even_grid)
    ∧ quiescent_Reference2Ideal (hReference2Ideal := hReference2Ideal)
    ∧ quiescent_Reference2Ideal_pre_even_grid (hReference2Ideal := hReference2Ideal) (hPre_even_grid := hPre_even_grid)
    ∧ preserves_Kernel_KernelIdeal
    ∧ algebraic_KernelIdeal_ReferenceIdeal_pre_densities (hKernelIdeal := hKernelIdeal) (hReferenceIdeal := hReferenceIdeal) (hPre_densities := hPre_densities)
    ∧ preserves_Kernel2_Kernel2Ideal
    ∧ algebraic_Kernel2Ideal_Reference2Ideal_pre_even_grid (hKernel2Ideal := hKernel2Ideal) (hReference2Ideal := hReference2Ideal) (hPre_even_grid := hPre_even_grid)
-- ==== Pre_densities.lean ====
abbrev S32 : Shape := ⟨1, ![32]⟩
abbrev S101x8192 : Shape := ⟨2, ![101, 8192]⟩
abbrev S101 : Shape := ⟨1, ![101]⟩
abbrev S_ : Shape := ⟨0, ![]⟩

class Facts : Prop where
  bcast_S_S32 : S_.BroadcastsInDim S32 (![] : Fin 0 → Fin S32.rank)
  bcast_S_S101x8192 : S_.BroadcastsInDim S101x8192 (![] : Fin 0 → Fin S101x8192.rank)

variable [Facts]

def fn {F : FTy → Type} [FloatOps F] (main_arg0 : IVec S32 32) (main_arg1 : FVec F S101x8192 .f32) (main_arg2 : IVec S101 1) : IVec S32 1 × IVec S101x8192 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 100#32
  let main_v2 : IVec S32 32 := broadcastInDim S32 ![] bcast_S_S32 main_c_0
  let main_v3 : IVec S32 1 := cmpi .slt main_arg0 main_v2
  let main_v4 : IVec S32 1 := andi main_v1 main_v3
  let main_cst : FVec F S_ .f32 := constant S_ .f32 0x00000000#32
  let main_v5 : FVec F S101x8192 .f32 := broadcastInDim S101x8192 ![] bcast_S_S101x8192 main_cst
  let main_v6 : IVec S101x8192 1 := cmpf .oge main_arg1 main_v5
  (main_v4, main_v6)
-- ==== Pre_even_grid.lean ====
abbrev S128x64x1 : Shape := ⟨3, ![128, 64, 1]⟩
abbrev S32x256x3 : Shape := ⟨3, ![32, 256, 3]⟩
abbrev S32 : Shape := ⟨1, ![32]⟩
abbrev S101x8192 : Shape := ⟨2, ![101, 8192]⟩
abbrev S101 : Shape := ⟨1, ![101]⟩
abbrev S_ : Shape := ⟨0, ![]⟩

class Facts : Prop where
  bcast_S_S101x8192 : S_.BroadcastsInDim S101x8192 (![] : Fin 0 → Fin S101x8192.rank)
  bcast_S_S128x64x1 : S_.BroadcastsInDim S128x64x1 (![] : Fin 0 → Fin S128x64x1.rank)
  bcast_S_S32 : S_.BroadcastsInDim S32 (![] : Fin 0 → Fin S32.rank)

variable [Facts]

def fn {F : FTy → Type} [FloatOps F] (main_arg0 : IVec S128x64x1 32) (main_arg1 : FVec F S32x256x3 .f32) (main_arg2 : IVec S32 32) (main_arg3 : FVec F S101x8192 .f32) (main_arg4 : FVec F S101 .f32) (main_arg5 : IVec S101 1) (main_arg6 : FVec F S101 .f32) : IVec S128x64x1 1 × IVec S32 1 × IVec S101x8192 1 :=
  let main_v0 : IVec S101x8192 32 := iotaInDim S101x8192 32 1
  let main_v1 : FVec F S101x8192 .f32 := sitofp .f32 main_v0
  let main_cst : FVec F S_ .f32 := constant S_ .f32 0x39C91623#32
  let main_v2 : FVec F S101x8192 .f32 := broadcastInDim S101x8192 ![] bcast_S_S101x8192 main_cst
  let main_v3 : FVec F S101x8192 .f32 := mulf main_v1 main_v2
  let main_c : IVec S_ 32 := constantI S_ 32 0#32
  let main_v4 : IVec S128x64x1 32 := broadcastInDim S128x64x1 ![] bcast_S_S128x64x1 main_c
  let main_v5 : IVec S128x64x1 1 := cmpi .sge main_arg0 main_v4
  let main_c_0 : IVec S_ 32 := constantI S_ 32 8191#32
  let main_v6 : IVec S128x64x1 32 := broadcastInDim S128x64x1 ![] bcast_S_S128x64x1 main_c_0
  let main_v7 : IVec S128x64x1 1 := cmpi .slt main_arg0 main_v6
  let main_v8 : IVec S128x64x1 1 := andi main_v5 main_v7
  let main_c_1 : IVec S_ 32 := constantI S_ 32 0#32
  let main_v9 : IVec S32 32 := broadcastInDim S32 ![] bcast_S_S32 main_c_1
  let main_v10 : IVec S32 1 := cmpi .sge main_arg2 main_v9
  let main_c_2 : IVec S_ 32 := constantI S_ 32 100#32
  let main_v11 : IVec S32 32 := broadcastInDim S32 ![] bcast_S_S32 main_c_2
  let main_v12 : IVec S32 1 := cmpi .slt main_arg2 main_v11
  let main_v13 : IVec S32 1 := andi main_v10 main_v12
  let main_v14 : IVec S101x8192 1 := cmpf .oeq main_arg3 main_v3
  (main_v8, main_v13, main_v14)
-- ==== Pre_in_range.lean ====
abbrev S32 : Shape := ⟨1, ![32]⟩
abbrev S101x8192 : Shape := ⟨2, ![101, 8192]⟩
abbrev S101 : Shape := ⟨1, ![101]⟩
abbrev S_ : Shape := ⟨0, ![]⟩

class Facts : Prop where
  bcast_S_S32 : S_.BroadcastsInDim S32 (![] : Fin 0 → Fin S32.rank)

variable [Facts]

def fn {F : FTy → Type} [FloatOps F] (main_arg0 : IVec S32 32) (main_arg1 : FVec F S101x8192 .f32) (main_arg2 : IVec S101 1) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 100#32
  let main_v2 : IVec S32 32 := broadcastInDim S32 ![] bcast_S_S32 main_c_0
  let main_v3 : IVec S32 1 := cmpi .slt main_arg0 main_v2
  let main_v4 : IVec S32 1 := andi main_v1 main_v3
  main_v4
-- ==== Kernel.lean ====
abbrev S32 : Shape := ⟨1, ![32]⟩
abbrev S101x8192 : Shape := ⟨2, ![101, 8192]⟩
abbrev S101 : Shape := ⟨1, ![101]⟩
abbrev S202x1x4096 : Shape := ⟨3, ![202, 1, 4096]⟩
abbrev S_ : Shape := ⟨0, ![]⟩
abbrev S32x1 : Shape := ⟨2, ![32, 1]⟩
abbrev S128x64x1 : Shape := ⟨3, ![128, 64, 1]⟩
abbrev S1x1x4096 : Shape := ⟨3, ![1, 1, 4096]⟩
abbrev S1 : Shape := ⟨1, ![1]⟩
abbrev S1x64x1 : Shape := ⟨3, ![1, 64, 1]⟩
abbrev S64x4096 : Shape := ⟨2, ![64, 4096]⟩
abbrev S1x4096 : Shape := ⟨2, ![1, 4096]⟩
abbrev S8x4096 : Shape := ⟨2, ![8, 4096]⟩
abbrev S64 : Shape := ⟨1, ![64]⟩
abbrev S64x1 : Shape := ⟨2, ![64, 1]⟩

abbrev nBuf : Space → Nat
  | .hbm => 13
  | .vmem => 6
  | .smem => 2
  | _ => 0

abbrev bufTy : (tb : Table) → Fin (tcTables nBuf tb) → BufTy
  | .hbm, ⟨0, _⟩ => ⟨S101x8192, .f32⟩
  | .hbm, ⟨1, _⟩ => ⟨S101, .i1⟩
  | .hbm, ⟨2, _⟩ => ⟨S202x1x4096, .f32⟩
  | .hbm, ⟨3, _⟩ => ⟨S_, .i32⟩
  | .hbm, ⟨4, _⟩ => ⟨S32, .i32⟩
  | .hbm, ⟨5, _⟩ => ⟨S32, .i1⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S32x1, .i32⟩
  | .hbm, ⟨11, _⟩ => ⟨S32, .i1⟩
  | .hbm, ⟨12, _⟩ => ⟨S128x64x1, .i32⟩
  | .local _ .vmem, ⟨0, _⟩ => ⟨S1x1x4096, .f32⟩
  | .local _ .vmem, ⟨1, _⟩ => ⟨S1x1x4096, .f32⟩
  | .local _ .vmem, ⟨2, _⟩ => ⟨S1x64x1, .i32⟩
  | .local _ .vmem, ⟨3, _⟩ => ⟨S1x64x1, .i32⟩
  | .local _ .vmem, ⟨4, _⟩ => ⟨S64x4096, .f32⟩
  | .local _ .vmem, ⟨5, _⟩ => ⟨S64x4096, .i32⟩
  | .local _ .smem, ⟨0, _⟩ => ⟨S32, .i32⟩
  | .local _ .smem, ⟨1, _⟩ => ⟨S32, .i32⟩
  | _, _ => ⟨S101x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v9 : Ref sig .tc := ⟨.hbm, 12, rfl⟩
abbrev main_arg0 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![128, 2], ![false, false]⟩

abbrev pre0 : Pipeline.Prefetch sig := ⟨2, ![main_arg0.idx, main_v8.idx], fun | 0 => main_arg0.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c256_i32 : BitVec 32 := 256#32
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let v1 : BitVec 32 := Scalar.divsi v0 c256_i32
  let c1_i32 : BitVec 32 := 1#32
  let v16 : BitVec 32 := Scalar.subi v1 c1_i32
  let v17 : BitVec 32 := Scalar.select v15 v16 v1
  let v18 : Index := Scalar.indexCast v17
  ![v18.toNat]
def k0_cond3 (i : grid0.Coords) : BitVec 1 :=
  let arg1 : BitVec 32 := BitVec.ofNat 32 (i 1).val
  let c1_i32_12 : BitVec 32 := 1#32
  let v40 : BitVec 1 := Scalar.cmpi .eq arg1 c1_i32_12
  let v41 : BitVec 32 := Scalar.extui v40
  let c0_i32_13 : BitVec 32 := 0#32
  let v42 : BitVec 1 := Scalar.cmpi .ne v41 c0_i32_13
  v42

def cc0_transform_0 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c256_i32 : BitVec 32 := 256#32
  let v1 : BitVec 32 := Scalar.divsi v0 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : Index := Scalar.indexCast v17
  let v19 : BitVec 32 := pf.at 0 (Rect.unit (s := S32) ![v18.toNat] S1.size (k0_off1_inb i)) numel1_S1
  let c2_i32 : BitVec 32 := 2#32
  let v20 : BitVec 32 := Scalar.muli v19 c2_i32
  let v21 : BitVec 32 := Scalar.addi v20 arg1
  let c0_i32_4 : BitVec 32 := 0#32
  let c0_i32_5 : BitVec 32 := 0#32
  let c0_i32_6 : BitVec 32 := 0#32
  ![v21.toNat, c0_i32_4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S32 : Shape := ⟨1, ![32]⟩
abbrev S101x8192 : Shape := ⟨2, ![101, 8192]⟩
abbrev S101 : Shape := ⟨1, ![101]⟩
abbrev S32x1 : Shape := ⟨2, ![32, 1]⟩
abbrev S32x256 : Shape := ⟨2, ![32, 256]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩
abbrev S8192x8191 : Shape := ⟨2, ![8192, 8191]⟩
abbrev S128x64x1 : Shape := ⟨3, ![128, 64, 1]⟩

abbrev nBuf : Space → Nat
  | .hbm => 304
  | .vmem => 0
  | .smem => 0
  | _ => 0

abbrev hbmTy0_0 (i : Nat) : BufTy := match i % 128 with
  | 0 => ⟨S32, .i32⟩
  | 1 => ⟨S101x8192, .f32⟩
  | 2 => ⟨S101, .i1⟩
  | 3 => ⟨S32x1, .i32⟩
  | 4 => ⟨S32x256, .i32⟩
  | 5 => ⟨S8192, .i32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x8192, .f32⟩
  | 15 => ⟨S8192x8191, .f32⟩
  | 16 => ⟨S_, .f32⟩
  | 17 => ⟨S8192x8191, .f32⟩
  | 18 => ⟨S8192x8191, .f32⟩
  | 19 => ⟨S8192x8191, .f32⟩
  | 20 => ⟨S8192x8191, .i32⟩
  | 21 => ⟨S_, .i32⟩
  | 22 => ⟨S8192x8191, .i32⟩
  | 23 => ⟨S8192x8191, .i32⟩
  | 24 => ⟨S8192x8191, .i32⟩
  | 25 => ⟨S8192x8191, .i32⟩
  | 26 => ⟨S_, .i32⟩
  | 27 => ⟨S8192x8191, .i32⟩
  | 28 => ⟨S_, .i32⟩
  | 29 => ⟨S8192x8191, .i32⟩
  | 30 => ⟨S8192x8191, .i32⟩
  | 31 => ⟨S_, .i32⟩
  | 32 => ⟨S8192x8191, .i32⟩
  | 33 => ⟨S8192x8191, .i32⟩
  | 34 => ⟨S8192x8191, .i32⟩
  | 35 => ⟨S_, .i32⟩
  | 36 => ⟨S8192x8191, .i32⟩
  | 37 => ⟨S8192x8191, .i32⟩
  | 38 => ⟨S_, .i32⟩
  | 39 => ⟨S8192x8191, .i32⟩
  | 40 => ⟨S8192x8191, .i32⟩
  | 41 => ⟨S8192x8191, .i32⟩
  | 42 => ⟨S8192x8191, .i32⟩
  | 43 => ⟨S8192x8191, .i32⟩
  | 44 => ⟨S_, .i32⟩
  | 45 => ⟨S8192x8191, .i32⟩
  | 46 => ⟨S8192x8191, .i32⟩
  | 47 => ⟨S_, .i32⟩
  | 48 => ⟨S8192x8191, .i32⟩
  | 49 => ⟨S8192x8191, .i32⟩
  | 50 => ⟨S8192x8191, .i32⟩
  | 51 => ⟨S8192x8191, .i32⟩
  | 52 => ⟨S8192x8191, .i32⟩
  | 53 => ⟨S_, .i32⟩
  | 54 => ⟨S8192x8191, .i32⟩
  | 55 => ⟨S8192x8191, .i32⟩
  | 56 => ⟨S_, .i32⟩
  | 57 => ⟨S8192x8191, .i32⟩
  | 58 => ⟨S8192x8191, .i32⟩
  | 59 => ⟨S8192x8191, .i32⟩
  | 60 => ⟨S8192x8191, .i32⟩
  | 61 => ⟨S8192x8191, .i32⟩
  | 62 => ⟨S_, .i32⟩
  | 63 => ⟨S8192x8191, .i32⟩
  | 64 => ⟨S8192x8191, .i32⟩
  | 65 => ⟨S_, .i32⟩
  | 66 => ⟨S8192x8191, .i32⟩
  | 67 => ⟨S8192x8191, .i32⟩
  | 68 => ⟨S8192x8191, .i32⟩
  | 69 => ⟨S8192x8191, .i32⟩
  | 70 => ⟨S_, .i32⟩
  | 71 => ⟨S8192x8191, .i32⟩
  | 72 => ⟨S8192x8191, .i32⟩
  | 73 => ⟨S_, .i32⟩
  | 74 => ⟨S8192x8191, .i32⟩
  | 75 => ⟨S8192x8191, .i32⟩
  | 76 => ⟨S_, .i32⟩
  | 77 => ⟨S8192x8191, .i32⟩
  | 78 => ⟨S8192x8191, .i32⟩
  | 79 => ⟨S8192x8191, .i32⟩
  | 80 => ⟨S_, .i32⟩
  | 81 => ⟨S8192x8191, .i32⟩
  | 82 => ⟨S8192x8191, .i32⟩
  | 83 => ⟨S_, .i32⟩
  | 84 => ⟨S8192x8191, .i32⟩
  | 85 => ⟨S8192x8191, .i32⟩
  | 86 => ⟨S8192x8191, .i32⟩
  | 87 => ⟨S8192x8191, .i32⟩
  | 88 => ⟨S8192x8191, .i32⟩
  | 89 => ⟨S_, .i32⟩
  | 90 => ⟨S8192x8191, .i32⟩
  | 91 => ⟨S8192x8191, .i32⟩
  | 92 => ⟨S_, .i32⟩
  | 93 => ⟨S8192x8191, .i32⟩
  | 94 => ⟨S8192x8191, .i32⟩
  | 95 => ⟨S8192x8191, .i32⟩
  | 96 => ⟨S8192x8191, .i32⟩
  | 97 => ⟨S8192x8191, .i32⟩
  | 98 => ⟨S_, .i32⟩
  | 99 => ⟨S8192x8191, .i32⟩
  | 100 => ⟨S8192x8191, .i32⟩
  | 101 => ⟨S_, .i32⟩
  | 102 => ⟨S8192x8191, .i32⟩
  | 103 => ⟨S8192x8191, .i32⟩
  | 104 => ⟨S8192x8191, .i32⟩
  | 105 => ⟨S8192x8191, .i32⟩
  | 106 => ⟨S8192x8191, .i32⟩
  | 107 => ⟨S_, .i32⟩
  | 108 => ⟨S8192x8191, .i32⟩
  | 109 => ⟨S8192x8191, .i32⟩
  | 110 => ⟨S_, .i32⟩
  | 111 => ⟨S8192x8191, .i32⟩
  | 112 => ⟨S8192x8191, .i32⟩
  | 113 => ⟨S8192x8191, .i32⟩
  | 114 => ⟨S8192x8191, .i32⟩
  | 115 => ⟨S_, .i32⟩
  | 116 => ⟨S8192x8191, .i32⟩
  | 117 => ⟨S8192x8191, .i32⟩
  | 118 => ⟨S_, .i32⟩
  | 119 => ⟨S8192x8191, .i32⟩
  | 120 => ⟨S8192x8191, .i32⟩
  | 121 => ⟨S_, .i32⟩
  | 122 => ⟨S8192x8191, .i32⟩
  | 123 => ⟨S8192x8191, .i32⟩
  | 124 => ⟨S8192x8191, .i32⟩
  | 125 => ⟨S_, .i32⟩
  | 126 => ⟨S8192x8191, .i32⟩
  | 127 => ⟨S8192x8191, .i32⟩
  | _ => ⟨S32, .i32⟩

abbrev hbmTy0_1 (i : Nat) : BufTy := match i % 128 with
  | 0 => ⟨S_, .i32⟩
  | 1 => ⟨S8192x8191, .i32⟩
  | 2 => ⟨S8192x8191, .i32⟩
  | 3 => ⟨S8192x8191, .i32⟩
  | 4 => ⟨S8192x8191, .i32⟩
  | 5 => ⟨S8192x8191, .i32⟩
  | 6 => ⟨S_, .i32⟩
  | 7 => ⟨S8192x8191, .i32⟩
  | 8 => ⟨S8192x8191, .i32⟩
  | 9 => ⟨S_, .i32⟩
  | 10 => ⟨S8192x8191, .i32⟩
  | 11 => ⟨S8192x8191, .i32⟩
  | 12 => ⟨S8192x8191, .i32⟩
  | 13 => ⟨S8192x8191, .i32⟩
  | 14 => ⟨S8192x8191, .i32⟩
  | 15 => ⟨S_, .i32⟩
  | 16 => ⟨S8192x8191, .i32⟩
  | 17 => ⟨S8192x8191, .i32⟩
  | 18 => ⟨S_, .i32⟩
  | 19 => ⟨S8192x8191, .i32⟩
  | 20 => ⟨S8192x8191, .i32⟩
  | 21 => ⟨S8192x8191, .i32⟩
  | 22 => ⟨S8192x8191, .i32⟩
  | 23 => ⟨S8192x8191, .i32⟩
  | 24 => ⟨S_, .i32⟩
  | 25 => ⟨S8192x8191, .i32⟩
  | 26 => ⟨S8192x8191, .i32⟩
  | 27 => ⟨S_, .i32⟩
  | 28 => ⟨S8192x8191, .i32⟩
  | 29 => ⟨S8192x8191, .i32⟩
  | 30 => ⟨S8192x8191, .i32⟩
  | 31 => ⟨S8192x8191, .i32⟩
  | 32 => ⟨S_, .i32⟩
  | 33 => ⟨S8192x8191, .i32⟩
  | 34 => ⟨S8192x8191, .i32⟩
  | 35 => ⟨S_, .i32⟩
  | 36 => ⟨S8192x8191, .i32⟩
  | 37 => ⟨S8192x8191, .i32⟩
  | 38 => ⟨S_, .i32⟩
  | 39 => ⟨S8192x8191, .i32⟩
  | 40 => ⟨S8192x8191, .i32⟩
  | 41 => ⟨S8192x8191, .i32⟩
  | 42 => ⟨S_, .i32⟩
  | 43 => ⟨S8192x8191, .i32⟩
  | 44 => ⟨S8192x8191, .i32⟩
  | 45 => ⟨S_, .i32⟩
  | 46 => ⟨S8192x8191, .i32⟩
  | 47 => ⟨S8192x8191, .i32⟩
  | 48 => ⟨S8192x8191, .i32⟩
  | 49 => ⟨S8192x8191, .i32⟩
  | 50 => ⟨S8192x8191, .i32⟩
  | 51 => ⟨S_, .i32⟩
  | 52 => ⟨S8192x8191, .i32⟩
  | 53 => ⟨S8192x8191, .i32⟩
  | 54 => ⟨S_, .i32⟩
  | 55 => ⟨S8192x8191, .i32⟩
  | 56 => ⟨S8192x8191, .i32⟩
  | 57 => ⟨S8192x8191, .i32⟩
  | 58 => ⟨S8192x8191, .i32⟩
  | 59 => ⟨S8192x8191, .i32⟩
  | 60 => ⟨S_, .i32⟩
  | 61 => ⟨S8192x8191, .i32⟩
  | 62 => ⟨S8192x8191, .i32⟩
  | 63 => ⟨S_, .i32⟩
  | 64 => ⟨S8192x8191, .i32⟩
  | 65 => ⟨S8192x8191, .i32⟩
  | 66 => ⟨S8192x8191, .i32⟩
  | 67 => ⟨S8192x8191, .i32⟩
  | 68 => ⟨S8192x8191, .i32⟩
  | 69 => ⟨S_, .i32⟩
  | 70 => ⟨S8192x8191, .i32⟩
  | 71 => ⟨S8192x8191, .i32⟩
  | 72 => ⟨S_, .i32⟩
  | 73 => ⟨S8192x8191, .i32⟩
  | 74 => ⟨S8192x8191, .i32⟩
  | 75 => ⟨S8192x8191, .i32⟩
  | 76 => ⟨S8192x8191, .i32⟩
  | 77 => ⟨S_, .i32⟩
  | 78 => ⟨S8192x8191, .i32⟩
  | 79 => ⟨S8192x8191, .i32⟩
  | 80 => ⟨S_, .i32⟩
  | 81 => ⟨S8192x8191, .i32⟩
  | 82 => ⟨S8192x8191, .i32⟩
  | 83 => ⟨S_, .i32⟩
  | 84 => ⟨S8192x8191, .i32⟩
  | 85 => ⟨S8192x8191, .i32⟩
  | 86 => ⟨S8192x8191, .i32⟩
  | 87 => ⟨S_, .i32⟩
  | 88 => ⟨S8192x8191, .i32⟩
  | 89 => ⟨S8192x8191, .i32⟩
  | 90 => ⟨S_, .i32⟩
  | 91 => ⟨S8192x8191, .i32⟩
  | 92 => ⟨S8192x8191, .i32⟩
  | 93 => ⟨S8192x8191, .i32⟩
  | 94 => ⟨S8192x8191, .i32⟩
  | 95 => ⟨S8192x8191, .i32⟩
  | 96 => ⟨S_, .i32⟩
  | 97 => ⟨S8192x8191, .i32⟩
  | 98 => ⟨S8192x8191, .i32⟩
  | 99 => ⟨S_, .i32⟩
  | 100 => ⟨S8192x8191, .i32⟩
  | 101 => ⟨S8192x8191, .i32⟩
  | 102 => ⟨S8192x8191, .i32⟩
  | 103 => ⟨S8192x8191, .i32⟩
  | 104 => ⟨S8192x8191, .i32⟩
  | 105 => ⟨S_, .i32⟩
  | 106 => ⟨S8192x8191, .i32⟩
  | 107 => ⟨S8192x8191, .i32⟩
  | 108 => ⟨S_, .i32⟩
  | 109 => ⟨S8192x8191, .i32⟩
  | 110 => ⟨S8192x8191, .i32⟩
  | 111 => ⟨S8192x8191, .i32⟩
  | 112 => ⟨S8192x8191, .i32⟩
  | 113 => ⟨S8192x8191, .i32⟩
  | 114 => ⟨S_, .i32⟩
  | 115 => ⟨S8192x8191, .i32⟩
  | 116 => ⟨S8192x8191, .i32⟩
  | 117 => ⟨S_, .i32⟩
  | 118 => ⟨S8192x8191, .i32⟩
  | 119 => ⟨S8192x8191, .i32⟩
  | 120 => ⟨S8192x8191, .i32⟩
  | 121 => ⟨S8192x8191, .i32⟩
  | 122 => ⟨S_, .i32⟩
  | 123 => ⟨S8192x8191, .i32⟩
  | 124 => ⟨S8192x8191, .i32⟩
  | 125 => ⟨S_, .i32⟩
  | 126 => ⟨S8192x8191, .i32⟩
  | 127 => ⟨S8192x8191, .i32⟩
  | _ => ⟨S32, .i32⟩

abbrev hbmTy0_2 (i : Nat) : BufTy := match i % 128 with
  | 0 => ⟨S_, .i32⟩
  | 1 => ⟨S8192x8191, .i32⟩
  | 2 => ⟨S8192x8191, .i32⟩
  | 3 => ⟨S8192x8191, .i32⟩
  | 4 => ⟨S_, .i32⟩
  | 5 => ⟨S8192x8191, .i32⟩
  | 6 => ⟨S8192x8191, .i32⟩
  | 7 => ⟨S_, .i32⟩
  | 8 => ⟨S8192x8191, .i32⟩
  | 9 => ⟨S8192x8191, .i32⟩
  | 10 => ⟨S8192x8191, .f32⟩
  | 11 => ⟨S_, .f32⟩
  | 12 => ⟨S8192x8191, .f32⟩
  | 13 => ⟨S8192x8191, .f32⟩
  | 14 => ⟨S_, .f32⟩
  | 15 => ⟨S8192x8191, .f32⟩
  | 16 => ⟨S8192x8191, .f32⟩
  | 17 => ⟨S8192x8191, .f32⟩
  | 18 => ⟨S8192x8191, .f32⟩
  | 19 => ⟨S8192x8191, .f32⟩
  | 20 => ⟨S8192x8191, .f32⟩
  | 21 => ⟨S8192x8191, .f32⟩
  | 22 => ⟨S_, .f32⟩
  | 23 => ⟨S8192, .f32⟩
  | 24 => ⟨S8192x1, .f32⟩
  | 25 => ⟨S8192x8191, .i32⟩
  | 26 => ⟨S8192x8191, .f32⟩
  | 27 => ⟨S8192x8191, .i1⟩
  | 28 => ⟨S_, .i32⟩
  | 29 => ⟨S_, .i32⟩
  | 30 => ⟨S8192x8191, .i32⟩
  | 31 => ⟨S8192x8191, .i32⟩
  | 32 => ⟨S_, .i32⟩
  | 33 => ⟨S8192, .i32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S8192, .i1⟩
  | 43 => ⟨S_, .i32⟩
  | 44 => ⟨S_, .i32⟩
  | 45 => ⟨S8192, .i32⟩
  | 46 => ⟨S8192, .i32⟩
  | 47 => ⟨S128x64x1, .i32⟩
  | _ => ⟨S32, .i32⟩

abbrev hbmTy (i : Nat) : BufTy := match i / 128 with
  | 0 => hbmTy0_0 i
  | 1 => hbmTy0_1 i
  | 2 => hbmTy0_2 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_v32 : Ref sig .tc := ⟨.hbm, 45, rfl⟩
abbrev main_v33 : Ref sig .tc := ⟨.hbm, 46, rfl⟩
abbrev main_c_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_v40 : Ref sig .tc := ⟨.hbm, 55, rfl⟩
abbrev main_c_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_11 : Ref sig .tc := ⟨.hbm, 62, rfl⟩
abbrev main_v46 : Ref sig .tc := ⟨.hbm, 63, rfl⟩
abbrev main_v47 : Ref sig .tc := ⟨.hbm, 64, rfl⟩
abbrev main_c_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_13 : Ref sig .tc := ⟨.hbm, 70, rfl⟩
abbrev main_v52 : Ref sig .tc := ⟨.hbm, 71, rfl⟩
abbrev main_v53 : Ref sig .tc := ⟨.hbm, 72, rfl⟩
abbrev main_c_14 : Ref sig .tc := ⟨.hbm, 73, rfl⟩
abbrev main_v54 : Ref sig .tc := ⟨.hbm, 74, rfl⟩
abbrev main_v55 : Ref sig .tc := ⟨.hbm, 75, rfl⟩
abbrev main_c_15 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_16 : Ref sig .tc := ⟨.hbm, 80, rfl⟩
abbrev main_v59 : Ref sig .tc := ⟨.hbm, 81, rfl⟩
abbrev main_v60 : Ref sig .tc := ⟨.hbm, 82, rfl⟩
abbrev main_c_17 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_18 : Ref sig .tc := ⟨.hbm, 89, rfl⟩
abbrev main_v66 : Ref sig .tc := ⟨.hbm, 90, rfl⟩
abbrev main_v67 : Ref sig .tc := ⟨.hbm, 91, rfl⟩
abbrev main_c_19 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_20 : Ref sig .tc := ⟨.hbm, 98, rfl⟩
abbrev main_v73 : Ref sig .tc := ⟨.hbm, 99, rfl⟩
abbrev main_v74 : Ref sig .tc := ⟨.hbm, 100, rfl⟩
abbrev main_c_21 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_22 : Ref sig .tc := ⟨.hbm, 107, rfl⟩
abbrev main_v80 : Ref sig .tc := ⟨.hbm, 108, rfl⟩
abbrev main_v81 : Ref sig .tc := ⟨.hbm, 109, rfl⟩
abbrev main_c_23 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_24 : Ref sig .tc := ⟨.hbm, 115, rfl⟩
abbrev main_v86 : Ref sig .tc := ⟨.hbm, 116, rfl⟩
abbrev main_v87 : Ref sig .tc := ⟨.hbm, 117, rfl⟩
abbrev main_c_25 : Ref sig .tc := ⟨.hbm, 118, rfl⟩
abbrev main_v88 : Ref sig .tc := ⟨.hbm, 119, rfl⟩
abbrev main_v89 : Ref sig .tc := ⟨.hbm, 120, rfl⟩
abbrev main_c_26 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_27 : Ref sig .tc := ⟨.hbm, 125, rfl⟩
abbrev main_v93 : Ref sig .tc := ⟨.hbm, 126, rfl⟩
abbrev main_v94 : Ref sig .tc := ⟨.hbm, 127, rfl⟩
abbrev main_c_28 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_29 : Ref sig .tc := ⟨.hbm, 134, rfl⟩
abbrev main_v100 : Ref sig .tc := ⟨.hbm, 135, rfl⟩
abbrev main_v101 : Ref sig .tc := ⟨.hbm, 136, rfl⟩
abbrev main_c_30 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_31 : Ref sig .tc := ⟨.hbm, 143, rfl⟩
abbrev main_v107 : Ref sig .tc := ⟨.hbm, 144, rfl⟩
abbrev main_v108 : Ref sig .tc := ⟨.hbm, 145, rfl⟩
abbrev main_c_32 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_33 : Ref sig .tc := ⟨.hbm, 152, rfl⟩
abbrev main_v114 : Ref sig .tc := ⟨.hbm, 153, rfl⟩
abbrev main_v115 : Ref sig .tc := ⟨.hbm, 154, rfl⟩
abbrev main_c_34 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_c_35 : Ref sig .tc := ⟨.hbm, 160, rfl⟩
abbrev main_v120 : Ref sig .tc := ⟨.hbm, 161, rfl⟩
abbrev main_v121 : Ref sig .tc := ⟨.hbm, 162, rfl⟩
abbrev main_c_36 : Ref sig .tc := ⟨.hbm, 163, rfl⟩
abbrev main_v122 : Ref sig .tc := ⟨.hbm, 164, rfl⟩
abbrev main_v123 : Ref sig .tc := ⟨.hbm, 165, rfl⟩
abbrev main_c_37 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_38 : Ref sig .tc := ⟨.hbm, 170, rfl⟩
abbrev main_v127 : Ref sig .tc := ⟨.hbm, 171, rfl⟩
abbrev main_v128 : Ref sig .tc := ⟨.hbm, 172, rfl⟩
abbrev main_c_39 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_c_40 : Ref sig .tc := ⟨.hbm, 179, rfl⟩
abbrev main_v134 : Ref sig .tc := ⟨.hbm, 180, rfl⟩
abbrev main_v135 : Ref sig .tc := ⟨.hbm, 181, rfl⟩
abbrev main_c_41 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_c_42 : Ref sig .tc := ⟨.hbm, 188, rfl⟩
abbrev main_v141 : Ref sig .tc := ⟨.hbm, 189, rfl⟩
abbrev main_v142 : Ref sig .tc := ⟨.hbm, 190, rfl⟩
abbrev main_c_43 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_c_44 : Ref sig .tc := ⟨.hbm, 197, rfl⟩
abbrev main_v148 : Ref sig .tc := ⟨.hbm, 198, rfl⟩
abbrev main_v149 : Ref sig .tc := ⟨.hbm, 199, rfl⟩
abbrev main_c_45 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_c_46 : Ref sig .tc := ⟨.hbm, 205, rfl⟩
abbrev main_v154 : Ref sig .tc := ⟨.hbm, 206, rfl⟩
abbrev main_v155 : Ref sig .tc := ⟨.hbm, 207, rfl⟩
abbrev main_c_47 : Ref sig .tc := ⟨.hbm, 208, rfl⟩
abbrev main_v156 : Ref sig .tc := ⟨.hbm, 209, rfl⟩
abbrev main_v157 : Ref sig .tc := ⟨.hbm, 210, rfl⟩
abbrev main_c_48 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_c_49 : Ref sig .tc := ⟨.hbm, 215, rfl⟩
abbrev main_v161 : Ref sig .tc := ⟨.hbm, 216, rfl⟩
abbrev main_v162 : Ref sig .tc := ⟨.hbm, 217, rfl⟩
abbrev main_c_50 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_c_51 : Ref sig .tc := ⟨.hbm, 224, rfl⟩
abbrev main_v168 : Ref sig .tc := ⟨.hbm, 225, rfl⟩
abbrev main_v169 : Ref sig .tc := ⟨.hbm, 226, rfl⟩
abbrev main_c_52 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_c_53 : Ref sig .tc := ⟨.hbm, 233, rfl⟩
abbrev main_v175 : Ref sig .tc := ⟨.hbm, 234, rfl⟩
abbrev main_v176 : Ref sig .tc := ⟨.hbm, 235, rfl⟩
abbrev main_c_54 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_c_55 : Ref sig .tc := ⟨.hbm, 242, rfl⟩
abbrev main_v182 : Ref sig .tc := ⟨.hbm, 243, rfl⟩
abbrev main_v183 : Ref sig .tc := ⟨.hbm, 244, rfl⟩
abbrev main_c_56 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_c_57 : Ref sig .tc := ⟨.hbm, 250, rfl⟩
abbrev main_v188 : Ref sig .tc := ⟨.hbm, 251, rfl⟩
abbrev main_v189 : Ref sig .tc := ⟨.hbm, 252, rfl⟩
abbrev main_c_58 : Ref sig .tc := ⟨.hbm, 253, rfl⟩
abbrev main_v190 : Ref sig .tc := ⟨.hbm, 254, rfl⟩
abbrev main_v191 : Ref sig .tc := ⟨.hbm, 255, rfl⟩
abbrev main_c_59 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_c_60 : Ref sig .tc := ⟨.hbm, 260, rfl⟩
abbrev main_v195 : Ref sig .tc := ⟨.hbm, 261, rfl⟩
abbrev main_v196 : Ref sig .tc := ⟨.hbm, 262, rfl⟩
abbrev main_c_61 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_cst_62 : Ref sig .tc := ⟨.hbm, 267, rfl⟩
abbrev main_v200 : Ref sig .tc := ⟨.hbm, 268, rfl⟩
abbrev main_v201 : Ref sig .tc := ⟨.hbm, 269, rfl⟩
abbrev main_cst_63 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_cst_64 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_c_65 : Ref sig .tc := ⟨.hbm, 284, rfl⟩
abbrev main_call0_v0 : Ref sig .tc := ⟨.hbm, 285, rfl⟩
abbrev main_call0_v1 : Ref sig .tc := ⟨.hbm, 286, rfl⟩
abbrev main_v214 : Ref sig .tc := ⟨.hbm, 287, rfl⟩
abbrev main_c_66 : Ref sig .tc := ⟨.hbm, 288, rfl⟩
abbrev main_v215 : Ref sig .tc := ⟨.hbm, 289, rfl⟩
abbrev main_c_67 : Ref sig .tc := ⟨.hbm, 290, rfl⟩
abbrev main_v216 : Ref sig .tc := ⟨.hbm, 291, rfl⟩
abbrev main_v217 : Ref sig .tc := ⟨.hbm, 292, rfl⟩
abbrev main_c_68 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_c_69 : Ref sig .tc := ⟨.hbm, 299, rfl⟩
abbrev main_call1_v0 : Ref sig .tc := ⟨.hbm, 300, rfl⟩
abbrev main_call1_v1 : Ref sig .tc := ⟨.hbm, 301, rfl⟩
abbrev main_v223 : Ref sig .tc := ⟨.hbm, 302, rfl⟩
abbrev main_v224 : Ref sig .tc := ⟨.hbm, 303, rfl⟩

abbrev nD : Nat := 1
abbrev τ : Topo := Topo.v7x

variable {F : FTy → Type} [FloatOps F]
-- ==== Kernel2.lean ====
abbrev S128x64x1 : Shape := ⟨3, ![128, 64, 1]⟩
abbrev S32x256x3 : Shape := ⟨3, ![32, 256, 3]⟩
abbrev S32 : Shape := ⟨1, ![32]⟩
abbrev S101x8192 : Shape := ⟨2, ![101, 8192]⟩
abbrev S101 : Shape := ⟨1, ![101]⟩
abbrev S64x128 : Shape := ⟨2, ![64, 128]⟩
abbrev S_ : Shape := ⟨0, ![]⟩
abbrev S32x1 : Shape := ⟨2, ![32, 1]⟩
abbrev S32x256 : Shape := ⟨2, ![32, 256]⟩
abbrev S32x256x1 : Shape := ⟨3, ![32, 256, 1]⟩

abbrev nBuf : Space → Nat
  | .hbm => 60
  | .vmem => 13
  | .smem => 0
  | _ => 0

abbrev bufTy : (tb : Table) → Fin (tcTables nBuf tb) → BufTy
  | .hbm, ⟨0, _⟩ => ⟨S128x64x1, .i32⟩
  | .hbm, ⟨1, _⟩ => ⟨S32x256x3, .f32⟩
  | .hbm, ⟨2, _⟩ => ⟨S32, .i32⟩
  | .hbm, ⟨3, _⟩ => ⟨S101x8192, .f32⟩
  | .hbm, ⟨4, _⟩ => ⟨S101, .f32⟩
  | .hbm, ⟨5, _⟩ => ⟨S101, .i1⟩
  | .hbm, ⟨6, _⟩ => ⟨S101, .f32⟩
  | .hbm, ⟨7, _⟩ => ⟨S64x128, .i32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S32, .i1⟩
  | .hbm, ⟨17, _⟩ => ⟨S32, .f32⟩
  | .hbm, ⟨18, _⟩ => ⟨S32x1, .f32⟩
  | .hbm, ⟨19, _⟩ => ⟨S32x256, .f32⟩
  | .hbm, ⟨20, _⟩ => ⟨S64x128, .f32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S32x1, .i32⟩
  | .hbm, ⟨29, _⟩ => ⟨S32, .f32⟩
  | .hbm, ⟨30, _⟩ => ⟨S32x1, .f32⟩
  | .hbm, ⟨31, _⟩ => ⟨S32x256, .f32⟩
  | .hbm, ⟨32, _⟩ => ⟨S64x128, .f32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S32x1, .i32⟩
  | .hbm, ⟨41, _⟩ => ⟨S32, .f32⟩
  | .hbm, ⟨42, _⟩ => ⟨S32x1, .f32⟩
  | .hbm, ⟨43, _⟩ => ⟨S32x256, .f32⟩
  | .hbm, ⟨44, _⟩ => ⟨S64x128, .f32⟩
  | .hbm, ⟨45, _⟩ => ⟨S32x256x1, .f32⟩
  | .hbm, ⟨46, _⟩ => ⟨S32x256, .f32⟩
  | .hbm, ⟨47, _⟩ => ⟨S64x128, .f32⟩
  | .hbm, ⟨48, _⟩ => ⟨S32x256x1, .f32⟩
  | .hbm, ⟨49, _⟩ => ⟨S32x256, .f32⟩
  | .hbm, ⟨50, _⟩ => ⟨S64x128, .f32⟩
  | .hbm, ⟨51, _⟩ => ⟨S32x256x1, .f32⟩
  | .hbm, ⟨52, _⟩ => ⟨S32x256, .f32⟩
  | .hbm, ⟨53, _⟩ => ⟨S64x128, .f32⟩
  | .hbm, ⟨54, _⟩ => ⟨S64x128, .f32⟩
  | .hbm, ⟨55, _⟩ => ⟨S64x128, .f32⟩
  | .hbm, ⟨56, _⟩ => ⟨S64x128, .f32⟩
  | .hbm, ⟨57, _⟩ => ⟨S64x128, .f32⟩
  | .hbm, ⟨58, _⟩ => ⟨S64x128, .f32⟩
  | .hbm, ⟨59, _⟩ => ⟨S64x128, .f32⟩
  | .local _ .vmem, ⟨0, _⟩ => ⟨S64x128, .i32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | _, _ => ⟨S128x64x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev main_v41_3 : Ref sig .tc := ⟨.hbm, 57, rfl⟩
abbrev main_v41_4 : Ref sig .tc := ⟨.hbm, 58, rfl⟩
abbrev main_v41_5 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S64x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Reference2Ideal.lean ====
abbrev S128x64x1 : Shape := ⟨3, ![128, 64, 1]⟩
abbrev S32x256x3 : Shape := ⟨3, ![32, 256, 3]⟩
abbrev S32 : Shape := ⟨1, ![32]⟩
abbrev S101x8192 : Shape := ⟨2, ![101, 8192]⟩
abbrev S101 : Shape := ⟨1, ![101]⟩
abbrev S_ : Shape := ⟨0, ![]⟩
abbrev S32x1 : Shape := ⟨2, ![32, 1]⟩
abbrev S32x1x1 : Shape := ⟨3, ![32, 1, 1]⟩
abbrev S32x256 : Shape := ⟨2, ![32, 256]⟩
abbrev S32x256x1 : Shape := ⟨3, ![32, 256, 1]⟩
abbrev S8192 : Shape := ⟨1, ![8192]⟩
abbrev S8192x1 : Shape := ⟨2, ![8192, 1]⟩
abbrev S8192x2 : Shape := ⟨2, ![8192, 2]⟩
abbrev S32x256x9 : Shape := ⟨3, ![32, 256, 9]⟩
abbrev S32x256x3x3 : Shape := ⟨4, ![32, 256, 3, 3]⟩
abbrev S32x256x1x1 : Shape := ⟨4, ![32, 256, 1, 1]⟩
abbrev S3x3 : Shape := ⟨2, ![3, 3]⟩
abbrev S1x1x3x3 : Shape := ⟨4, ![1, 1, 3, 3]⟩
abbrev S64x128 : Shape := ⟨2, ![64, 128]⟩

abbrev nBuf : Space → Nat
  | .hbm => 1335
  | .vmem => 0
  | .smem => 0
  | _ => 0

abbrev hbmTy0_0 (i : Nat) : BufTy := match i % 128 with
  | 0 => ⟨S128x64x1, .i32⟩
  | 1 => ⟨S32x256x3, .f32⟩
  | 2 => ⟨S32, .i32⟩
  | 3 => ⟨S101x8192, .f32⟩
  | 4 => ⟨S101, .f32⟩
  | 5 => ⟨S101, .i1⟩
  | 6 => ⟨S101, .f32⟩
  | 7 => ⟨S_, .i32⟩
  | 8 => ⟨S32, .i32⟩
  | 9 => ⟨S32, .i1⟩
  | 10 => ⟨S_, .i32⟩
  | 11 => ⟨S32, .i32⟩
  | 12 => ⟨S32, .i32⟩
  | 13 => ⟨S32, .i32⟩
  | 14 => ⟨S32x1, .i32⟩
  | 15 => ⟨S32, .f32⟩
  | 16 => ⟨S32, .f32⟩
  | 17 => ⟨S32x1x1, .f32⟩
  | 18 => ⟨S32x1, .i32⟩
  | 19 => ⟨S32x256, .i32⟩
  | 20 => ⟨S32x256x3, .i32⟩
  | 21 => ⟨S_, .i32⟩
  | 22 => ⟨S32x256x3, .i32⟩
  | 23 => ⟨S32x256x3, .i32⟩
  | 24 => ⟨S32x256x3, .i32⟩
  | 25 => ⟨S32x256x3, .i32⟩
  | 26 => ⟨S_, .i32⟩
  | 27 => ⟨S32x256x3, .i32⟩
  | 28 => ⟨S32x256x3, .i32⟩
  | 29 => ⟨S32x256x3, .i32⟩
  | 30 => ⟨S32x256x3, .i32⟩
  | 31 => ⟨S_, .i32⟩
  | 32 => ⟨S32x256x3, .i32⟩
  | 33 => ⟨S_, .i32⟩
  | 34 => ⟨S32x256x3, .i32⟩
  | 35 => ⟨S32x256x3, .i32⟩
  | 36 => ⟨S_, .i32⟩
  | 37 => ⟨S32x256x3, .i32⟩
  | 38 => ⟨S32x256x3, .i32⟩
  | 39 => ⟨S32x256x3, .i32⟩
  | 40 => ⟨S_, .i32⟩
  | 41 => ⟨S32x256x3, .i32⟩
  | 42 => ⟨S32x256x3, .i32⟩
  | 43 => ⟨S_, .i32⟩
  | 44 => ⟨S32x256x3, .i32⟩
  | 45 => ⟨S32x256x3, .i32⟩
  | 46 => ⟨S32x256x3, .i32⟩
  | 47 => ⟨S32x256x3, .i32⟩
  | 48 => ⟨S32x256x3, .i32⟩
  | 49 => ⟨S_, .i32⟩
  | 50 => ⟨S32x256x3, .i32⟩
  | 51 => ⟨S32x256x3, .i32⟩
  | 52 => ⟨S_, .i32⟩
  | 53 => ⟨S32x256x3, .i32⟩
  | 54 => ⟨S32x256x3, .i32⟩
  | 55 => ⟨S32x256x3, .i32⟩
  | 56 => ⟨S32x256x3, .i32⟩
  | 57 => ⟨S32x256x3, .i32⟩
  | 58 => ⟨S_, .i32⟩
  | 59 => ⟨S32x256x3, .i32⟩
  | 60 => ⟨S32x256x3, .i32⟩
  | 61 => ⟨S_, .i32⟩
  | 62 => ⟨S32x256x3, .i32⟩
  | 63 => ⟨S32x256x3, .i32⟩
  | 64 => ⟨S32x256x3, .i32⟩
  | 65 => ⟨S32x256x3, .i32⟩
  | 66 => ⟨S32x256x3, .i32⟩
  | 67 => ⟨S_, .i32⟩
  | 68 => ⟨S32x256x3, .i32⟩
  | 69 => ⟨S32x256x3, .i32⟩
  | 70 => ⟨S_, .i32⟩
  | 71 => ⟨S32x256x3, .i32⟩
  | 72 => ⟨S32x256x3, .i32⟩
  | 73 => ⟨S32x256x3, .i32⟩
  | 74 => ⟨S32x256x3, .i32⟩
  | 75 => ⟨S_, .i32⟩
  | 76 => ⟨S32x256x3, .i32⟩
  | 77 => ⟨S32x256x3, .i32⟩
  | 78 => ⟨S_, .i32⟩
  | 79 => ⟨S32x256x3, .i32⟩
  | 80 => ⟨S32x256x3, .i32⟩
  | 81 => ⟨S_, .i32⟩
  | 82 => ⟨S32x256x3, .i32⟩
  | 83 => ⟨S32x256x3, .i32⟩
  | 84 => ⟨S32x256x3, .i32⟩
  | 85 => ⟨S_, .i32⟩
  | 86 => ⟨S32x256x3, .i32⟩
  | 87 => ⟨S32x256x3, .i32⟩
  | 88 => ⟨S_, .i32⟩
  | 89 => ⟨S32x256x3, .i32⟩
  | 90 => ⟨S32x256x3, .i32⟩
  | 91 => ⟨S32x256x3, .i32⟩
  | 92 => ⟨S32x256x3, .i32⟩
  | 93 => ⟨S32x256x3, .i32⟩
  | 94 => ⟨S_, .i32⟩
  | 95 => ⟨S32x256x3, .i32⟩
  | 96 => ⟨S32x256x3, .i32⟩
  | 97 => ⟨S_, .i32⟩
  | 98 => ⟨S32x256x3, .i32⟩
  | 99 => ⟨S32x256x3, .i32⟩
  | 100 => ⟨S32x256x3, .i32⟩
  | 101 => ⟨S32x256x3, .i32⟩
  | 102 => ⟨S32x256x3, .i32⟩
  | 103 => ⟨S_, .i32⟩
  | 104 => ⟨S32x256x3, .i32⟩
  | 105 => ⟨S32x256x3, .i32⟩
  | 106 => ⟨S_, .i32⟩
  | 107 => ⟨S32x256x3, .i32⟩
  | 108 => ⟨S32x256x3, .i32⟩
  | 109 => ⟨S32x256x3, .i32⟩
  | 110 => ⟨S32x256x3, .i32⟩
  | 111 => ⟨S32x256x3, .i32⟩
  | 112 => ⟨S_, .i32⟩
  | 113 => ⟨S32x256x3, .i32⟩
  | 114 => ⟨S32x256x3, .i32⟩
  | 115 => ⟨S_, .i32⟩
  | 116 => ⟨S32x256x3, .i32⟩
  | 117 => ⟨S32x256x3, .i32⟩
  | 118 => ⟨S32x256x3, .i32⟩
  | 119 => ⟨S32x256x3, .i32⟩
  | 120 => ⟨S_, .i32⟩
  | 121 => ⟨S32x256x3, .i32⟩
  | 122 => ⟨S32x256x3, .i32⟩
  | 123 => ⟨S_, .i32⟩
  | 124 => ⟨S32x256x3, .i32⟩
  | 125 => ⟨S32x256x3, .i32⟩
  | 126 => ⟨S_, .i32⟩
  | 127 => ⟨S32x256x3, .i32⟩
  | _ => ⟨S128x64x1, .i32⟩

abbrev hbmTy0_1 (i : Nat) : BufTy := match i % 128 with
  | 0 => ⟨S32x256x3, .i32⟩
  | 1 => ⟨S32x256x3, .i32⟩
  | 2 => ⟨S_, .i32⟩
  | 3 => ⟨S32x256x3, .i32⟩
  | 4 => ⟨S32x256x3, .i32⟩
  | 5 => ⟨S_, .i32⟩
  | 6 => ⟨S32x256x3, .i32⟩
  | 7 => ⟨S32x256x3, .i32⟩
  | 8 => ⟨S32x256x3, .i32⟩
  | 9 => ⟨S32x256x3, .i32⟩
  | 10 => ⟨S32x256x3, .i32⟩
  | 11 => ⟨S_, .i32⟩
  | 12 => ⟨S32x256x3, .i32⟩
  | 13 => ⟨S32x256x3, .i32⟩
  | 14 => ⟨S_, .i32⟩
  | 15 => ⟨S32x256x3, .i32⟩
  | 16 => ⟨S32x256x3, .i32⟩
  | 17 => ⟨S32x256x3, .i32⟩
  | 18 => ⟨S32x256x3, .i32⟩
  | 19 => ⟨S32x256x3, .i32⟩
  | 20 => ⟨S_, .i32⟩
  | 21 => ⟨S32x256x3, .i32⟩
  | 22 => ⟨S32x256x3, .i32⟩
  | 23 => ⟨S_, .i32⟩
  | 24 => ⟨S32x256x3, .i32⟩
  | 25 => ⟨S32x256x3, .i32⟩
  | 26 => ⟨S32x256x3, .i32⟩
  | 27 => ⟨S32x256x3, .i32⟩
  | 28 => ⟨S32x256x3, .i32⟩
  | 29 => ⟨S_, .i32⟩
  | 30 => ⟨S32x256x3, .i32⟩
  | 31 => ⟨S32x256x3, .i32⟩
  | 32 => ⟨S_, .i32⟩
  | 33 => ⟨S32x256x3, .i32⟩
  | 34 => ⟨S32x256x3, .i32⟩
  | 35 => ⟨S32x256x3, .i32⟩
  | 36 => ⟨S32x256x3, .i32⟩
  | 37 => ⟨S_, .i32⟩
  | 38 => ⟨S32x256x3, .i32⟩
  | 39 => ⟨S32x256x3, .i32⟩
  | 40 => ⟨S_, .i32⟩
  | 41 => ⟨S32x256x3, .i32⟩
  | 42 => ⟨S32x256x3, .i32⟩
  | 43 => ⟨S_, .i32⟩
  | 44 => ⟨S32x256x3, .i32⟩
  | 45 => ⟨S32x256x3, .i32⟩
  | 46 => ⟨S32x256x3, .i32⟩
  | 47 => ⟨S_, .i32⟩
  | 48 => ⟨S32x256x3, .i32⟩
  | 49 => ⟨S32x256x3, .i32⟩
  | 50 => ⟨S_, .i32⟩
  | 51 => ⟨S32x256x3, .i32⟩
  | 52 => ⟨S32x256x3, .i32⟩
  | 53 => ⟨S32x256x3, .i32⟩
  | 54 => ⟨S32x256x3, .i32⟩
  | 55 => ⟨S32x256x3, .i32⟩
  | 56 => ⟨S_, .i32⟩
  | 57 => ⟨S32x256x3, .i32⟩
  | 58 => ⟨S32x256x3, .i32⟩
  | 59 => ⟨S_, .i32⟩
  | 60 => ⟨S32x256x3, .i32⟩
  | 61 => ⟨S32x256x3, .i32⟩
  | 62 => ⟨S32x256x3, .i32⟩
  | 63 => ⟨S32x256x3, .i32⟩
  | 64 => ⟨S32x256x3, .i32⟩
  | 65 => ⟨S_, .i32⟩
  | 66 => ⟨S32x256x3, .i32⟩
  | 67 => ⟨S32x256x3, .i32⟩
  | 68 => ⟨S_, .i32⟩
  | 69 => ⟨S32x256x3, .i32⟩
  | 70 => ⟨S32x256x3, .i32⟩
  | 71 => ⟨S32x256x3, .i32⟩
  | 72 => ⟨S32x256x3, .i32⟩
  | 73 => ⟨S32x256x3, .i32⟩
  | 74 => ⟨S_, .i32⟩
  | 75 => ⟨S32x256x3, .i32⟩
  | 76 => ⟨S32x256x3, .i32⟩
  | 77 => ⟨S_, .i32⟩
  | 78 => ⟨S32x256x3, .i32⟩
  | 79 => ⟨S32x256x3, .i32⟩
  | 80 => ⟨S32x256x3, .i32⟩
  | 81 => ⟨S32x256x3, .i32⟩
  | 82 => ⟨S_, .i32⟩
  | 83 => ⟨S32x256x3, .i32⟩
  | 84 => ⟨S32x256x3, .i32⟩
  | 85 => ⟨S_, .i32⟩
  | 86 => ⟨S32x256x3, .i32⟩
  | 87 => ⟨S32x256x3, .i32⟩
  | 88 => ⟨S_, .i32⟩
  | 89 => ⟨S32x256x3, .i32⟩
  | 90 => ⟨S32x256x3, .i32⟩
  | 91 => ⟨S32x256x3, .i32⟩
  | 92 => ⟨S_, .i32⟩
  | 93 => ⟨S32x256x3, .i32⟩
  | 94 => ⟨S32x256x3, .i32⟩
  | 95 => ⟨S_, .i32⟩
  | 96 => ⟨S32x256x3, .i32⟩
  | 97 => ⟨S32x256x3, .i32⟩
  | 98 => ⟨S32x256x3, .i32⟩
  | 99 => ⟨S32x256x3, .i32⟩
  | 100 => ⟨S32x256x3, .i32⟩
  | 101 => ⟨S_, .i32⟩
  | 102 => ⟨S32x256x3, .i32⟩
  | 103 => ⟨S32x256x3, .i32⟩
  | 104 => ⟨S_, .i32⟩
  | 105 => ⟨S32x256x3, .i32⟩
  | 106 => ⟨S32x256x3, .i32⟩
  | 107 => ⟨S32x256x3, .i32⟩
  | 108 => ⟨S32x256x3, .i32⟩
  | 109 => ⟨S32x256x3, .i32⟩
  | 110 => ⟨S_, .i32⟩
  | 111 => ⟨S32x256x3, .i32⟩
  | 112 => ⟨S32x256x3, .i32⟩
  | 113 => ⟨S_, .i32⟩
  | 114 => ⟨S32x256x3, .i32⟩
  | 115 => ⟨S32x256x3, .i32⟩
  | 116 => ⟨S32x256x3, .i32⟩
  | 117 => ⟨S32x256x3, .i32⟩
  | 118 => ⟨S32x256x3, .i32⟩
  | 119 => ⟨S_, .i32⟩
  | 120 => ⟨S32x256x3, .i32⟩
  | 121 => ⟨S32x256x3, .i32⟩
  | 122 => ⟨S_, .i32⟩
  | 123 => ⟨S32x256x3, .i32⟩
  | 124 => ⟨S32x256x3, .i32⟩
  | 125 => ⟨S32x256x3, .i32⟩
  | 126 => ⟨S32x256x3, .i32⟩
  | 127 => ⟨S_, .i32⟩
  | _ => ⟨S128x64x1, .i32⟩

abbrev hbmTy0_2 (i : Nat) : BufTy := match i % 128 with
  | 0 => ⟨S32x256x3, .i32⟩
  | 1 => ⟨S32x256x3, .i32⟩
  | 2 => ⟨S_, .i32⟩
  | 3 => ⟨S32x256x3, .i32⟩
  | 4 => ⟨S32x256x3, .i32⟩
  | 5 => ⟨S_, .i32⟩
  | 6 => ⟨S32x256x3, .i32⟩
  | 7 => ⟨S32x256x3, .i32⟩
  | 8 => ⟨S32x256x3, .i32⟩
  | 9 => ⟨S_, .i32⟩
  | 10 => ⟨S32x256x3, .i32⟩
  | 11 => ⟨S32x256x3, .i32⟩
  | 12 => ⟨S_, .i32⟩
  | 13 => ⟨S32x256x3, .i32⟩
  | 14 => ⟨S32x256x3, .i32⟩
  | 15 => ⟨S32x256x3, .f32⟩
  | 16 => ⟨S_, .f32⟩
  | 17 => ⟨S32x256x3, .f32⟩
  | 18 => ⟨S32x256x3, .f32⟩
  | 19 => ⟨S_, .f32⟩
  | 20 => ⟨S32x256x3, .f32⟩
  | 21 => ⟨S32x256x3, .f32⟩
  | 22 => ⟨S_, .f32⟩
  | 23 => ⟨S32x256x3, .f32⟩
  | 24 => ⟨S32x256x3, .f32⟩
  | 25 => ⟨S_, .f32⟩
  | 26 => ⟨S32x256x3, .f32⟩
  | 27 => ⟨S32x256x3, .f32⟩
  | 28 => ⟨S32x256x3, .f32⟩
  | 29 => ⟨S32x256x3, .f32⟩
  | 30 => ⟨S32x256x3, .f32⟩
  | 31 => ⟨S32x256x3, .f32⟩
  | 32 => ⟨S_, .f32⟩
  | 33 => ⟨S32x256x3, .f32⟩
  | 34 => ⟨S32x256x3, .i1⟩
  | 35 => ⟨S_, .f32⟩
  | 36 => ⟨S32x256x3, .f32⟩
  | 37 => ⟨S32x256x3, .f32⟩
  | 38 => ⟨S32x256x3, .f32⟩
  | 39 => ⟨S_, .f32⟩
  | 40 => ⟨S32x256x3, .f32⟩
  | 41 => ⟨S32x256x3, .f32⟩
  | 42 => ⟨S32x256x3, .f32⟩
  | 43 => ⟨S_, .f32⟩
  | 44 => ⟨S_, .f32⟩
  | 45 => ⟨S32x256x3, .f32⟩
  | 46 => ⟨S32x256x3, .f32⟩
  | 47 => ⟨S32x256x3, .f32⟩
  | 48 => ⟨S_, .f32⟩
  | 49 => ⟨S_, .f32⟩
  | 50 => ⟨S32x256x3, .f32⟩
  | 51 => ⟨S32x256x3, .f32⟩
  | 52 => ⟨S32x256x3, .f32⟩
  | 53 => ⟨S32x256x3, .f32⟩
  | 54 => ⟨S32x256x3, .f32⟩
  | 55 => ⟨S32x256x3, .f32⟩
  | 56 => ⟨S32x256x3, .f32⟩
  | 57 => ⟨S_, .f32⟩
  | 58 => ⟨S_, .f32⟩
  | 59 => ⟨S32x256x3, .f32⟩
  | 60 => ⟨S32x256x3, .f32⟩
  | 61 => ⟨S32x256x3, .f32⟩
  | 62 => ⟨S32x256x3, .f32⟩
  | 63 => ⟨S32x256x3, .f32⟩
  | 64 => ⟨S32x256x3, .f32⟩
  | 65 => ⟨S_, .f32⟩
  | 66 => ⟨S_, .f32⟩
  | 67 => ⟨S32x256x3, .f32⟩
  | 68 => ⟨S32x256x3, .f32⟩
  | 69 => ⟨S32x256x3, .f32⟩
  | 70 => ⟨S32x256x3, .f32⟩
  | 71 => ⟨S32x256x3, .f32⟩
  | 72 => ⟨S32x256x3, .f32⟩
  | 73 => ⟨S_, .f32⟩
  | 74 => ⟨S_, .f32⟩
  | 75 => ⟨S32x256x3, .f32⟩
  | 76 => ⟨S32x256x3, .f32⟩
  | 77 => ⟨S32x256x3, .f32⟩
  | 78 => ⟨S32x256x3, .f32⟩
  | 79 => ⟨S32x256x3, .f32⟩
  | 80 => ⟨S32x256x3, .f32⟩
  | 81 => ⟨S_, .f32⟩
  | 82 => ⟨S_, .f32⟩
  | 83 => ⟨S32x256x3, .f32⟩
  | 84 => ⟨S32x256x3, .f32⟩
  | 85 => ⟨S32x256x3, .f32⟩
  | 86 => ⟨S32x256x3, .f32⟩
  | 87 => ⟨S32x256x3, .f32⟩
  | 88 => ⟨S32x256x3, .f32⟩
  | 89 => ⟨S_, .f32⟩
  | 90 => ⟨S_, .f32⟩
  | 91 => ⟨S32x256x3, .f32⟩
  | 92 => ⟨S32x256x3, .f32⟩
  | 93 => ⟨S32x256x3, .f32⟩
  | 94 => ⟨S32x256x3, .f32⟩
  | 95 => ⟨S32x256x3, .f32⟩
  | 96 => ⟨S32x256x3, .f32⟩
  | 97 => ⟨S_, .f32⟩
  | 98 => ⟨S_, .f32⟩
  | 99 => ⟨S32x256x3, .f32⟩
  | 100 => ⟨S32x256x3, .f32⟩
  | 101 => ⟨S32x256x3, .f32⟩
  | 102 => ⟨S32x256x3, .f32⟩
  | 103 => ⟨S32x256x3, .f32⟩
  | 104 => ⟨S32x256x3, .f32⟩
  | 105 => ⟨S_, .f32⟩
  | 106 => ⟨S_, .f32⟩
  | 107 => ⟨S32x256x3, .f32⟩
  | 108 => ⟨S32x256x3, .f32⟩
  | 109 => ⟨S32x256x3, .f32⟩
  | 110 => ⟨S32x256x3, .f32⟩
  | 111 => ⟨S32x256x3, .f32⟩
  | 112 => ⟨S32x256x3, .f32⟩
  | 113 => ⟨S32x256x3, .f32⟩
  | 114 => ⟨S_, .f32⟩
  | 115 => ⟨S32x256x3, .f32⟩
  | 116 => ⟨S32x256x3, .f32⟩
  | 117 => ⟨S32x256x3, .f32⟩
  | 118 => ⟨S_, .f32⟩
  | 119 => ⟨S32x256, .f32⟩
  | 120 => ⟨S32x256x1, .f32⟩
  | 121 => ⟨S32x256x1, .f32⟩
  | 122 => ⟨S_, .f32⟩
  | 123 => ⟨S32x256x1, .f32⟩
  | 124 => ⟨S32x256x1, .f32⟩
  | 125 => ⟨S32x256x3, .f32⟩
  | 126 => ⟨S32x256x3, .f32⟩
  | 127 => ⟨S8192, .i32⟩
  | _ => ⟨S128x64x1, .i32⟩

abbrev hbmTy0_3 (i : Nat) : BufTy := match i % 128 with
  | 0 => ⟨S8192, .i32⟩
  | 1 => ⟨S_, .i32⟩
  | 2 => ⟨S8192, .i32⟩
  | 3 => ⟨S8192, .i1⟩
  | 4 => ⟨S_, .i32⟩
  | 5 => ⟨S8192, .i32⟩
  | 6 => ⟨S8192, .i32⟩
  | 7 => ⟨S8192, .i32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S8192x1, .i32⟩
  | 17 => ⟨S8192x2, .i32⟩
  | 18 => ⟨S8192, .f32⟩
  | 19 => ⟨S_, .i32⟩
  | 20 => ⟨S8192, .i32⟩
  | 21 => ⟨S8192, .i32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S8192x1, .i32⟩
  | 38 => ⟨S8192x2, .i32⟩
  | 39 => ⟨S8192, .f32⟩
  | 40 => ⟨S8192, .f32⟩
  | 41 => ⟨S8192, .i32⟩
  | 42 => ⟨S_, .i32⟩
  | 43 => ⟨S8192, .i32⟩
  | 44 => ⟨S_, .i32⟩
  | 45 => ⟨S8192, .i32⟩
  | 46 => ⟨S8192, .i32⟩
  | 47 => ⟨S_, .i32⟩
  | 48 => ⟨S8192, .i32⟩
  | 49 => ⟨S8192, .i32⟩
  | 50 => ⟨S8192, .i32⟩
  | 51 => ⟨S_, .i32⟩
  | 52 => ⟨S8192, .i32⟩
  | 53 => ⟨S8192, .i32⟩
  | 54 => ⟨S_, .i32⟩
  | 55 => ⟨S8192, .i32⟩
  | 56 => ⟨S8192, .i32⟩
  | 57 => ⟨S8192, .i32⟩
  | 58 => ⟨S8192, .i32⟩
  | 59 => ⟨S8192, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S8192, .i32⟩
  | 67 => ⟨S8192, .i32⟩
  | 68 => ⟨S8192, .i32⟩
  | 69 => ⟨S_, .i32⟩
  | 70 => ⟨S8192, .i32⟩
  | 71 => ⟨S8192, .i32⟩
  | 72 => ⟨S_, .i32⟩
  | 73 => ⟨S8192, .i32⟩
  | 74 => ⟨S8192, .i32⟩
  | 75 => ⟨S8192, .i32⟩
  | 76 => ⟨S8192, .i32⟩
  | 77 => ⟨S8192, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S8192, .i32⟩
  | 85 => ⟨S8192, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192, .i32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192, .i32⟩
  | 103 => ⟨S8192, .i32⟩
  | 104 => ⟨S8192, .i32⟩
  | 105 => ⟨S_, .i32⟩
  | 106 => ⟨S8192, .i32⟩
  | 107 => ⟨S8192, .i32⟩
  | 108 => ⟨S_, .i32⟩
  | 109 => ⟨S8192, .i32⟩
  | 110 => ⟨S8192, .i32⟩
  | 111 => ⟨S8192, .i32⟩
  | 112 => ⟨S8192, .i32⟩
  | 113 => ⟨S8192, .i32⟩
  | 114 => ⟨S_, .i32⟩
  | 115 => ⟨S8192, .i32⟩
  | 116 => ⟨S8192, .i32⟩
  | 117 => ⟨S_, .i32⟩
  | 118 => ⟨S8192, .i32⟩
  | 119 => ⟨S8192, .i32⟩
  | 120 => ⟨S8192, .i32⟩
  | 121 => ⟨S8192, .i32⟩
  | 122 => ⟨S8192, .i32⟩
  | 123 => ⟨S_, .i32⟩
  | 124 => ⟨S8192, .i32⟩
  | 125 => ⟨S8192, .i32⟩
  | 126 => ⟨S_, .i32⟩
  | 127 => ⟨S8192, .i32⟩
  | _ => ⟨S128x64x1, .i32⟩

abbrev hbmTy0_4 (i : Nat) : BufTy := match i % 128 with
  | 0 => ⟨S8192, .i32⟩
  | 1 => ⟨S8192, .i32⟩
  | 2 => ⟨S8192, .i32⟩
  | 3 => ⟨S_, .i32⟩
  | 4 => ⟨S8192, .i32⟩
  | 5 => ⟨S8192, .i32⟩
  | 6 => ⟨S_, .i32⟩
  | 7 => ⟨S8192, .i32⟩
  | 8 => ⟨S8192, .i32⟩
  | 9 => ⟨S_, .i32⟩
  | 10 => ⟨S8192, .i32⟩
  | 11 => ⟨S8192, .i32⟩
  | 12 => ⟨S8192, .i32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S8192, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S8192, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S8192, .i32⟩
  | 38 => ⟨S8192, .i32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S_, .i32⟩
  | 55 => ⟨S8192, .i32⟩
  | 56 => ⟨S8192, .i32⟩
  | 57 => ⟨S8192, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .i32⟩
  | 65 => ⟨S8192, .i32⟩
  | 66 => ⟨S8192, .i32⟩
  | 67 => ⟨S_, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192, .i32⟩
  | 74 => ⟨S8192, .i32⟩
  | 75 => ⟨S8192, .i32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S8192, .i32⟩
  | 83 => ⟨S8192, .i32⟩
  | 84 => ⟨S8192, .i32⟩
  | 85 => ⟨S_, .i32⟩
  | 86 => ⟨S8192, .i32⟩
  | 87 => ⟨S8192, .i32⟩
  | 88 => ⟨S_, .i32⟩
  | 89 => ⟨S8192, .i32⟩
  | 90 => ⟨S8192, .i32⟩
  | 91 => ⟨S8192, .i32⟩
  | 92 => ⟨S8192, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192, .i32⟩
  | 103 => ⟨S_, .i32⟩
  | 104 => ⟨S8192, .i32⟩
  | 105 => ⟨S8192, .i32⟩
  | 106 => ⟨S_, .i32⟩
  | 107 => ⟨S8192, .i32⟩
  | 108 => ⟨S8192, .i32⟩
  | 109 => ⟨S8192, .i32⟩
  | 110 => ⟨S8192, .i32⟩
  | 111 => ⟨S8192, .i32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S8192, .i32⟩
  | 119 => ⟨S8192, .i32⟩
  | 120 => ⟨S8192, .i32⟩
  | 121 => ⟨S_, .i32⟩
  | 122 => ⟨S8192, .i32⟩
  | 123 => ⟨S8192, .i32⟩
  | 124 => ⟨S_, .i32⟩
  | 125 => ⟨S8192, .i32⟩
  | 126 => ⟨S8192, .i32⟩
  | 127 => ⟨S8192, .i32⟩
  | _ => ⟨S128x64x1, .i32⟩

abbrev hbmTy0_5 (i : Nat) : BufTy := match i % 128 with
  | 0 => ⟨S8192, .i32⟩
  | 1 => ⟨S8192, .i32⟩
  | 2 => ⟨S_, .i32⟩
  | 3 => ⟨S8192, .i32⟩
  | 4 => ⟨S8192, .i32⟩
  | 5 => ⟨S_, .i32⟩
  | 6 => ⟨S8192, .i32⟩
  | 7 => ⟨S8192, .i32⟩
  | 8 => ⟨S8192, .i32⟩
  | 9 => ⟨S8192, .i32⟩
  | 10 => ⟨S_, .i32⟩
  | 11 => ⟨S8192, .i32⟩
  | 12 => ⟨S8192, .i32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i32⟩
  | 23 => ⟨S_, .i32⟩
  | 24 => ⟨S8192, .i32⟩
  | 25 => ⟨S8192, .i32⟩
  | 26 => ⟨S8192, .f32⟩
  | 27 => ⟨S_, .f32⟩
  | 28 => ⟨S8192, .f32⟩
  | 29 => ⟨S8192, .f32⟩
  | 30 => ⟨S8192, .f32⟩
  | 31 => ⟨S8192, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192, .f32⟩
  | 41 => ⟨S_, .f32⟩
  | 42 => ⟨S8192, .f32⟩
  | 43 => ⟨S8192, .f32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192, .f32⟩
  | 53 => ⟨S8192, .i32⟩
  | 54 => ⟨S_, .i32⟩
  | 55 => ⟨S8192, .i32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .i32⟩
  | 70 => ⟨S8192, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S8192, .i32⟩
  | 88 => ⟨S8192, .i32⟩
  | 89 => ⟨S8192, .i32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S8192, .i32⟩
  | 97 => ⟨S8192, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S8192, .i32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S8192, .i32⟩
  | 115 => ⟨S8192, .i32⟩
  | 116 => ⟨S8192, .i32⟩
  | 117 => ⟨S_, .i32⟩
  | 118 => ⟨S8192, .i32⟩
  | 119 => ⟨S8192, .i32⟩
  | 120 => ⟨S_, .i32⟩
  | 121 => ⟨S8192, .i32⟩
  | 122 => ⟨S8192, .i32⟩
  | 123 => ⟨S8192, .i32⟩
  | 124 => ⟨S8192, .i32⟩
  | 125 => ⟨S8192, .i32⟩
  | 126 => ⟨S_, .i32⟩
  | 127 => ⟨S8192, .i32⟩
  | _ => ⟨S128x64x1, .i32⟩

abbrev hbmTy0_6 (i : Nat) : BufTy := match i % 128 with
  | 0 => ⟨S8192, .i32⟩
  | 1 => ⟨S_, .i32⟩
  | 2 => ⟨S8192, .i32⟩
  | 3 => ⟨S8192, .i32⟩
  | 4 => ⟨S8192, .i32⟩
  | 5 => ⟨S8192, .i32⟩
  | 6 => ⟨S8192, .i32⟩
  | 7 => ⟨S_, .i32⟩
  | 8 => ⟨S8192, .i32⟩
  | 9 => ⟨S8192, .i32⟩
  | 10 => ⟨S_, .i32⟩
  | 11 => ⟨S8192, .i32⟩
  | 12 => ⟨S8192, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S8192, .i32⟩
  | 32 => ⟨S8192, .i32⟩
  | 33 => ⟨S8192, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S8192, .i32⟩
  | 41 => ⟨S8192, .i32⟩
  | 42 => ⟨S8192, .i32⟩
  | 43 => ⟨S_, .i32⟩
  | 44 => ⟨S8192, .i32⟩
  | 45 => ⟨S8192, .i32⟩
  | 46 => ⟨S_, .i32⟩
  | 47 => ⟨S8192, .i32⟩
  | 48 => ⟨S8192, .i32⟩
  | 49 => ⟨S8192, .i32⟩
  | 50 => ⟨S8192, .i32⟩
  | 51 => ⟨S8192, .i32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S8192, .i32⟩
  | 59 => ⟨S8192, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .i32⟩
  | 70 => ⟨S_, .i32⟩
  | 71 => ⟨S8192, .i32⟩
  | 72 => ⟨S8192, .i32⟩
  | 73 => ⟨S_, .i32⟩
  | 74 => ⟨S8192, .i32⟩
  | 75 => ⟨S8192, .i32⟩
  | 76 => ⟨S8192, .i32⟩
  | 77 => ⟨S8192, .i32⟩
  | 78 => ⟨S8192, .i32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S8192, .i32⟩
  | 86 => ⟨S8192, .i32⟩
  | 87 => ⟨S8192, .i32⟩
  | 88 => ⟨S_, .i32⟩
  | 89 => ⟨S8192, .i32⟩
  | 90 => ⟨S8192, .i32⟩
  | 91 => ⟨S_, .i32⟩
  | 92 => ⟨S8192, .i32⟩
  | 93 => ⟨S8192, .i32⟩
  | 94 => ⟨S8192, .i32⟩
  | 95 => ⟨S8192, .i32⟩
  | 96 => ⟨S8192, .i32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S8192, .i32⟩
  | 104 => ⟨S8192, .i32⟩
  | 105 => ⟨S_, .i32⟩
  | 106 => ⟨S8192, .i32⟩
  | 107 => ⟨S8192, .i32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192, .i32⟩
  | 122 => ⟨S8192, .i32⟩
  | 123 => ⟨S8192, .i32⟩
  | 124 => ⟨S_, .i32⟩
  | 125 => ⟨S8192, .i32⟩
  | 126 => ⟨S8192, .i32⟩
  | 127 => ⟨S_, .i32⟩
  | _ => ⟨S128x64x1, .i32⟩

abbrev hbmTy0_7 (i : Nat) : BufTy := match i % 128 with
  | 0 => ⟨S8192, .i32⟩
  | 1 => ⟨S8192, .i32⟩
  | 2 => ⟨S8192, .i32⟩
  | 3 => ⟨S8192, .i32⟩
  | 4 => ⟨S8192, .i32⟩
  | 5 => ⟨S_, .i32⟩
  | 6 => ⟨S8192, .i32⟩
  | 7 => ⟨S8192, .i32⟩
  | 8 => ⟨S_, .i32⟩
  | 9 => ⟨S8192, .i32⟩
  | 10 => ⟨S8192, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S8192, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S8192, .f32⟩
  | 39 => ⟨S_, .f32⟩
  | 40 => ⟨S8192, .f32⟩
  | 41 => ⟨S8192, .f32⟩
  | 42 => ⟨S_, .f32⟩
  | 43 => ⟨S8192, .f32⟩
  | 44 => ⟨S8192, .f32⟩
  | 45 => ⟨S_, .f32⟩
  | 46 => ⟨S8192, .f32⟩
  | 47 => ⟨S8192, .f32⟩
  | 48 => ⟨S_, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S_, .f32⟩
  | 56 => ⟨S8192, .f32⟩
  | 57 => ⟨S8192, .i1⟩
  | 58 => ⟨S_, .f32⟩
  | 59 => ⟨S8192, .f32⟩
  | 60 => ⟨S8192, .f32⟩
  | 61 => ⟨S8192, .f32⟩
  | 62 => ⟨S_, .f32⟩
  | 63 => ⟨S8192, .f32⟩
  | 64 => ⟨S8192, .f32⟩
  | 65 => ⟨S8192, .f32⟩
  | 66 => ⟨S_, .f32⟩
  | 67 => ⟨S_, .f32⟩
  | 68 => ⟨S8192, .f32⟩
  | 69 => ⟨S8192, .f32⟩
  | 70 => ⟨S8192, .f32⟩
  | 71 => ⟨S_, .f32⟩
  | 72 => ⟨S_, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S_, .f32⟩
  | 81 => ⟨S_, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S_, .f32⟩
  | 89 => ⟨S_, .f32⟩
  | 90 => ⟨S8192, .f32⟩
  | 91 => ⟨S8192, .f32⟩
  | 92 => ⟨S8192, .f32⟩
  | 93 => ⟨S8192, .f32⟩
  | 94 => ⟨S8192, .f32⟩
  | 95 => ⟨S8192, .f32⟩
  | 96 => ⟨S_, .f32⟩
  | 97 => ⟨S_, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S_, .f32⟩
  | 105 => ⟨S_, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S_, .f32⟩
  | 113 => ⟨S_, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S_, .f32⟩
  | 121 => ⟨S_, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S128x64x1, .i32⟩

abbrev hbmTy0_8 (i : Nat) : BufTy := match i % 128 with
  | 0 => ⟨S_, .f32⟩
  | 1 => ⟨S_, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S_, .f32⟩
  | 10 => ⟨S8192, .f32⟩
  | 11 => ⟨S8192, .f32⟩
  | 12 => ⟨S8192, .f32⟩
  | 13 => ⟨S8192, .f32⟩
  | 14 => ⟨S8192, .f32⟩
  | 15 => ⟨S_, .f32⟩
  | 16 => ⟨S_, .f32⟩
  | 17 => ⟨S8192, .f32⟩
  | 18 => ⟨S8192, .f32⟩
  | 19 => ⟨S_, .f32⟩
  | 20 => ⟨S8192, .f32⟩
  | 21 => ⟨S8192, .i1⟩
  | 22 => ⟨S_, .f32⟩
  | 23 => ⟨S8192, .f32⟩
  | 24 => ⟨S8192, .i1⟩
  | 25 => ⟨S_, .f32⟩
  | 26 => ⟨S_, .i1⟩
  | 27 => ⟨S8192, .i1⟩
  | 28 => ⟨S8192, .i1⟩
  | 29 => ⟨S8192, .i1⟩
  | 30 => ⟨S8192, .f32⟩
  | 31 => ⟨S8192, .f32⟩
  | 32 => ⟨S8192, .f32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S8192x1, .i32⟩
  | 41 => ⟨S8192, .i1⟩
  | 42 => ⟨S8192, .f32⟩
  | 43 => ⟨S32x256, .f32⟩
  | 44 => ⟨S32x256x1, .f32⟩
  | 45 => ⟨S32x256x3, .f32⟩
  | 46 => ⟨S32x256x3, .f32⟩
  | 47 => ⟨S32x256x1, .f32⟩
  | 48 => ⟨S32x256, .f32⟩
  | 49 => ⟨S32x256x1, .f32⟩
  | 50 => ⟨S32x256, .f32⟩
  | 51 => ⟨S32x256x1, .f32⟩
  | 52 => ⟨S32x256, .f32⟩
  | 53 => ⟨S_, .f32⟩
  | 54 => ⟨S32x256, .f32⟩
  | 55 => ⟨S32x256, .f32⟩
  | 56 => ⟨S32x256, .f32⟩
  | 57 => ⟨S32x256, .f32⟩
  | 58 => ⟨S32x256x1, .f32⟩
  | 59 => ⟨S32x256x1, .f32⟩
  | 60 => ⟨S32x256x1, .f32⟩
  | 61 => ⟨S32x256x1, .f32⟩
  | 62 => ⟨S32x256x1, .f32⟩
  | 63 => ⟨S32x256x1, .f32⟩
  | 64 => ⟨S32x256x1, .f32⟩
  | 65 => ⟨S32x256x1, .f32⟩
  | 66 => ⟨S32x256x1, .f32⟩
  | 67 => ⟨S32x256x9, .f32⟩
  | 68 => ⟨S32x256x3x3, .f32⟩
  | 69 => ⟨S32x256x1x1, .f32⟩
  | 70 => ⟨S32x256, .f32⟩
  | 71 => ⟨S32x256x1x1, .f32⟩
  | 72 => ⟨S32x256, .f32⟩
  | 73 => ⟨S32x256x1x1, .f32⟩
  | 74 => ⟨S32x256, .f32⟩
  | 75 => ⟨S32x256x1, .f32⟩
  | 76 => ⟨S32x256x1, .f32⟩
  | 77 => ⟨S32x256x1, .f32⟩
  | 78 => ⟨S32x256x3, .f32⟩
  | 79 => ⟨S32x256x3, .f32⟩
  | 80 => ⟨S_, .f32⟩
  | 81 => ⟨S32x256, .f32⟩
  | 82 => ⟨S32x256, .f32⟩
  | 83 => ⟨S3x3, .i32⟩
  | 84 => ⟨S3x3, .i32⟩
  | 85 => ⟨S_, .i32⟩
  | 86 => ⟨S3x3, .i32⟩
  | 87 => ⟨S3x3, .i32⟩
  | 88 => ⟨S3x3, .i1⟩
  | 89 => ⟨S3x3, .f32⟩
  | 90 => ⟨S32x256, .f32⟩
  | 91 => ⟨S32x256, .f32⟩
  | 92 => ⟨S_, .f32⟩
  | 93 => ⟨S32x256, .f32⟩
  | 94 => ⟨S32x256, .f32⟩
  | 95 => ⟨S_, .f32⟩
  | 96 => ⟨S32x256, .f32⟩
  | 97 => ⟨S32x256, .f32⟩
  | 98 => ⟨S32x256, .f32⟩
  | 99 => ⟨S_, .f32⟩
  | 100 => ⟨S32x256, .f32⟩
  | 101 => ⟨S32x256, .f32⟩
  | 102 => ⟨S_, .f32⟩
  | 103 => ⟨S32x256, .f32⟩
  | 104 => ⟨S32x256, .f32⟩
  | 105 => ⟨S32x256, .f32⟩
  | 106 => ⟨S_, .f32⟩
  | 107 => ⟨S32x256, .f32⟩
  | 108 => ⟨S32x256, .f32⟩
  | 109 => ⟨S32x256, .f32⟩
  | 110 => ⟨S32x256x3x3, .f32⟩
  | 111 => ⟨S32x256x1x1, .f32⟩
  | 112 => ⟨S32x256x3x3, .f32⟩
  | 113 => ⟨S32x256x3x3, .f32⟩
  | 114 => ⟨S1x1x3x3, .f32⟩
  | 115 => ⟨S32x256x3x3, .f32⟩
  | 116 => ⟨S32x256x3x3, .f32⟩
  | 117 => ⟨S32x256x1x1, .f32⟩
  | 118 => ⟨S32x256x3x3, .f32⟩
  | 119 => ⟨S32x256x3x3, .f32⟩
  | 120 => ⟨S32x256x3x3, .f32⟩
  | 121 => ⟨S32x256x3, .f32⟩
  | 122 => ⟨S32x256x3, .f32⟩
  | 123 => ⟨S32x256x1, .f32⟩
  | 124 => ⟨S32x256, .f32⟩
  | 125 => ⟨S32x256x1, .f32⟩
  | 126 => ⟨S32x256, .f32⟩
  | 127 => ⟨S32x256x1, .f32⟩
  | _ => ⟨S128x64x1, .i32⟩

abbrev hbmTy0_9 (i : Nat) : BufTy := match i % 128 with
  | 0 => ⟨S32x256, .f32⟩
  | 1 => ⟨S_, .f32⟩
  | 2 => ⟨S32x256, .f32⟩
  | 3 => ⟨S32x256, .f32⟩
  | 4 => ⟨S32x256, .f32⟩
  | 5 => ⟨S32x256, .f32⟩
  | 6 => ⟨S32x256x1, .f32⟩
  | 7 => ⟨S32x256x1, .f32⟩
  | 8 => ⟨S32x256x1, .f32⟩
  | 9 => ⟨S32x256x1, .f32⟩
  | 10 => ⟨S32x256x1, .f32⟩
  | 11 => ⟨S32x256x1, .f32⟩
  | 12 => ⟨S32x256x1, .f32⟩
  | 13 => ⟨S32x256x1, .f32⟩
  | 14 => ⟨S32x256x1, .f32⟩
  | 15 => ⟨S32x256x9, .f32⟩
  | 16 => ⟨S32x256x3x3, .f32⟩
  | 17 => ⟨S32x256x1x1, .f32⟩
  | 18 => ⟨S32x256, .f32⟩
  | 19 => ⟨S32x256x1x1, .f32⟩
  | 20 => ⟨S32x256, .f32⟩
  | 21 => ⟨S32x256x1x1, .f32⟩
  | 22 => ⟨S32x256, .f32⟩
  | 23 => ⟨S32x256x1, .f32⟩
  | 24 => ⟨S32x256x1, .f32⟩
  | 25 => ⟨S32x256x1, .f32⟩
  | 26 => ⟨S32x256x3, .f32⟩
  | 27 => ⟨S32x256x3, .f32⟩
  | 28 => ⟨S_, .f32⟩
  | 29 => ⟨S32x256, .f32⟩
  | 30 => ⟨S32x256, .f32⟩
  | 31 => ⟨S3x3, .i32⟩
  | 32 => ⟨S3x3, .i32⟩
  | 33 => ⟨S_, .i32⟩
  | 34 => ⟨S3x3, .i32⟩
  | 35 => ⟨S3x3, .i32⟩
  | 36 => ⟨S3x3, .i1⟩
  | 37 => ⟨S3x3, .f32⟩
  | 38 => ⟨S32x256, .f32⟩
  | 39 => ⟨S32x256, .f32⟩
  | 40 => ⟨S_, .f32⟩
  | 41 => ⟨S32x256, .f32⟩
  | 42 => ⟨S32x256, .f32⟩
  | 43 => ⟨S_, .f32⟩
  | 44 => ⟨S32x256, .f32⟩
  | 45 => ⟨S32x256, .f32⟩
  | 46 => ⟨S32x256, .f32⟩
  | 47 => ⟨S_, .f32⟩
  | 48 => ⟨S32x256, .f32⟩
  | 49 => ⟨S32x256, .f32⟩
  | 50 => ⟨S_, .f32⟩
  | 51 => ⟨S32x256, .f32⟩
  | 52 => ⟨S32x256, .f32⟩
  | 53 => ⟨S32x256, .f32⟩
  | 54 => ⟨S_, .f32⟩
  | 55 => ⟨S32x256, .f32⟩
  | 56 => ⟨S32x256, .f32⟩
  | 57 => ⟨S32x256, .f32⟩
  | 58 => ⟨S32x256x3x3, .f32⟩
  | 59 => ⟨S32x256x1x1, .f32⟩
  | 60 => ⟨S32x256x3x3, .f32⟩
  | 61 => ⟨S32x256x3x3, .f32⟩
  | 62 => ⟨S1x1x3x3, .f32⟩
  | 63 => ⟨S32x256x3x3, .f32⟩
  | 64 => ⟨S32x256x3x3, .f32⟩
  | 65 => ⟨S32x256x1x1, .f32⟩
  | 66 => ⟨S32x256x3x3, .f32⟩
  | 67 => ⟨S32x256x3x3, .f32⟩
  | 68 => ⟨S32x256x3x3, .f32⟩
  | 69 => ⟨S32x256x3x3, .f32⟩
  | 70 => ⟨S32x256x1x1, .f32⟩
  | 71 => ⟨S32x256, .f32⟩
  | 72 => ⟨S32x256x1x1, .f32⟩
  | 73 => ⟨S32x256, .f32⟩
  | 74 => ⟨S32x256, .f32⟩
  | 75 => ⟨S32x256x1x1, .f32⟩
  | 76 => ⟨S32x256, .f32⟩
  | 77 => ⟨S32x256, .f32⟩
  | 78 => ⟨S_, .f32⟩
  | 79 => ⟨S32x256, .f32⟩
  | 80 => ⟨S32x256, .f32⟩
  | 81 => ⟨S_, .f32⟩
  | 82 => ⟨S32x256, .f32⟩
  | 83 => ⟨S32x256, .f32⟩
  | 84 => ⟨S_, .f32⟩
  | 85 => ⟨S_, .f32⟩
  | 86 => ⟨S_, .f32⟩
  | 87 => ⟨S32x256, .f32⟩
  | 88 => ⟨S32x256, .f32⟩
  | 89 => ⟨S_, .f32⟩
  | 90 => ⟨S32x256, .f32⟩
  | 91 => ⟨S32x256, .f32⟩
  | 92 => ⟨S32x256, .f32⟩
  | 93 => ⟨S_, .f32⟩
  | 94 => ⟨S32x256, .f32⟩
  | 95 => ⟨S32x256, .f32⟩
  | 96 => ⟨S32x256, .f32⟩
  | 97 => ⟨S32x256, .f32⟩
  | 98 => ⟨S_, .f32⟩
  | 99 => ⟨S32x256, .f32⟩
  | 100 => ⟨S32x256, .f32⟩
  | 101 => ⟨S_, .f32⟩
  | 102 => ⟨S32x256, .f32⟩
  | 103 => ⟨S32x256, .f32⟩
  | 104 => ⟨S32x256, .f32⟩
  | 105 => ⟨S_, .f32⟩
  | 106 => ⟨S32x256, .f32⟩
  | 107 => ⟨S32x256, .f32⟩
  | 108 => ⟨S32x256, .f32⟩
  | 109 => ⟨S_, .f32⟩
  | 110 => ⟨S32x256, .f32⟩
  | 111 => ⟨S32x256, .f32⟩
  | 112 => ⟨S32x256, .f32⟩
  | 113 => ⟨S_, .f32⟩
  | 114 => ⟨S32x256, .f32⟩
  | 115 => ⟨S32x256, .f32⟩
  | 116 => ⟨S32x256, .f32⟩
  | 117 => ⟨S_, .f32⟩
  | 118 => ⟨S32x256, .f32⟩
  | 119 => ⟨S32x256, .f32⟩
  | 120 => ⟨S32x256, .f32⟩
  | 121 => ⟨S_, .f32⟩
  | 122 => ⟨S32x256, .f32⟩
  | 123 => ⟨S32x256, .f32⟩
  | 124 => ⟨S32x256, .f32⟩
  | 125 => ⟨S_, .f32⟩
  | 126 => ⟨S32x256, .f32⟩
  | 127 => ⟨S32x256, .f32⟩
  | _ => ⟨S128x64x1, .i32⟩

abbrev hbmTy0_10 (i : Nat) : BufTy := match i % 128 with
  | 0 => ⟨S_, .f32⟩
  | 1 => ⟨S32x256, .f32⟩
  | 2 => ⟨S32x256, .f32⟩
  | 3 => ⟨S32x256, .f32⟩
  | 4 => ⟨S32x256, .f32⟩
  | 5 => ⟨S_, .f32⟩
  | 6 => ⟨S32x256, .f32⟩
  | 7 => ⟨S32x256, .i1⟩
  | 8 => ⟨S_, .f32⟩
  | 9 => ⟨S32x256, .f32⟩
  | 10 => ⟨S32x256, .f32⟩
  | 11 => ⟨S32x256, .f32⟩
  | 12 => ⟨S_, .f32⟩
  | 13 => ⟨S32x256, .f32⟩
  | 14 => ⟨S32x256, .f32⟩
  | 15 => ⟨S_, .f32⟩
  | 16 => ⟨S32x256, .f32⟩
  | 17 => ⟨S32x256, .f32⟩
  | 18 => ⟨S_, .f32⟩
  | 19 => ⟨S32x256, .f32⟩
  | 20 => ⟨S32x256, .f32⟩
  | 21 => ⟨S32x256, .f32⟩
  | 22 => ⟨S32x256x1x1, .f32⟩
  | 23 => ⟨S32x256x3x3, .f32⟩
  | 24 => ⟨S32x256x3x3, .f32⟩
  | 25 => ⟨S32x256x3x3, .f32⟩
  | 26 => ⟨S32x256x3x3, .f32⟩
  | 27 => ⟨S32x256x1x1, .f32⟩
  | 28 => ⟨S32x256, .f32⟩
  | 29 => ⟨S32x256x1x1, .f32⟩
  | 30 => ⟨S32x256, .f32⟩
  | 31 => ⟨S32x256x1x1, .f32⟩
  | 32 => ⟨S32x256, .f32⟩
  | 33 => ⟨S32x256x1, .f32⟩
  | 34 => ⟨S32x256x1, .f32⟩
  | 35 => ⟨S32x256x1, .f32⟩
  | 36 => ⟨S32x256x3, .f32⟩
  | 37 => ⟨S32x256x1, .f32⟩
  | 38 => ⟨S32x256, .f32⟩
  | 39 => ⟨S64x128, .f32⟩
  | 40 => ⟨S32x256x1, .f32⟩
  | 41 => ⟨S32x256, .f32⟩
  | 42 => ⟨S64x128, .f32⟩
  | 43 => ⟨S32x256x1, .f32⟩
  | 44 => ⟨S32x256, .f32⟩
  | 45 => ⟨S64x128, .f32⟩
  | 46 => ⟨S32x256x1, .f32⟩
  | 47 => ⟨S32x256, .f32⟩
  | 48 => ⟨S64x128, .f32⟩
  | 49 => ⟨S32x256x1, .f32⟩
  | 50 => ⟨S32x256, .f32⟩
  | 51 => ⟨S64x128, .f32⟩
  | 52 => ⟨S32x256x1, .f32⟩
  | 53 => ⟨S32x256, .f32⟩
  | 54 => ⟨S64x128, .f32⟩
  | _ => ⟨S128x64x1, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S128x64x1, .i32⟩

abbrev bufTy : (tb : Table) → Fin (tcTables nBuf tb) → BufTy
  | .hbm, ⟨i, _⟩ => hbmTy i
  | _, _ => ⟨S128x64x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_12 : Ref sig .tc := ⟨.hbm, 67, rfl⟩
abbrev main_v47 : Ref sig .tc := ⟨.hbm, 68, rfl⟩
abbrev main_v48 : Ref sig .tc := ⟨.hbm, 69, rfl⟩
abbrev main_c_13 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_14 : Ref sig .tc := ⟨.hbm, 75, rfl⟩
abbrev main_v53 : Ref sig .tc := ⟨.hbm, 76, rfl⟩
abbrev main_v54 : Ref sig .tc := ⟨.hbm, 77, rfl⟩
abbrev main_c_15 : Ref sig .tc := ⟨.hbm, 78, rfl⟩
abbrev main_v55 : Ref sig .tc := ⟨.hbm, 79, rfl⟩
abbrev main_v56 : Ref sig .tc := ⟨.hbm, 80, rfl⟩
abbrev main_c_16 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_17 : Ref sig .tc := ⟨.hbm, 85, rfl⟩
abbrev main_v60 : Ref sig .tc := ⟨.hbm, 86, rfl⟩
abbrev main_v61 : Ref sig .tc := ⟨.hbm, 87, rfl⟩
abbrev main_c_18 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_19 : Ref sig .tc := ⟨.hbm, 94, rfl⟩
abbrev main_v67 : Ref sig .tc := ⟨.hbm, 95, rfl⟩
abbrev main_v68 : Ref sig .tc := ⟨.hbm, 96, rfl⟩
abbrev main_c_20 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_21 : Ref sig .tc := ⟨.hbm, 103, rfl⟩
abbrev main_v74 : Ref sig .tc := ⟨.hbm, 104, rfl⟩
abbrev main_v75 : Ref sig .tc := ⟨.hbm, 105, rfl⟩
abbrev main_c_22 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_23 : Ref sig .tc := ⟨.hbm, 112, rfl⟩
abbrev main_v81 : Ref sig .tc := ⟨.hbm, 113, rfl⟩
abbrev main_v82 : Ref sig .tc := ⟨.hbm, 114, rfl⟩
abbrev main_c_24 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_25 : Ref sig .tc := ⟨.hbm, 120, rfl⟩
abbrev main_v87 : Ref sig .tc := ⟨.hbm, 121, rfl⟩
abbrev main_v88 : Ref sig .tc := ⟨.hbm, 122, rfl⟩
abbrev main_c_26 : Ref sig .tc := ⟨.hbm, 123, rfl⟩
abbrev main_v89 : Ref sig .tc := ⟨.hbm, 124, rfl⟩
abbrev main_v90 : Ref sig .tc := ⟨.hbm, 125, rfl⟩
abbrev main_c_27 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_28 : Ref sig .tc := ⟨.hbm, 130, rfl⟩
abbrev main_v94 : Ref sig .tc := ⟨.hbm, 131, rfl⟩
abbrev main_v95 : Ref sig .tc := ⟨.hbm, 132, rfl⟩
abbrev main_c_29 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_30 : Ref sig .tc := ⟨.hbm, 139, rfl⟩
abbrev main_v101 : Ref sig .tc := ⟨.hbm, 140, rfl⟩
abbrev main_v102 : Ref sig .tc := ⟨.hbm, 141, rfl⟩
abbrev main_c_31 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_32 : Ref sig .tc := ⟨.hbm, 148, rfl⟩
abbrev main_v108 : Ref sig .tc := ⟨.hbm, 149, rfl⟩
abbrev main_v109 : Ref sig .tc := ⟨.hbm, 150, rfl⟩
abbrev main_c_33 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_34 : Ref sig .tc := ⟨.hbm, 157, rfl⟩
abbrev main_v115 : Ref sig .tc := ⟨.hbm, 158, rfl⟩
abbrev main_v116 : Ref sig .tc := ⟨.hbm, 159, rfl⟩
abbrev main_c_35 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_c_36 : Ref sig .tc := ⟨.hbm, 165, rfl⟩
abbrev main_v121 : Ref sig .tc := ⟨.hbm, 166, rfl⟩
abbrev main_v122 : Ref sig .tc := ⟨.hbm, 167, rfl⟩
abbrev main_c_37 : Ref sig .tc := ⟨.hbm, 168, rfl⟩
abbrev main_v123 : Ref sig .tc := ⟨.hbm, 169, rfl⟩
abbrev main_v124 : Ref sig .tc := ⟨.hbm, 170, rfl⟩
abbrev main_c_38 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_39 : Ref sig .tc := ⟨.hbm, 175, rfl⟩
abbrev main_v128 : Ref sig .tc := ⟨.hbm, 176, rfl⟩
abbrev main_v129 : Ref sig .tc := ⟨.hbm, 177, rfl⟩
abbrev main_c_40 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_c_41 : Ref sig .tc := ⟨.hbm, 184, rfl⟩
abbrev main_v135 : Ref sig .tc := ⟨.hbm, 185, rfl⟩
abbrev main_v136 : Ref sig .tc := ⟨.hbm, 186, rfl⟩
abbrev main_c_42 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_c_43 : Ref sig .tc := ⟨.hbm, 193, rfl⟩
abbrev main_v142 : Ref sig .tc := ⟨.hbm, 194, rfl⟩
abbrev main_v143 : Ref sig .tc := ⟨.hbm, 195, rfl⟩
abbrev main_c_44 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_c_45 : Ref sig .tc := ⟨.hbm, 202, rfl⟩
abbrev main_v149 : Ref sig .tc := ⟨.hbm, 203, rfl⟩
abbrev main_v150 : Ref sig .tc := ⟨.hbm, 204, rfl⟩
abbrev main_c_46 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_c_47 : Ref sig .tc := ⟨.hbm, 210, rfl⟩
abbrev main_v155 : Ref sig .tc := ⟨.hbm, 211, rfl⟩
abbrev main_v156 : Ref sig .tc := ⟨.hbm, 212, rfl⟩
abbrev main_c_48 : Ref sig .tc := ⟨.hbm, 213, rfl⟩
abbrev main_v157 : Ref sig .tc := ⟨.hbm, 214, rfl⟩
abbrev main_v158 : Ref sig .tc := ⟨.hbm, 215, rfl⟩
abbrev main_c_49 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_c_50 : Ref sig .tc := ⟨.hbm, 220, rfl⟩
abbrev main_v162 : Ref sig .tc := ⟨.hbm, 221, rfl⟩
abbrev main_v163 : Ref sig .tc := ⟨.hbm, 222, rfl⟩
abbrev main_c_51 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_c_52 : Ref sig .tc := ⟨.hbm, 229, rfl⟩
abbrev main_v169 : Ref sig .tc := ⟨.hbm, 230, rfl⟩
abbrev main_v170 : Ref sig .tc := ⟨.hbm, 231, rfl⟩
abbrev main_c_53 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_c_54 : Ref sig .tc := ⟨.hbm, 238, rfl⟩
abbrev main_v176 : Ref sig .tc := ⟨.hbm, 239, rfl⟩
abbrev main_v177 : Ref sig .tc := ⟨.hbm, 240, rfl⟩
abbrev main_c_55 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_c_56 : Ref sig .tc := ⟨.hbm, 247, rfl⟩
abbrev main_v183 : Ref sig .tc := ⟨.hbm, 248, rfl⟩
abbrev main_v184 : Ref sig .tc := ⟨.hbm, 249, rfl⟩
abbrev main_c_57 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_c_58 : Ref sig .tc := ⟨.hbm, 255, rfl⟩
abbrev main_v189 : Ref sig .tc := ⟨.hbm, 256, rfl⟩
abbrev main_v190 : Ref sig .tc := ⟨.hbm, 257, rfl⟩
abbrev main_c_59 : Ref sig .tc := ⟨.hbm, 258, rfl⟩
abbrev main_v191 : Ref sig .tc := ⟨.hbm, 259, rfl⟩
abbrev main_v192 : Ref sig .tc := ⟨.hbm, 260, rfl⟩
abbrev main_c_60 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_c_61 : Ref sig .tc := ⟨.hbm, 265, rfl⟩
abbrev main_v196 : Ref sig .tc := ⟨.hbm, 266, rfl⟩
abbrev main_v197 : Ref sig .tc := ⟨.hbm, 267, rfl⟩
abbrev main_c_62 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_cst : Ref sig .tc := ⟨.hbm, 272, rfl⟩
abbrev main_v201 : Ref sig .tc := ⟨.hbm, 273, rfl⟩
abbrev main_v202 : Ref sig .tc := ⟨.hbm, 274, rfl⟩
abbrev main_cst_63 : Ref sig .tc := ⟨.hbm, 275, rfl⟩
abbrev main_v203 : Ref sig .tc := ⟨.hbm, 276, rfl⟩
abbrev main_v204 : Ref sig .tc := ⟨.hbm, 277, rfl⟩
abbrev main_cst_64 : Ref sig .tc := ⟨.hbm, 278, rfl⟩
abbrev main_v205 : Ref sig .tc := ⟨.hbm, 279, rfl⟩
abbrev main_v206 : Ref sig .tc := ⟨.hbm, 280, rfl⟩
abbrev main_cst_65 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_cst_66 : Ref sig .tc := ⟨.hbm, 288, rfl⟩
abbrev main_v213 : Ref sig .tc := ⟨.hbm, 289, rfl⟩
abbrev main_v214 : Ref sig .tc := ⟨.hbm, 290, rfl⟩
abbrev main_cst_67 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_cst_68 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_cst_69 : Ref sig .tc := ⟨.hbm, 299, rfl⟩
abbrev main_cst_70 : Ref sig .tc := ⟨.hbm, 300, rfl⟩
abbrev main_call1_v0 : Ref sig .tc := ⟨.hbm, 301, rfl⟩
abbrev main_call1_v1 : Ref sig .tc := ⟨.hbm, 302, rfl⟩
abbrev main_v221 : Ref sig .tc := ⟨.hbm, 303, rfl⟩
abbrev main_cst_71 : Ref sig .tc := ⟨.hbm, 304, rfl⟩
abbrev main_cst_72 : Ref sig .tc := ⟨.hbm, 305, rfl⟩
abbrev main_call2_v0 : Ref sig .tc := ⟨.hbm, 306, rfl⟩
abbrev main_call2_v1 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_cst_73 : Ref sig .tc := ⟨.hbm, 313, rfl⟩
abbrev main_cst_74 : Ref sig .tc := ⟨.hbm, 314, rfl⟩
abbrev main_call3_v0 : Ref sig .tc := ⟨.hbm, 315, rfl⟩
abbrev main_call3_v1 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_cst_75 : Ref sig .tc := ⟨.hbm, 321, rfl⟩
abbrev main_cst_76 : Ref sig .tc := ⟨.hbm, 322, rfl⟩
abbrev main_call4_v0 : Ref sig .tc := ⟨.hbm, 323, rfl⟩
abbrev main_call4_v1 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_cst_77 : Ref sig .tc := ⟨.hbm, 329, rfl⟩
abbrev main_cst_78 : Ref sig .tc := ⟨.hbm, 330, rfl⟩
abbrev main_call5_v0 : Ref sig .tc := ⟨.hbm, 331, rfl⟩
abbrev main_call5_v1 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_v238 : Ref sig .tc := ⟨.hbm, 336, rfl⟩
abbrev main_cst_79 : Ref sig .tc := ⟨.hbm, 337, rfl⟩
abbrev main_cst_80 : Ref sig .tc := ⟨.hbm, 338, rfl⟩
abbrev main_call6_v0 : Ref sig .tc := ⟨.hbm, 339, rfl⟩
abbrev main_call6_v1 : Ref sig .tc := ⟨.hbm, 340, rfl⟩
abbrev main_v239 : Ref sig .tc := ⟨.hbm, 341, rfl⟩
abbrev main_v240 : Ref sig .tc := ⟨.hbm, 342, rfl⟩
abbrev main_v241 : Ref sig .tc := ⟨.hbm, 343, rfl⟩
abbrev main_v242 : Ref sig .tc := ⟨.hbm, 344, rfl⟩
abbrev main_cst_81 : Ref sig .tc := ⟨.hbm, 345, rfl⟩
abbrev main_cst_82 : Ref sig .tc := ⟨.hbm, 346, rfl⟩
abbrev main_call7_v0 : Ref sig .tc := ⟨.hbm, 347, rfl⟩
abbrev main_call7_v1 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_cst_83 : Ref sig .tc := ⟨.hbm, 353, rfl⟩
abbrev main_cst_84 : Ref sig .tc := ⟨.hbm, 354, rfl⟩
abbrev main_call8_v0 : Ref sig .tc := ⟨.hbm, 355, rfl⟩
abbrev main_call8_v1 : Ref sig .tc := ⟨.hbm, 356, rfl⟩
abbrev main_v247 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_cst_85 : Ref sig .tc := ⟨.hbm, 361, rfl⟩
abbrev main_cst_86 : Ref sig .tc := ⟨.hbm, 362, rfl⟩
abbrev main_call9_v0 : Ref sig .tc := ⟨.hbm, 363, rfl⟩
abbrev main_call9_v1 : Ref sig .tc := ⟨.hbm, 364, rfl⟩
abbrev main_v251 : Ref sig .tc := ⟨.hbm, 365, rfl⟩
abbrev main_v252 : Ref sig .tc := ⟨.hbm, 366, rfl⟩
abbrev main_v253 : Ref sig .tc := ⟨.hbm, 367, rfl⟩
abbrev main_v254 : Ref sig .tc := ⟨.hbm, 368, rfl⟩
abbrev main_v255 : Ref sig .tc := ⟨.hbm, 369, rfl⟩
abbrev main_cst_87 : Ref sig .tc := ⟨.hbm, 370, rfl⟩
abbrev main_v256 : Ref sig .tc := ⟨.hbm, 371, rfl⟩
abbrev main_v257 : Ref sig .tc := ⟨.hbm, 372, rfl⟩
abbrev main_call10_v0 : Ref sig .tc := ⟨.hbm, 373, rfl⟩
abbrev main_call10_cst : Ref sig .tc := ⟨.hbm, 374, rfl⟩
abbrev main_call10_v1 : Ref sig .tc := ⟨.hbm, 375, rfl⟩
abbrev main_call10_v2 : Ref sig .tc := ⟨.hbm, 376, rfl⟩
abbrev main_v258 : Ref sig .tc := ⟨.hbm, 377, rfl⟩
abbrev main_cst_88 : Ref sig .tc := ⟨.hbm, 378, rfl⟩
abbrev main_v259 : Ref sig .tc := ⟨.hbm, 379, rfl⟩
abbrev main_v260 : Ref sig .tc := ⟨.hbm, 380, rfl⟩
abbrev main_v261 : Ref sig .tc := ⟨.hbm, 381, rfl⟩
abbrev main_v262 : Ref sig .tc := ⟨.hbm, 382, rfl⟩
abbrev main_v263 : Ref sig .tc := ⟨.hbm, 383, rfl⟩
abbrev main_v264 : Ref sig .tc := ⟨.hbm, 384, rfl⟩
abbrev main_c_89 : Ref sig .tc := ⟨.hbm, 385, rfl⟩
abbrev main_v265 : Ref sig .tc := ⟨.hbm, 386, rfl⟩
abbrev main_v266 : Ref sig .tc := ⟨.hbm, 387, rfl⟩
abbrev main_c_90 : Ref sig .tc := ⟨.hbm, 388, rfl⟩
abbrev main_v267 : Ref sig .tc := ⟨.hbm, 389, rfl⟩
abbrev main_v268 : Ref sig .tc := ⟨.hbm, 390, rfl⟩
abbrev main_v269 : Ref sig .tc := ⟨.hbm, 391, rfl⟩
abbrev main_c_91 : Ref sig .tc := ⟨.hbm, 392, rfl⟩
abbrev main_v270 : Ref sig .tc := ⟨.hbm, 393, rfl⟩
abbrev main_v271 : Ref sig .tc := ⟨.hbm, 394, rfl⟩
abbrev main_c_92 : Ref sig .tc := ⟨.hbm, 395, rfl⟩
abbrev main_v272 : Ref sig .tc := ⟨.hbm, 396, rfl⟩
abbrev main_v273 : Ref sig .tc := ⟨.hbm, 397, rfl⟩
abbrev main_v274 : Ref sig .tc := ⟨.hbm, 398, rfl⟩
abbrev main_v275 : Ref sig .tc := ⟨.hbm, 399, rfl⟩
abbrev main_v276 : Ref sig .tc := ⟨.hbm, 400, rfl⟩
abbrev main_v277 : Ref sig .tc := ⟨.hbm, 401, rfl⟩
abbrev main_v278 : Ref sig .tc := ⟨.hbm, 402, rfl⟩
abbrev main_c_93 : Ref sig .tc := ⟨.hbm, 403, rfl⟩
abbrev main_v279 : Ref sig .tc := ⟨.hbm, 404, rfl⟩
abbrev main_v280 : Ref sig .tc := ⟨.hbm, 405, rfl⟩
abbrev main_c_94 : Ref sig .tc := ⟨.hbm, 406, rfl⟩
abbrev main_v281 : Ref sig .tc := ⟨.hbm, 407, rfl⟩
abbrev main_v282 : Ref sig .tc := ⟨.hbm, 408, rfl⟩
abbrev main_c_95 : Ref sig .tc := ⟨.hbm, 409, rfl⟩
abbrev main_v283 : Ref sig .tc := ⟨.hbm, 410, rfl⟩
abbrev main_v284 : Ref sig .tc := ⟨.hbm, 411, rfl⟩
abbrev main_v285 : Ref sig .tc := ⟨.hbm, 412, rfl⟩
abbrev main_c_96 : Ref sig .tc := ⟨.hbm, 413, rfl⟩
abbrev main_v286 : Ref sig .tc := ⟨.hbm, 414, rfl⟩
abbrev main_v287 : Ref sig .tc := ⟨.hbm, 415, rfl⟩
abbrev main_c_97 : Ref sig .tc := ⟨.hbm, 416, rfl⟩
abbrev main_v288 : Ref sig .tc := ⟨.hbm, 417, rfl⟩
abbrev main_v289 : Ref sig .tc := ⟨.hbm, 418, rfl⟩
abbrev main_v290 : Ref sig .tc := ⟨.hbm, 419, rfl⟩
abbrev main_v291 : Ref sig .tc := ⟨.hbm, 420, rfl⟩
abbrev main_v292 : Ref sig .tc := ⟨.hbm, 421, rfl⟩
abbrev main_v293 : Ref sig .tc := ⟨.hbm, 422, rfl⟩
abbrev main_v294 : Ref sig .tc := ⟨.hbm, 423, rfl⟩
abbrev main_v295 : Ref sig .tc := ⟨.hbm, 424, rfl⟩
abbrev main_v296 : Ref sig .tc := ⟨.hbm, 425, rfl⟩
abbrev main_c_98 : Ref sig .tc := ⟨.hbm, 426, rfl⟩
abbrev main_v297 : Ref sig .tc := ⟨.hbm, 427, rfl⟩
abbrev main_c_99 : Ref sig .tc := ⟨.hbm, 428, rfl⟩
abbrev main_v298 : Ref sig .tc := ⟨.hbm, 429, rfl⟩
abbrev main_v299 : Ref sig .tc := ⟨.hbm, 430, rfl⟩
abbrev main_c_100 : Ref sig .tc := ⟨.hbm, 431, rfl⟩
abbrev main_v300 : Ref sig .tc := ⟨.hbm, 432, rfl⟩
abbrev main_v301 : Ref sig .tc := ⟨.hbm, 433, rfl⟩
abbrev main_v302 : Ref sig .tc := ⟨.hbm, 434, rfl⟩
abbrev main_c_101 : Ref sig .tc := ⟨.hbm, 435, rfl⟩
abbrev main_v303 : Ref sig .tc := ⟨.hbm, 436, rfl⟩
abbrev main_v304 : Ref sig .tc := ⟨.hbm, 437, rfl⟩
abbrev main_c_102 : Ref sig .tc := ⟨.hbm, 438, rfl⟩
abbrev main_v305 : Ref sig .tc := ⟨.hbm, 439, rfl⟩
abbrev main_v306 : Ref sig .tc := ⟨.hbm, 440, rfl⟩
abbrev main_v307 : Ref sig .tc := ⟨.hbm, 441, rfl⟩
abbrev main_v308 : Ref sig .tc := ⟨.hbm, 442, rfl⟩
abbrev main_v309 : Ref sig .tc := ⟨.hbm, 443, rfl⟩
abbrev main_c_103 : Ref sig .tc := ⟨.hbm, 444, rfl⟩
abbrev main_v310 : Ref sig .tc := ⟨.hbm, 445, rfl⟩
abbrev main_v311 : Ref sig .tc := ⟨.hbm, 446, rfl⟩
abbrev main_c_104 : Ref sig .tc := ⟨.hbm, 447, rfl⟩
abbrev main_v312 : Ref sig .tc := ⟨.hbm, 448, rfl⟩
abbrev main_v313 : Ref sig .tc := ⟨.hbm, 449, rfl⟩
abbrev main_v314 : Ref sig .tc := ⟨.hbm, 450, rfl⟩
abbrev main_v315 : Ref sig .tc := ⟨.hbm, 451, rfl⟩
abbrev main_v316 : Ref sig .tc := ⟨.hbm, 452, rfl⟩
abbrev main_c_105 : Ref sig .tc := ⟨.hbm, 453, rfl⟩
abbrev main_v317 : Ref sig .tc := ⟨.hbm, 454, rfl⟩
abbrev main_v318 : Ref sig .tc := ⟨.hbm, 455, rfl⟩
abbrev main_c_106 : Ref sig .tc := ⟨.hbm, 456, rfl⟩
abbrev main_v319 : Ref sig .tc := ⟨.hbm, 457, rfl⟩
abbrev main_v320 : Ref sig .tc := ⟨.hbm, 458, rfl⟩
abbrev main_v321 : Ref sig .tc := ⟨.hbm, 459, rfl⟩
abbrev main_v322 : Ref sig .tc := ⟨.hbm, 460, rfl⟩
abbrev main_v323 : Ref sig .tc := ⟨.hbm, 461, rfl⟩
abbrev main_c_107 : Ref sig .tc := ⟨.hbm, 462, rfl⟩
abbrev main_v324 : Ref sig .tc := ⟨.hbm, 463, rfl⟩
abbrev main_v325 : Ref sig .tc := ⟨.hbm, 464, rfl⟩
abbrev main_c_108 : Ref sig .tc := ⟨.hbm, 465, rfl⟩
abbrev main_v326 : Ref sig .tc := ⟨.hbm, 466, rfl⟩
abbrev main_v327 : Ref sig .tc := ⟨.hbm, 467, rfl⟩
abbrev main_v328 : Ref sig .tc := ⟨.hbm, 468, rfl⟩
abbrev main_v329 : Ref sig .tc := ⟨.hbm, 469, rfl⟩
abbrev main_c_109 : Ref sig .tc := ⟨.hbm, 470, rfl⟩
abbrev main_v330 : Ref sig .tc := ⟨.hbm, 471, rfl⟩
abbrev main_v331 : Ref sig .tc := ⟨.hbm, 472, rfl⟩
abbrev main_c_110 : Ref sig .tc := ⟨.hbm, 473, rfl⟩
abbrev main_v332 : Ref sig .tc := ⟨.hbm, 474, rfl⟩
abbrev main_v333 : Ref sig .tc := ⟨.hbm, 475, rfl⟩
abbrev main_c_111 : Ref sig .tc := ⟨.hbm, 476, rfl⟩
abbrev main_v334 : Ref sig .tc := ⟨.hbm, 477, rfl⟩
abbrev main_v335 : Ref sig .tc := ⟨.hbm, 478, rfl⟩
abbrev main_v336 : Ref sig .tc := ⟨.hbm, 479, rfl⟩
abbrev main_c_112 : Ref sig .tc := ⟨.hbm, 480, rfl⟩
abbrev main_v337 : Ref sig .tc := ⟨.hbm, 481, rfl⟩
abbrev main_v338 : Ref sig .tc := ⟨.hbm, 482, rfl⟩
abbrev main_c_113 : Ref sig .tc := ⟨.hbm, 483, rfl⟩
abbrev main_v339 : Ref sig .tc := ⟨.hbm, 484, rfl⟩
abbrev main_v340 : Ref sig .tc := ⟨.hbm, 485, rfl⟩
abbrev main_v341 : Ref sig .tc := ⟨.hbm, 486, rfl⟩
abbrev main_v342 : Ref sig .tc := ⟨.hbm, 487, rfl⟩
abbrev main_v343 : Ref sig .tc := ⟨.hbm, 488, rfl⟩
abbrev main_c_114 : Ref sig .tc := ⟨.hbm, 489, rfl⟩
abbrev main_v344 : Ref sig .tc := ⟨.hbm, 490, rfl⟩
abbrev main_v345 : Ref sig .tc := ⟨.hbm, 491, rfl⟩
abbrev main_c_115 : Ref sig .tc := ⟨.hbm, 492, rfl⟩
abbrev main_v346 : Ref sig .tc := ⟨.hbm, 493, rfl⟩
abbrev main_v347 : Ref sig .tc := ⟨.hbm, 494, rfl⟩
abbrev main_v348 : Ref sig .tc := ⟨.hbm, 495, rfl⟩
abbrev main_v349 : Ref sig .tc := ⟨.hbm, 496, rfl⟩
abbrev main_v350 : Ref sig .tc := ⟨.hbm, 497, rfl⟩
abbrev main_c_116 : Ref sig .tc := ⟨.hbm, 498, rfl⟩
abbrev main_v351 : Ref sig .tc := ⟨.hbm, 499, rfl⟩
abbrev main_v352 : Ref sig .tc := ⟨.hbm, 500, rfl⟩
abbrev main_c_117 : Ref sig .tc := ⟨.hbm, 501, rfl⟩
abbrev main_v353 : Ref sig .tc := ⟨.hbm, 502, rfl⟩
abbrev main_v354 : Ref sig .tc := ⟨.hbm, 503, rfl⟩
abbrev main_v355 : Ref sig .tc := ⟨.hbm, 504, rfl⟩
abbrev main_v356 : Ref sig .tc := ⟨.hbm, 505, rfl⟩
abbrev main_v357 : Ref sig .tc := ⟨.hbm, 506, rfl⟩
abbrev main_c_118 : Ref sig .tc := ⟨.hbm, 507, rfl⟩
abbrev main_v358 : Ref sig .tc := ⟨.hbm, 508, rfl⟩
abbrev main_v359 : Ref sig .tc := ⟨.hbm, 509, rfl⟩
abbrev main_c_119 : Ref sig .tc := ⟨.hbm, 510, rfl⟩
abbrev main_v360 : Ref sig .tc := ⟨.hbm, 511, rfl⟩
abbrev main_v361 : Ref sig .tc := ⟨.hbm, 512, rfl⟩
abbrev main_v362 : Ref sig .tc := ⟨.hbm, 513, rfl⟩
abbrev main_v363 : Ref sig .tc := ⟨.hbm, 514, rfl⟩
abbrev main_c_120 : Ref sig .tc := ⟨.hbm, 515, rfl⟩
abbrev main_v364 : Ref sig .tc := ⟨.hbm, 516, rfl⟩
abbrev main_v365 : Ref sig .tc := ⟨.hbm, 517, rfl⟩
abbrev main_c_121 : Ref sig .tc := ⟨.hbm, 518, rfl⟩
abbrev main_v366 : Ref sig .tc := ⟨.hbm, 519, rfl⟩
abbrev main_v367 : Ref sig .tc := ⟨.hbm, 520, rfl⟩
abbrev main_c_122 : Ref sig .tc := ⟨.hbm, 521, rfl⟩
abbrev main_v368 : Ref sig .tc := ⟨.hbm, 522, rfl⟩
abbrev main_v369 : Ref sig .tc := ⟨.hbm, 523, rfl⟩
abbrev main_v370 : Ref sig .tc := ⟨.hbm, 524, rfl⟩
abbrev main_c_123 : Ref sig .tc := ⟨.hbm, 525, rfl⟩
abbrev main_v371 : Ref sig .tc := ⟨.hbm, 526, rfl⟩
abbrev main_v372 : Ref sig .tc := ⟨.hbm, 527, rfl⟩
abbrev main_c_124 : Ref sig .tc := ⟨.hbm, 528, rfl⟩
abbrev main_v373 : Ref sig .tc := ⟨.hbm, 529, rfl⟩
abbrev main_v374 : Ref sig .tc := ⟨.hbm, 530, rfl⟩
abbrev main_v375 : Ref sig .tc := ⟨.hbm, 531, rfl⟩
abbrev main_v376 : Ref sig .tc := ⟨.hbm, 532, rfl⟩
abbrev main_v377 : Ref sig .tc := ⟨.hbm, 533, rfl⟩
abbrev main_c_125 : Ref sig .tc := ⟨.hbm, 534, rfl⟩
abbrev main_v378 : Ref sig .tc := ⟨.hbm, 535, rfl⟩
abbrev main_v379 : Ref sig .tc := ⟨.hbm, 536, rfl⟩
abbrev main_c_126 : Ref sig .tc := ⟨.hbm, 537, rfl⟩
abbrev main_v380 : Ref sig .tc := ⟨.hbm, 538, rfl⟩
abbrev main_v381 : Ref sig .tc := ⟨.hbm, 539, rfl⟩
abbrev main_v382 : Ref sig .tc := ⟨.hbm, 540, rfl⟩
abbrev main_v383 : Ref sig .tc := ⟨.hbm, 541, rfl⟩
abbrev main_v384 : Ref sig .tc := ⟨.hbm, 542, rfl⟩
abbrev main_c_127 : Ref sig .tc := ⟨.hbm, 543, rfl⟩
abbrev main_v385 : Ref sig .tc := ⟨.hbm, 544, rfl⟩
abbrev main_v386 : Ref sig .tc := ⟨.hbm, 545, rfl⟩
abbrev main_c_128 : Ref sig .tc := ⟨.hbm, 546, rfl⟩
abbrev main_v387 : Ref sig .tc := ⟨.hbm, 547, rfl⟩
abbrev main_v388 : Ref sig .tc := ⟨.hbm, 548, rfl⟩
abbrev main_v389 : Ref sig .tc := ⟨.hbm, 549, rfl⟩
abbrev main_v390 : Ref sig .tc := ⟨.hbm, 550, rfl⟩
abbrev main_v391 : Ref sig .tc := ⟨.hbm, 551, rfl⟩
abbrev main_c_129 : Ref sig .tc := ⟨.hbm, 552, rfl⟩
abbrev main_v392 : Ref sig .tc := ⟨.hbm, 553, rfl⟩
abbrev main_v393 : Ref sig .tc := ⟨.hbm, 554, rfl⟩
abbrev main_c_130 : Ref sig .tc := ⟨.hbm, 555, rfl⟩
abbrev main_v394 : Ref sig .tc := ⟨.hbm, 556, rfl⟩
abbrev main_v395 : Ref sig .tc := ⟨.hbm, 557, rfl⟩
abbrev main_v396 : Ref sig .tc := ⟨.hbm, 558, rfl⟩
abbrev main_v397 : Ref sig .tc := ⟨.hbm, 559, rfl⟩
abbrev main_c_131 : Ref sig .tc := ⟨.hbm, 560, rfl⟩
abbrev main_v398 : Ref sig .tc := ⟨.hbm, 561, rfl⟩
abbrev main_v399 : Ref sig .tc := ⟨.hbm, 562, rfl⟩
abbrev main_c_132 : Ref sig .tc := ⟨.hbm, 563, rfl⟩
abbrev main_v400 : Ref sig .tc := ⟨.hbm, 564, rfl⟩
abbrev main_v401 : Ref sig .tc := ⟨.hbm, 565, rfl⟩
abbrev main_c_133 : Ref sig .tc := ⟨.hbm, 566, rfl⟩
abbrev main_v402 : Ref sig .tc := ⟨.hbm, 567, rfl⟩
abbrev main_v403 : Ref sig .tc := ⟨.hbm, 568, rfl⟩
abbrev main_v404 : Ref sig .tc := ⟨.hbm, 569, rfl⟩
abbrev main_c_134 : Ref sig .tc := ⟨.hbm, 570, rfl⟩
abbrev main_v405 : Ref sig .tc := ⟨.hbm, 571, rfl⟩
abbrev main_v406 : Ref sig .tc := ⟨.hbm, 572, rfl⟩
abbrev main_c_135 : Ref sig .tc := ⟨.hbm, 573, rfl⟩
abbrev main_v407 : Ref sig .tc := ⟨.hbm, 574, rfl⟩
abbrev main_v408 : Ref sig .tc := ⟨.hbm, 575, rfl⟩
abbrev main_v409 : Ref sig .tc := ⟨.hbm, 576, rfl⟩
abbrev main_v410 : Ref sig .tc := ⟨.hbm, 577, rfl⟩
abbrev main_v411 : Ref sig .tc := ⟨.hbm, 578, rfl⟩
abbrev main_c_136 : Ref sig .tc := ⟨.hbm, 579, rfl⟩
abbrev main_v412 : Ref sig .tc := ⟨.hbm, 580, rfl⟩
abbrev main_v413 : Ref sig .tc := ⟨.hbm, 581, rfl⟩
abbrev main_c_137 : Ref sig .tc := ⟨.hbm, 582, rfl⟩
abbrev main_v414 : Ref sig .tc := ⟨.hbm, 583, rfl⟩
abbrev main_v415 : Ref sig .tc := ⟨.hbm, 584, rfl⟩
abbrev main_v416 : Ref sig .tc := ⟨.hbm, 585, rfl⟩
abbrev main_v417 : Ref sig .tc := ⟨.hbm, 586, rfl⟩
abbrev main_v418 : Ref sig .tc := ⟨.hbm, 587, rfl⟩
abbrev main_c_138 : Ref sig .tc := ⟨.hbm, 588, rfl⟩
abbrev main_v419 : Ref sig .tc := ⟨.hbm, 589, rfl⟩
abbrev main_v420 : Ref sig .tc := ⟨.hbm, 590, rfl⟩
abbrev main_c_139 : Ref sig .tc := ⟨.hbm, 591, rfl⟩
abbrev main_v421 : Ref sig .tc := ⟨.hbm, 592, rfl⟩
abbrev main_v422 : Ref sig .tc := ⟨.hbm, 593, rfl⟩
abbrev main_v423 : Ref sig .tc := ⟨.hbm, 594, rfl⟩
abbrev main_v424 : Ref sig .tc := ⟨.hbm, 595, rfl⟩
abbrev main_v425 : Ref sig .tc := ⟨.hbm, 596, rfl⟩
abbrev main_c_140 : Ref sig .tc := ⟨.hbm, 597, rfl⟩
abbrev main_v426 : Ref sig .tc := ⟨.hbm, 598, rfl⟩
abbrev main_v427 : Ref sig .tc := ⟨.hbm, 599, rfl⟩
abbrev main_c_141 : Ref sig .tc := ⟨.hbm, 600, rfl⟩
abbrev main_v428 : Ref sig .tc := ⟨.hbm, 601, rfl⟩
abbrev main_v429 : Ref sig .tc := ⟨.hbm, 602, rfl⟩
abbrev main_v430 : Ref sig .tc := ⟨.hbm, 603, rfl⟩
abbrev main_v431 : Ref sig .tc := ⟨.hbm, 604, rfl⟩
abbrev main_c_142 : Ref sig .tc := ⟨.hbm, 605, rfl⟩
abbrev main_v432 : Ref sig .tc := ⟨.hbm, 606, rfl⟩
abbrev main_v433 : Ref sig .tc := ⟨.hbm, 607, rfl⟩
abbrev main_c_143 : Ref sig .tc := ⟨.hbm, 608, rfl⟩
abbrev main_v434 : Ref sig .tc := ⟨.hbm, 609, rfl⟩
abbrev main_v435 : Ref sig .tc := ⟨.hbm, 610, rfl⟩
abbrev main_c_144 : Ref sig .tc := ⟨.hbm, 611, rfl⟩
abbrev main_v436 : Ref sig .tc := ⟨.hbm, 612, rfl⟩
abbrev main_v437 : Ref sig .tc := ⟨.hbm, 613, rfl⟩
abbrev main_v438 : Ref sig .tc := ⟨.hbm, 614, rfl⟩
abbrev main_c_145 : Ref sig .tc := ⟨.hbm, 615, rfl⟩
abbrev main_v439 : Ref sig .tc := ⟨.hbm, 616, rfl⟩
abbrev main_v440 : Ref sig .tc := ⟨.hbm, 617, rfl⟩
abbrev main_c_146 : Ref sig .tc := ⟨.hbm, 618, rfl⟩
abbrev main_v441 : Ref sig .tc := ⟨.hbm, 619, rfl⟩
abbrev main_v442 : Ref sig .tc := ⟨.hbm, 620, rfl⟩
abbrev main_v443 : Ref sig .tc := ⟨.hbm, 621, rfl⟩
abbrev main_v444 : Ref sig .tc := ⟨.hbm, 622, rfl⟩
abbrev main_v445 : Ref sig .tc := ⟨.hbm, 623, rfl⟩
abbrev main_c_147 : Ref sig .tc := ⟨.hbm, 624, rfl⟩
abbrev main_v446 : Ref sig .tc := ⟨.hbm, 625, rfl⟩
abbrev main_v447 : Ref sig .tc := ⟨.hbm, 626, rfl⟩
abbrev main_c_148 : Ref sig .tc := ⟨.hbm, 627, rfl⟩
abbrev main_v448 : Ref sig .tc := ⟨.hbm, 628, rfl⟩
abbrev main_v449 : Ref sig .tc := ⟨.hbm, 629, rfl⟩
abbrev main_v450 : Ref sig .tc := ⟨.hbm, 630, rfl⟩
abbrev main_v451 : Ref sig .tc := ⟨.hbm, 631, rfl⟩
abbrev main_v452 : Ref sig .tc := ⟨.hbm, 632, rfl⟩
abbrev main_c_149 : Ref sig .tc := ⟨.hbm, 633, rfl⟩
abbrev main_v453 : Ref sig .tc := ⟨.hbm, 634, rfl⟩
abbrev main_v454 : Ref sig .tc := ⟨.hbm, 635, rfl⟩
abbrev main_c_150 : Ref sig .tc := ⟨.hbm, 636, rfl⟩
abbrev main_v455 : Ref sig .tc := ⟨.hbm, 637, rfl⟩
abbrev main_v456 : Ref sig .tc := ⟨.hbm, 638, rfl⟩
abbrev main_v457 : Ref sig .tc := ⟨.hbm, 639, rfl⟩
abbrev main_v458 : Ref sig .tc := ⟨.hbm, 640, rfl⟩
abbrev main_v459 : Ref sig .tc := ⟨.hbm, 641, rfl⟩
abbrev main_c_151 : Ref sig .tc := ⟨.hbm, 642, rfl⟩
abbrev main_v460 : Ref sig .tc := ⟨.hbm, 643, rfl⟩
abbrev main_v461 : Ref sig .tc := ⟨.hbm, 644, rfl⟩
abbrev main_c_152 : Ref sig .tc := ⟨.hbm, 645, rfl⟩
abbrev main_v462 : Ref sig .tc := ⟨.hbm, 646, rfl⟩
abbrev main_v463 : Ref sig .tc := ⟨.hbm, 647, rfl⟩
abbrev main_v464 : Ref sig .tc := ⟨.hbm, 648, rfl⟩
abbrev main_v465 : Ref sig .tc := ⟨.hbm, 649, rfl⟩
abbrev main_c_153 : Ref sig .tc := ⟨.hbm, 650, rfl⟩
abbrev main_v466 : Ref sig .tc := ⟨.hbm, 651, rfl⟩
abbrev main_v467 : Ref sig .tc := ⟨.hbm, 652, rfl⟩
abbrev main_c_154 : Ref sig .tc := ⟨.hbm, 653, rfl⟩
abbrev main_v468 : Ref sig .tc := ⟨.hbm, 654, rfl⟩
abbrev main_v469 : Ref sig .tc := ⟨.hbm, 655, rfl⟩
abbrev main_c_155 : Ref sig .tc := ⟨.hbm, 656, rfl⟩
abbrev main_v470 : Ref sig .tc := ⟨.hbm, 657, rfl⟩
abbrev main_v471 : Ref sig .tc := ⟨.hbm, 658, rfl⟩
abbrev main_v472 : Ref sig .tc := ⟨.hbm, 659, rfl⟩
abbrev main_c_156 : Ref sig .tc := ⟨.hbm, 660, rfl⟩
abbrev main_v473 : Ref sig .tc := ⟨.hbm, 661, rfl⟩
abbrev main_v474 : Ref sig .tc := ⟨.hbm, 662, rfl⟩
abbrev main_c_157 : Ref sig .tc := ⟨.hbm, 663, rfl⟩
abbrev main_v475 : Ref sig .tc := ⟨.hbm, 664, rfl⟩
abbrev main_v476 : Ref sig .tc := ⟨.hbm, 665, rfl⟩
abbrev main_v477 : Ref sig .tc := ⟨.hbm, 666, rfl⟩
abbrev main_cst_158 : Ref sig .tc := ⟨.hbm, 667, rfl⟩
abbrev main_v478 : Ref sig .tc := ⟨.hbm, 668, rfl⟩
abbrev main_v479 : Ref sig .tc := ⟨.hbm, 669, rfl⟩
abbrev main_v480 : Ref sig .tc := ⟨.hbm, 670, rfl⟩
abbrev main_v481 : Ref sig .tc := ⟨.hbm, 671, rfl⟩
abbrev main_c_159 : Ref sig .tc := ⟨.hbm, 672, rfl⟩
abbrev main_v482 : Ref sig .tc := ⟨.hbm, 673, rfl⟩
abbrev main_v483 : Ref sig .tc := ⟨.hbm, 674, rfl⟩
abbrev main_c_160 : Ref sig .tc := ⟨.hbm, 675, rfl⟩
abbrev main_v484 : Ref sig .tc := ⟨.hbm, 676, rfl⟩
abbrev main_v485 : Ref sig .tc := ⟨.hbm, 677, rfl⟩
abbrev main_v486 : Ref sig .tc := ⟨.hbm, 678, rfl⟩
abbrev main_v487 : Ref sig .tc := ⟨.hbm, 679, rfl⟩
abbrev main_v488 : Ref sig .tc := ⟨.hbm, 680, rfl⟩
abbrev main_cst_161 : Ref sig .tc := ⟨.hbm, 681, rfl⟩
abbrev main_v489 : Ref sig .tc := ⟨.hbm, 682, rfl⟩
abbrev main_v490 : Ref sig .tc := ⟨.hbm, 683, rfl⟩
abbrev main_c_162 : Ref sig .tc := ⟨.hbm, 684, rfl⟩
abbrev main_v491 : Ref sig .tc := ⟨.hbm, 685, rfl⟩
abbrev main_v492 : Ref sig .tc := ⟨.hbm, 686, rfl⟩
abbrev main_c_163 : Ref sig .tc := ⟨.hbm, 687, rfl⟩
abbrev main_v493 : Ref sig .tc := ⟨.hbm, 688, rfl⟩
abbrev main_v494 : Ref sig .tc := ⟨.hbm, 689, rfl⟩
abbrev main_v495 : Ref sig .tc := ⟨.hbm, 690, rfl⟩
abbrev main_v496 : Ref sig .tc := ⟨.hbm, 691, rfl⟩
abbrev main_v497 : Ref sig .tc := ⟨.hbm, 692, rfl⟩
abbrev main_v498 : Ref sig .tc := ⟨.hbm, 693, rfl⟩
abbrev main_c_164 : Ref sig .tc := ⟨.hbm, 694, rfl⟩
abbrev main_v499 : Ref sig .tc := ⟨.hbm, 695, rfl⟩
abbrev main_c_165 : Ref sig .tc := ⟨.hbm, 696, rfl⟩
abbrev main_v500 : Ref sig .tc := ⟨.hbm, 697, rfl⟩
abbrev main_v501 : Ref sig .tc := ⟨.hbm, 698, rfl⟩
abbrev main_c_166 : Ref sig .tc := ⟨.hbm, 699, rfl⟩
abbrev main_v502 : Ref sig .tc := ⟨.hbm, 700, rfl⟩
abbrev main_v503 : Ref sig .tc := ⟨.hbm, 701, rfl⟩
abbrev main_v504 : Ref sig .tc := ⟨.hbm, 702, rfl⟩
abbrev main_c_167 : Ref sig .tc := ⟨.hbm, 703, rfl⟩
abbrev main_v505 : Ref sig .tc := ⟨.hbm, 704, rfl⟩
abbrev main_v506 : Ref sig .tc := ⟨.hbm, 705, rfl⟩
abbrev main_c_168 : Ref sig .tc := ⟨.hbm, 706, rfl⟩
abbrev main_v507 : Ref sig .tc := ⟨.hbm, 707, rfl⟩
abbrev main_v508 : Ref sig .tc := ⟨.hbm, 708, rfl⟩
abbrev main_v509 : Ref sig .tc := ⟨.hbm, 709, rfl⟩
abbrev main_v510 : Ref sig .tc := ⟨.hbm, 710, rfl⟩
abbrev main_v511 : Ref sig .tc := ⟨.hbm, 711, rfl⟩
abbrev main_c_169 : Ref sig .tc := ⟨.hbm, 712, rfl⟩
abbrev main_v512 : Ref sig .tc := ⟨.hbm, 713, rfl⟩
abbrev main_v513 : Ref sig .tc := ⟨.hbm, 714, rfl⟩
abbrev main_c_170 : Ref sig .tc := ⟨.hbm, 715, rfl⟩
abbrev main_v514 : Ref sig .tc := ⟨.hbm, 716, rfl⟩
abbrev main_v515 : Ref sig .tc := ⟨.hbm, 717, rfl⟩
abbrev main_v516 : Ref sig .tc := ⟨.hbm, 718, rfl⟩
abbrev main_v517 : Ref sig .tc := ⟨.hbm, 719, rfl⟩
abbrev main_v518 : Ref sig .tc := ⟨.hbm, 720, rfl⟩
abbrev main_c_171 : Ref sig .tc := ⟨.hbm, 721, rfl⟩
abbrev main_v519 : Ref sig .tc := ⟨.hbm, 722, rfl⟩
abbrev main_v520 : Ref sig .tc := ⟨.hbm, 723, rfl⟩
abbrev main_c_172 : Ref sig .tc := ⟨.hbm, 724, rfl⟩
abbrev main_v521 : Ref sig .tc := ⟨.hbm, 725, rfl⟩
abbrev main_v522 : Ref sig .tc := ⟨.hbm, 726, rfl⟩
abbrev main_v523 : Ref sig .tc := ⟨.hbm, 727, rfl⟩
abbrev main_v524 : Ref sig .tc := ⟨.hbm, 728, rfl⟩
abbrev main_v525 : Ref sig .tc := ⟨.hbm, 729, rfl⟩
abbrev main_c_173 : Ref sig .tc := ⟨.hbm, 730, rfl⟩
abbrev main_v526 : Ref sig .tc := ⟨.hbm, 731, rfl⟩
abbrev main_v527 : Ref sig .tc := ⟨.hbm, 732, rfl⟩
abbrev main_c_174 : Ref sig .tc := ⟨.hbm, 733, rfl⟩
abbrev main_v528 : Ref sig .tc := ⟨.hbm, 734, rfl⟩
abbrev main_v529 : Ref sig .tc := ⟨.hbm, 735, rfl⟩
abbrev main_v530 : Ref sig .tc := ⟨.hbm, 736, rfl⟩
abbrev main_v531 : Ref sig .tc := ⟨.hbm, 737, rfl⟩
abbrev main_c_175 : Ref sig .tc := ⟨.hbm, 738, rfl⟩
abbrev main_v532 : Ref sig .tc := ⟨.hbm, 739, rfl⟩
abbrev main_v533 : Ref sig .tc := ⟨.hbm, 740, rfl⟩
abbrev main_c_176 : Ref sig .tc := ⟨.hbm, 741, rfl⟩
abbrev main_v534 : Ref sig .tc := ⟨.hbm, 742, rfl⟩
abbrev main_v535 : Ref sig .tc := ⟨.hbm, 743, rfl⟩
abbrev main_c_177 : Ref sig .tc := ⟨.hbm, 744, rfl⟩
abbrev main_v536 : Ref sig .tc := ⟨.hbm, 745, rfl⟩
abbrev main_v537 : Ref sig .tc := ⟨.hbm, 746, rfl⟩
abbrev main_v538 : Ref sig .tc := ⟨.hbm, 747, rfl⟩
abbrev main_c_178 : Ref sig .tc := ⟨.hbm, 748, rfl⟩
abbrev main_v539 : Ref sig .tc := ⟨.hbm, 749, rfl⟩
abbrev main_v540 : Ref sig .tc := ⟨.hbm, 750, rfl⟩
abbrev main_c_179 : Ref sig .tc := ⟨.hbm, 751, rfl⟩
abbrev main_v541 : Ref sig .tc := ⟨.hbm, 752, rfl⟩
abbrev main_v542 : Ref sig .tc := ⟨.hbm, 753, rfl⟩
abbrev main_v543 : Ref sig .tc := ⟨.hbm, 754, rfl⟩
abbrev main_v544 : Ref sig .tc := ⟨.hbm, 755, rfl⟩
abbrev main_v545 : Ref sig .tc := ⟨.hbm, 756, rfl⟩
abbrev main_c_180 : Ref sig .tc := ⟨.hbm, 757, rfl⟩
abbrev main_v546 : Ref sig .tc := ⟨.hbm, 758, rfl⟩
abbrev main_v547 : Ref sig .tc := ⟨.hbm, 759, rfl⟩
abbrev main_c_181 : Ref sig .tc := ⟨.hbm, 760, rfl⟩
abbrev main_v548 : Ref sig .tc := ⟨.hbm, 761, rfl⟩
abbrev main_v549 : Ref sig .tc := ⟨.hbm, 762, rfl⟩
abbrev main_v550 : Ref sig .tc := ⟨.hbm, 763, rfl⟩
abbrev main_v551 : Ref sig .tc := ⟨.hbm, 764, rfl⟩
abbrev main_v552 : Ref sig .tc := ⟨.hbm, 765, rfl⟩
abbrev main_c_182 : Ref sig .tc := ⟨.hbm, 766, rfl⟩
abbrev main_v553 : Ref sig .tc := ⟨.hbm, 767, rfl⟩
abbrev main_v554 : Ref sig .tc := ⟨.hbm, 768, rfl⟩
abbrev main_c_183 : Ref sig .tc := ⟨.hbm, 769, rfl⟩
abbrev main_v555 : Ref sig .tc := ⟨.hbm, 770, rfl⟩
abbrev main_v556 : Ref sig .tc := ⟨.hbm, 771, rfl⟩
abbrev main_v557 : Ref sig .tc := ⟨.hbm, 772, rfl⟩
abbrev main_v558 : Ref sig .tc := ⟨.hbm, 773, rfl⟩
abbrev main_v559 : Ref sig .tc := ⟨.hbm, 774, rfl⟩
abbrev main_c_184 : Ref sig .tc := ⟨.hbm, 775, rfl⟩
abbrev main_v560 : Ref sig .tc := ⟨.hbm, 776, rfl⟩
abbrev main_v561 : Ref sig .tc := ⟨.hbm, 777, rfl⟩
abbrev main_c_185 : Ref sig .tc := ⟨.hbm, 778, rfl⟩
abbrev main_v562 : Ref sig .tc := ⟨.hbm, 779, rfl⟩
abbrev main_v563 : Ref sig .tc := ⟨.hbm, 780, rfl⟩
abbrev main_v564 : Ref sig .tc := ⟨.hbm, 781, rfl⟩
abbrev main_v565 : Ref sig .tc := ⟨.hbm, 782, rfl⟩
abbrev main_c_186 : Ref sig .tc := ⟨.hbm, 783, rfl⟩
abbrev main_v566 : Ref sig .tc := ⟨.hbm, 784, rfl⟩
abbrev main_v567 : Ref sig .tc := ⟨.hbm, 785, rfl⟩
abbrev main_c_187 : Ref sig .tc := ⟨.hbm, 786, rfl⟩
abbrev main_v568 : Ref sig .tc := ⟨.hbm, 787, rfl⟩
abbrev main_v569 : Ref sig .tc := ⟨.hbm, 788, rfl⟩
abbrev main_c_188 : Ref sig .tc := ⟨.hbm, 789, rfl⟩
abbrev main_v570 : Ref sig .tc := ⟨.hbm, 790, rfl⟩
abbrev main_v571 : Ref sig .tc := ⟨.hbm, 791, rfl⟩
abbrev main_v572 : Ref sig .tc := ⟨.hbm, 792, rfl⟩
abbrev main_c_189 : Ref sig .tc := ⟨.hbm, 793, rfl⟩
abbrev main_v573 : Ref sig .tc := ⟨.hbm, 794, rfl⟩
abbrev main_v574 : Ref sig .tc := ⟨.hbm, 795, rfl⟩
abbrev main_c_190 : Ref sig .tc := ⟨.hbm, 796, rfl⟩
abbrev main_v575 : Ref sig .tc := ⟨.hbm, 797, rfl⟩
abbrev main_v576 : Ref sig .tc := ⟨.hbm, 798, rfl⟩
abbrev main_v577 : Ref sig .tc := ⟨.hbm, 799, rfl⟩
abbrev main_v578 : Ref sig .tc := ⟨.hbm, 800, rfl⟩
abbrev main_v579 : Ref sig .tc := ⟨.hbm, 801, rfl⟩
abbrev main_c_191 : Ref sig .tc := ⟨.hbm, 802, rfl⟩
abbrev main_v580 : Ref sig .tc := ⟨.hbm, 803, rfl⟩
abbrev main_v581 : Ref sig .tc := ⟨.hbm, 804, rfl⟩
abbrev main_c_192 : Ref sig .tc := ⟨.hbm, 805, rfl⟩
abbrev main_v582 : Ref sig .tc := ⟨.hbm, 806, rfl⟩
abbrev main_v583 : Ref sig .tc := ⟨.hbm, 807, rfl⟩
abbrev main_v584 : Ref sig .tc := ⟨.hbm, 808, rfl⟩
abbrev main_v585 : Ref sig .tc := ⟨.hbm, 809, rfl⟩
abbrev main_v586 : Ref sig .tc := ⟨.hbm, 810, rfl⟩
abbrev main_c_193 : Ref sig .tc := ⟨.hbm, 811, rfl⟩
abbrev main_v587 : Ref sig .tc := ⟨.hbm, 812, rfl⟩
abbrev main_v588 : Ref sig .tc := ⟨.hbm, 813, rfl⟩
abbrev main_c_194 : Ref sig .tc := ⟨.hbm, 814, rfl⟩
abbrev main_v589 : Ref sig .tc := ⟨.hbm, 815, rfl⟩
abbrev main_v590 : Ref sig .tc := ⟨.hbm, 816, rfl⟩
abbrev main_v591 : Ref sig .tc := ⟨.hbm, 817, rfl⟩
abbrev main_v592 : Ref sig .tc := ⟨.hbm, 818, rfl⟩
abbrev main_v593 : Ref sig .tc := ⟨.hbm, 819, rfl⟩
abbrev main_c_195 : Ref sig .tc := ⟨.hbm, 820, rfl⟩
abbrev main_v594 : Ref sig .tc := ⟨.hbm, 821, rfl⟩
abbrev main_v595 : Ref sig .tc := ⟨.hbm, 822, rfl⟩
abbrev main_c_196 : Ref sig .tc := ⟨.hbm, 823, rfl⟩
abbrev main_v596 : Ref sig .tc := ⟨.hbm, 824, rfl⟩
abbrev main_v597 : Ref sig .tc := ⟨.hbm, 825, rfl⟩
abbrev main_v598 : Ref sig .tc := ⟨.hbm, 826, rfl⟩
abbrev main_v599 : Ref sig .tc := ⟨.hbm, 827, rfl⟩
abbrev main_c_197 : Ref sig .tc := ⟨.hbm, 828, rfl⟩
abbrev main_v600 : Ref sig .tc := ⟨.hbm, 829, rfl⟩
abbrev main_v601 : Ref sig .tc := ⟨.hbm, 830, rfl⟩
abbrev main_c_198 : Ref sig .tc := ⟨.hbm, 831, rfl⟩
abbrev main_v602 : Ref sig .tc := ⟨.hbm, 832, rfl⟩
abbrev main_v603 : Ref sig .tc := ⟨.hbm, 833, rfl⟩
abbrev main_c_199 : Ref sig .tc := ⟨.hbm, 834, rfl⟩
abbrev main_v604 : Ref sig .tc := ⟨.hbm, 835, rfl⟩
abbrev main_v605 : Ref sig .tc := ⟨.hbm, 836, rfl⟩
abbrev main_v606 : Ref sig .tc := ⟨.hbm, 837, rfl⟩
abbrev main_c_200 : Ref sig .tc := ⟨.hbm, 838, rfl⟩
abbrev main_v607 : Ref sig .tc := ⟨.hbm, 839, rfl⟩
abbrev main_v608 : Ref sig .tc := ⟨.hbm, 840, rfl⟩
abbrev main_c_201 : Ref sig .tc := ⟨.hbm, 841, rfl⟩
abbrev main_v609 : Ref sig .tc := ⟨.hbm, 842, rfl⟩
abbrev main_v610 : Ref sig .tc := ⟨.hbm, 843, rfl⟩
abbrev main_v611 : Ref sig .tc := ⟨.hbm, 844, rfl⟩
abbrev main_v612 : Ref sig .tc := ⟨.hbm, 845, rfl⟩
abbrev main_v613 : Ref sig .tc := ⟨.hbm, 846, rfl⟩
abbrev main_c_202 : Ref sig .tc := ⟨.hbm, 847, rfl⟩
abbrev main_v614 : Ref sig .tc := ⟨.hbm, 848, rfl⟩
abbrev main_v615 : Ref sig .tc := ⟨.hbm, 849, rfl⟩
abbrev main_c_203 : Ref sig .tc := ⟨.hbm, 850, rfl⟩
abbrev main_v616 : Ref sig .tc := ⟨.hbm, 851, rfl⟩
abbrev main_v617 : Ref sig .tc := ⟨.hbm, 852, rfl⟩
abbrev main_v618 : Ref sig .tc := ⟨.hbm, 853, rfl⟩
abbrev main_v619 : Ref sig .tc := ⟨.hbm, 854, rfl⟩
abbrev main_v620 : Ref sig .tc := ⟨.hbm, 855, rfl⟩
abbrev main_c_204 : Ref sig .tc := ⟨.hbm, 856, rfl⟩
abbrev main_v621 : Ref sig .tc := ⟨.hbm, 857, rfl⟩
abbrev main_v622 : Ref sig .tc := ⟨.hbm, 858, rfl⟩
abbrev main_c_205 : Ref sig .tc := ⟨.hbm, 859, rfl⟩
abbrev main_v623 : Ref sig .tc := ⟨.hbm, 860, rfl⟩
abbrev main_v624 : Ref sig .tc := ⟨.hbm, 861, rfl⟩
abbrev main_v625 : Ref sig .tc := ⟨.hbm, 862, rfl⟩
abbrev main_v626 : Ref sig .tc := ⟨.hbm, 863, rfl⟩
abbrev main_v627 : Ref sig .tc := ⟨.hbm, 864, rfl⟩
abbrev main_c_206 : Ref sig .tc := ⟨.hbm, 865, rfl⟩
abbrev main_v628 : Ref sig .tc := ⟨.hbm, 866, rfl⟩
abbrev main_v629 : Ref sig .tc := ⟨.hbm, 867, rfl⟩
abbrev main_c_207 : Ref sig .tc := ⟨.hbm, 868, rfl⟩
abbrev main_v630 : Ref sig .tc := ⟨.hbm, 869, rfl⟩
abbrev main_v631 : Ref sig .tc := ⟨.hbm, 870, rfl⟩
abbrev main_v632 : Ref sig .tc := ⟨.hbm, 871, rfl⟩
abbrev main_v633 : Ref sig .tc := ⟨.hbm, 872, rfl⟩
abbrev main_c_208 : Ref sig .tc := ⟨.hbm, 873, rfl⟩
abbrev main_v634 : Ref sig .tc := ⟨.hbm, 874, rfl⟩
abbrev main_v635 : Ref sig .tc := ⟨.hbm, 875, rfl⟩
abbrev main_c_209 : Ref sig .tc := ⟨.hbm, 876, rfl⟩
abbrev main_v636 : Ref sig .tc := ⟨.hbm, 877, rfl⟩
abbrev main_v637 : Ref sig .tc := ⟨.hbm, 878, rfl⟩
abbrev main_c_210 : Ref sig .tc := ⟨.hbm, 879, rfl⟩
abbrev main_v638 : Ref sig .tc := ⟨.hbm, 880, rfl⟩
abbrev main_v639 : Ref sig .tc := ⟨.hbm, 881, rfl⟩
abbrev main_v640 : Ref sig .tc := ⟨.hbm, 882, rfl⟩
abbrev main_c_211 : Ref sig .tc := ⟨.hbm, 883, rfl⟩
abbrev main_v641 : Ref sig .tc := ⟨.hbm, 884, rfl⟩
abbrev main_v642 : Ref sig .tc := ⟨.hbm, 885, rfl⟩
abbrev main_c_212 : Ref sig .tc := ⟨.hbm, 886, rfl⟩
abbrev main_v643 : Ref sig .tc := ⟨.hbm, 887, rfl⟩
abbrev main_v644 : Ref sig .tc := ⟨.hbm, 888, rfl⟩
abbrev main_v645 : Ref sig .tc := ⟨.hbm, 889, rfl⟩
abbrev main_v646 : Ref sig .tc := ⟨.hbm, 890, rfl⟩
abbrev main_v647 : Ref sig .tc := ⟨.hbm, 891, rfl⟩
abbrev main_c_213 : Ref sig .tc := ⟨.hbm, 892, rfl⟩
abbrev main_v648 : Ref sig .tc := ⟨.hbm, 893, rfl⟩
abbrev main_v649 : Ref sig .tc := ⟨.hbm, 894, rfl⟩
abbrev main_c_214 : Ref sig .tc := ⟨.hbm, 895, rfl⟩
abbrev main_v650 : Ref sig .tc := ⟨.hbm, 896, rfl⟩
abbrev main_v651 : Ref sig .tc := ⟨.hbm, 897, rfl⟩
abbrev main_v652 : Ref sig .tc := ⟨.hbm, 898, rfl⟩
abbrev main_v653 : Ref sig .tc := ⟨.hbm, 899, rfl⟩
abbrev main_v654 : Ref sig .tc := ⟨.hbm, 900, rfl⟩
abbrev main_c_215 : Ref sig .tc := ⟨.hbm, 901, rfl⟩
abbrev main_v655 : Ref sig .tc := ⟨.hbm, 902, rfl⟩
abbrev main_v656 : Ref sig .tc := ⟨.hbm, 903, rfl⟩
abbrev main_c_216 : Ref sig .tc := ⟨.hbm, 904, rfl⟩
abbrev main_v657 : Ref sig .tc := ⟨.hbm, 905, rfl⟩
abbrev main_v658 : Ref sig .tc := ⟨.hbm, 906, rfl⟩
abbrev main_v659 : Ref sig .tc := ⟨.hbm, 907, rfl⟩
abbrev main_v660 : Ref sig .tc := ⟨.hbm, 908, rfl⟩
abbrev main_v661 : Ref sig .tc := ⟨.hbm, 909, rfl⟩
abbrev main_c_217 : Ref sig .tc := ⟨.hbm, 910, rfl⟩
abbrev main_v662 : Ref sig .tc := ⟨.hbm, 911, rfl⟩
abbrev main_v663 : Ref sig .tc := ⟨.hbm, 912, rfl⟩
abbrev main_c_218 : Ref sig .tc := ⟨.hbm, 913, rfl⟩
abbrev main_v664 : Ref sig .tc := ⟨.hbm, 914, rfl⟩
abbrev main_v665 : Ref sig .tc := ⟨.hbm, 915, rfl⟩
abbrev main_v666 : Ref sig .tc := ⟨.hbm, 916, rfl⟩
abbrev main_v667 : Ref sig .tc := ⟨.hbm, 917, rfl⟩
abbrev main_c_219 : Ref sig .tc := ⟨.hbm, 918, rfl⟩
abbrev main_v668 : Ref sig .tc := ⟨.hbm, 919, rfl⟩
abbrev main_v669 : Ref sig .tc := ⟨.hbm, 920, rfl⟩
abbrev main_c_220 : Ref sig .tc := ⟨.hbm, 921, rfl⟩
abbrev main_v670 : Ref sig .tc := ⟨.hbm, 922, rfl⟩
abbrev main_v671 : Ref sig .tc := ⟨.hbm, 923, rfl⟩
abbrev main_c_221 : Ref sig .tc := ⟨.hbm, 924, rfl⟩
abbrev main_v672 : Ref sig .tc := ⟨.hbm, 925, rfl⟩
abbrev main_v673 : Ref sig .tc := ⟨.hbm, 926, rfl⟩
abbrev main_v674 : Ref sig .tc := ⟨.hbm, 927, rfl⟩
abbrev main_c_222 : Ref sig .tc := ⟨.hbm, 928, rfl⟩
abbrev main_v675 : Ref sig .tc := ⟨.hbm, 929, rfl⟩
abbrev main_v676 : Ref sig .tc := ⟨.hbm, 930, rfl⟩
abbrev main_c_223 : Ref sig .tc := ⟨.hbm, 931, rfl⟩
abbrev main_v677 : Ref sig .tc := ⟨.hbm, 932, rfl⟩
abbrev main_v678 : Ref sig .tc := ⟨.hbm, 933, rfl⟩
abbrev main_v679 : Ref sig .tc := ⟨.hbm, 934, rfl⟩
abbrev main_cst_224 : Ref sig .tc := ⟨.hbm, 935, rfl⟩
abbrev main_v680 : Ref sig .tc := ⟨.hbm, 936, rfl⟩
abbrev main_v681 : Ref sig .tc := ⟨.hbm, 937, rfl⟩
abbrev main_cst_225 : Ref sig .tc := ⟨.hbm, 938, rfl⟩
abbrev main_v682 : Ref sig .tc := ⟨.hbm, 939, rfl⟩
abbrev main_v683 : Ref sig .tc := ⟨.hbm, 940, rfl⟩
abbrev main_cst_226 : Ref sig .tc := ⟨.hbm, 941, rfl⟩
abbrev main_v684 : Ref sig .tc := ⟨.hbm, 942, rfl⟩
abbrev main_v685 : Ref sig .tc := ⟨.hbm, 943, rfl⟩
abbrev main_cst_227 : Ref sig .tc := ⟨.hbm, 944, rfl⟩
abbrev main_v686 : Ref sig .tc := ⟨.hbm, 945, rfl⟩
abbrev main_v687 : Ref sig .tc := ⟨.hbm, 946, rfl⟩
abbrev main_v688 : Ref sig .tc := ⟨.hbm, 947, rfl⟩
abbrev main_v689 : Ref sig .tc := ⟨.hbm, 948, rfl⟩
abbrev main_v690 : Ref sig .tc := ⟨.hbm, 949, rfl⟩
abbrev main_v691 : Ref sig .tc := ⟨.hbm, 950, rfl⟩
abbrev main_cst_228 : Ref sig .tc := ⟨.hbm, 951, rfl⟩
abbrev main_v692 : Ref sig .tc := ⟨.hbm, 952, rfl⟩
abbrev main_v693 : Ref sig .tc := ⟨.hbm, 953, rfl⟩
abbrev main_cst_229 : Ref sig .tc := ⟨.hbm, 954, rfl⟩
abbrev main_v694 : Ref sig .tc := ⟨.hbm, 955, rfl⟩
abbrev main_v695 : Ref sig .tc := ⟨.hbm, 956, rfl⟩
abbrev main_v696 : Ref sig .tc := ⟨.hbm, 957, rfl⟩
abbrev main_cst_230 : Ref sig .tc := ⟨.hbm, 958, rfl⟩
abbrev main_v697 : Ref sig .tc := ⟨.hbm, 959, rfl⟩
abbrev main_v698 : Ref sig .tc := ⟨.hbm, 960, rfl⟩
abbrev main_v699 : Ref sig .tc := ⟨.hbm, 961, rfl⟩
abbrev main_cst_231 : Ref sig .tc := ⟨.hbm, 962, rfl⟩
abbrev main_cst_232 : Ref sig .tc := ⟨.hbm, 963, rfl⟩
abbrev main_call12_v0 : Ref sig .tc := ⟨.hbm, 964, rfl⟩
abbrev main_call12_v1 : Ref sig .tc := ⟨.hbm, 965, rfl⟩
abbrev main_v700 : Ref sig .tc := ⟨.hbm, 966, rfl⟩
abbrev main_cst_233 : Ref sig .tc := ⟨.hbm, 967, rfl⟩
abbrev main_cst_234 : Ref sig .tc := ⟨.hbm, 968, rfl⟩
abbrev main_call13_v0 : Ref sig .tc := ⟨.hbm, 969, rfl⟩
abbrev main_call13_v1 : Ref sig .tc := ⟨.hbm, 970, rfl⟩
abbrev main_v701 : Ref sig .tc := ⟨.hbm, 971, rfl⟩
abbrev main_v702 : Ref sig .tc := ⟨.hbm, 972, rfl⟩
abbrev main_v703 : Ref sig .tc := ⟨.hbm, 973, rfl⟩
abbrev main_v704 : Ref sig .tc := ⟨.hbm, 974, rfl⟩
abbrev main_v705 : Ref sig .tc := ⟨.hbm, 975, rfl⟩
abbrev main_cst_235 : Ref sig .tc := ⟨.hbm, 976, rfl⟩
abbrev main_cst_236 : Ref sig .tc := ⟨.hbm, 977, rfl⟩
abbrev main_call14_v0 : Ref sig .tc := ⟨.hbm, 978, rfl⟩
abbrev main_call14_v1 : Ref sig .tc := ⟨.hbm, 979, rfl⟩
abbrev main_v706 : Ref sig .tc := ⟨.hbm, 980, rfl⟩
abbrev main_v707 : Ref sig .tc := ⟨.hbm, 981, rfl⟩
abbrev main_v708 : Ref sig .tc := ⟨.hbm, 982, rfl⟩
abbrev main_v709 : Ref sig .tc := ⟨.hbm, 983, rfl⟩
abbrev main_cst_237 : Ref sig .tc := ⟨.hbm, 984, rfl⟩
abbrev main_cst_238 : Ref sig .tc := ⟨.hbm, 985, rfl⟩
abbrev main_call15_v0 : Ref sig .tc := ⟨.hbm, 986, rfl⟩
abbrev main_call15_v1 : Ref sig .tc := ⟨.hbm, 987, rfl⟩
abbrev main_v710 : Ref sig .tc := ⟨.hbm, 988, rfl⟩
abbrev main_v711 : Ref sig .tc := ⟨.hbm, 989, rfl⟩
abbrev main_v712 : Ref sig .tc := ⟨.hbm, 990, rfl⟩
abbrev main_v713 : Ref sig .tc := ⟨.hbm, 991, rfl⟩
abbrev main_cst_239 : Ref sig .tc := ⟨.hbm, 992, rfl⟩
abbrev main_cst_240 : Ref sig .tc := ⟨.hbm, 993, rfl⟩
abbrev main_call16_v0 : Ref sig .tc := ⟨.hbm, 994, rfl⟩
abbrev main_call16_v1 : Ref sig .tc := ⟨.hbm, 995, rfl⟩
abbrev main_v714 : Ref sig .tc := ⟨.hbm, 996, rfl⟩
abbrev main_v715 : Ref sig .tc := ⟨.hbm, 997, rfl⟩
abbrev main_v716 : Ref sig .tc := ⟨.hbm, 998, rfl⟩
abbrev main_v717 : Ref sig .tc := ⟨.hbm, 999, rfl⟩
abbrev main_cst_241 : Ref sig .tc := ⟨.hbm, 1000, rfl⟩
abbrev main_cst_242 : Ref sig .tc := ⟨.hbm, 1001, rfl⟩
abbrev main_call17_v0 : Ref sig .tc := ⟨.hbm, 1002, rfl⟩
abbrev main_call17_v1 : Ref sig .tc := ⟨.hbm, 1003, rfl⟩
abbrev main_v718 : Ref sig .tc := ⟨.hbm, 1004, rfl⟩
abbrev main_v719 : Ref sig .tc := ⟨.hbm, 1005, rfl⟩
abbrev main_v720 : Ref sig .tc := ⟨.hbm, 1006, rfl⟩
abbrev main_v721 : Ref sig .tc := ⟨.hbm, 1007, rfl⟩
abbrev main_cst_243 : Ref sig .tc := ⟨.hbm, 1008, rfl⟩
abbrev main_cst_244 : Ref sig .tc := ⟨.hbm, 1009, rfl⟩
abbrev main_call18_v0 : Ref sig .tc := ⟨.hbm, 1010, rfl⟩
abbrev main_call18_v1 : Ref sig .tc := ⟨.hbm, 1011, rfl⟩
abbrev main_v722 : Ref sig .tc := ⟨.hbm, 1012, rfl⟩
abbrev main_v723 : Ref sig .tc := ⟨.hbm, 1013, rfl⟩
abbrev main_v724 : Ref sig .tc := ⟨.hbm, 1014, rfl⟩
abbrev main_v725 : Ref sig .tc := ⟨.hbm, 1015, rfl⟩
abbrev main_cst_245 : Ref sig .tc := ⟨.hbm, 1016, rfl⟩
abbrev main_cst_246 : Ref sig .tc := ⟨.hbm, 1017, rfl⟩
abbrev main_call19_v0 : Ref sig .tc := ⟨.hbm, 1018, rfl⟩
abbrev main_call19_v1 : Ref sig .tc := ⟨.hbm, 1019, rfl⟩
abbrev main_v726 : Ref sig .tc := ⟨.hbm, 1020, rfl⟩
abbrev main_v727 : Ref sig .tc := ⟨.hbm, 1021, rfl⟩
abbrev main_v728 : Ref sig .tc := ⟨.hbm, 1022, rfl⟩
abbrev main_v729 : Ref sig .tc := ⟨.hbm, 1023, rfl⟩
abbrev main_cst_247 : Ref sig .tc := ⟨.hbm, 1024, rfl⟩
abbrev main_cst_248 : Ref sig .tc := ⟨.hbm, 1025, rfl⟩
abbrev main_call20_v0 : Ref sig .tc := ⟨.hbm, 1026, rfl⟩
abbrev main_call20_v1 : Ref sig .tc := ⟨.hbm, 1027, rfl⟩
abbrev main_v730 : Ref sig .tc := ⟨.hbm, 1028, rfl⟩
abbrev main_v731 : Ref sig .tc := ⟨.hbm, 1029, rfl⟩
abbrev main_v732 : Ref sig .tc := ⟨.hbm, 1030, rfl⟩
abbrev main_v733 : Ref sig .tc := ⟨.hbm, 1031, rfl⟩
abbrev main_v734 : Ref sig .tc := ⟨.hbm, 1032, rfl⟩
abbrev main_cst_249 : Ref sig .tc := ⟨.hbm, 1033, rfl⟩
abbrev main_v735 : Ref sig .tc := ⟨.hbm, 1034, rfl⟩
abbrev main_v736 : Ref sig .tc := ⟨.hbm, 1035, rfl⟩
abbrev main_v737 : Ref sig .tc := ⟨.hbm, 1036, rfl⟩
abbrev main_v738 : Ref sig .tc := ⟨.hbm, 1037, rfl⟩
abbrev main_v739 : Ref sig .tc := ⟨.hbm, 1038, rfl⟩
abbrev main_cst_250 : Ref sig .tc := ⟨.hbm, 1039, rfl⟩
abbrev main_call21_v0 : Ref sig .tc := ⟨.hbm, 1040, rfl⟩
abbrev main_call21_v1 : Ref sig .tc := ⟨.hbm, 1041, rfl⟩
abbrev main_call21_v2 : Ref sig .tc := ⟨.hbm, 1042, rfl⟩
abbrev main_call21_cst : Ref sig .tc := ⟨.hbm, 1043, rfl⟩
abbrev main_call21_v3 : Ref sig .tc := ⟨.hbm, 1044, rfl⟩
abbrev main_call21_v4 : Ref sig .tc := ⟨.hbm, 1045, rfl⟩
abbrev main_call21_cst_0 : Ref sig .tc := ⟨.hbm, 1046, rfl⟩
abbrev main_call21_v5 : Ref sig .tc := ⟨.hbm, 1047, rfl⟩
abbrev main_call21_v6 : Ref sig .tc := ⟨.hbm, 1048, rfl⟩
abbrev main_call21_cst_1 : Ref sig .tc := ⟨.hbm, 1049, rfl⟩
abbrev main_call21_v7 : Ref sig .tc := ⟨.hbm, 1050, rfl⟩
abbrev main_call21_v8 : Ref sig .tc := ⟨.hbm, 1051, rfl⟩
abbrev main_call21_v9 : Ref sig .tc := ⟨.hbm, 1052, rfl⟩
abbrev main_call21_v10 : Ref sig .tc := ⟨.hbm, 1053, rfl⟩
abbrev main_call21_v11 : Ref sig .tc := ⟨.hbm, 1054, rfl⟩
abbrev main_call21_v12 : Ref sig .tc := ⟨.hbm, 1055, rfl⟩
abbrev main_v740 : Ref sig .tc := ⟨.hbm, 1056, rfl⟩
abbrev main_c_251 : Ref sig .tc := ⟨.hbm, 1057, rfl⟩
abbrev main_v741 : Ref sig .tc := ⟨.hbm, 1058, rfl⟩
abbrev main_v742 : Ref sig .tc := ⟨.hbm, 1059, rfl⟩
abbrev main_c_252 : Ref sig .tc := ⟨.hbm, 1060, rfl⟩
abbrev main_v743 : Ref sig .tc := ⟨.hbm, 1061, rfl⟩
abbrev main_v744 : Ref sig .tc := ⟨.hbm, 1062, rfl⟩
abbrev main_v745 : Ref sig .tc := ⟨.hbm, 1063, rfl⟩
abbrev main_v746 : Ref sig .tc := ⟨.hbm, 1064, rfl⟩
abbrev main_v747 : Ref sig .tc := ⟨.hbm, 1065, rfl⟩
abbrev main_v748 : Ref sig .tc := ⟨.hbm, 1066, rfl⟩
abbrev main_v749 : Ref sig .tc := ⟨.hbm, 1067, rfl⟩
abbrev main_v750 : Ref sig .tc := ⟨.hbm, 1068, rfl⟩
abbrev main_v751 : Ref sig .tc := ⟨.hbm, 1069, rfl⟩
abbrev main_v752 : Ref sig .tc := ⟨.hbm, 1070, rfl⟩
abbrev main_v753 : Ref sig .tc := ⟨.hbm, 1071, rfl⟩
abbrev main_v754 : Ref sig .tc := ⟨.hbm, 1072, rfl⟩
abbrev main_v755 : Ref sig .tc := ⟨.hbm, 1073, rfl⟩
abbrev main_v756 : Ref sig .tc := ⟨.hbm, 1074, rfl⟩
abbrev main_v757 : Ref sig .tc := ⟨.hbm, 1075, rfl⟩
abbrev main_v758 : Ref sig .tc := ⟨.hbm, 1076, rfl⟩
abbrev main_cst_253 : Ref sig .tc := ⟨.hbm, 1077, rfl⟩
abbrev main_v759 : Ref sig .tc := ⟨.hbm, 1078, rfl⟩
abbrev main_v760 : Ref sig .tc := ⟨.hbm, 1079, rfl⟩
abbrev main_v761 : Ref sig .tc := ⟨.hbm, 1080, rfl⟩
abbrev main_v762 : Ref sig .tc := ⟨.hbm, 1081, rfl⟩
abbrev main_v763 : Ref sig .tc := ⟨.hbm, 1082, rfl⟩
abbrev main_v764 : Ref sig .tc := ⟨.hbm, 1083, rfl⟩
abbrev main_v765 : Ref sig .tc := ⟨.hbm, 1084, rfl⟩
abbrev main_v766 : Ref sig .tc := ⟨.hbm, 1085, rfl⟩
abbrev main_v767 : Ref sig .tc := ⟨.hbm, 1086, rfl⟩
abbrev main_v768 : Ref sig .tc := ⟨.hbm, 1087, rfl⟩
abbrev main_v769 : Ref sig .tc := ⟨.hbm, 1088, rfl⟩
abbrev main_v770 : Ref sig .tc := ⟨.hbm, 1089, rfl⟩
abbrev main_v771 : Ref sig .tc := ⟨.hbm, 1090, rfl⟩
abbrev main_v772 : Ref sig .tc := ⟨.hbm, 1091, rfl⟩
abbrev main_v773 : Ref sig .tc := ⟨.hbm, 1092, rfl⟩
abbrev main_v774 : Ref sig .tc := ⟨.hbm, 1093, rfl⟩
abbrev main_v775 : Ref sig .tc := ⟨.hbm, 1094, rfl⟩
abbrev main_v776 : Ref sig .tc := ⟨.hbm, 1095, rfl⟩
abbrev main_v777 : Ref sig .tc := ⟨.hbm, 1096, rfl⟩
abbrev main_v778 : Ref sig .tc := ⟨.hbm, 1097, rfl⟩
abbrev main_v779 : Ref sig .tc := ⟨.hbm, 1098, rfl⟩
abbrev main_v780 : Ref sig .tc := ⟨.hbm, 1099, rfl⟩
abbrev main_v781 : Ref sig .tc := ⟨.hbm, 1100, rfl⟩
abbrev main_v782 : Ref sig .tc := ⟨.hbm, 1101, rfl⟩
abbrev main_v783 : Ref sig .tc := ⟨.hbm, 1102, rfl⟩
abbrev main_call23_v0 : Ref sig .tc := ⟨.hbm, 1103, rfl⟩
abbrev main_call23_cst : Ref sig .tc := ⟨.hbm, 1104, rfl⟩
abbrev main_call23_v1 : Ref sig .tc := ⟨.hbm, 1105, rfl⟩
abbrev main_v784 : Ref sig .tc := ⟨.hbm, 1106, rfl⟩
abbrev main_v785 : Ref sig .tc := ⟨.hbm, 1107, rfl⟩
abbrev main_v786 : Ref sig .tc := ⟨.hbm, 1108, rfl⟩
abbrev main_c_254 : Ref sig .tc := ⟨.hbm, 1109, rfl⟩
abbrev main_v787 : Ref sig .tc := ⟨.hbm, 1110, rfl⟩
abbrev main_v788 : Ref sig .tc := ⟨.hbm, 1111, rfl⟩
abbrev main_v789 : Ref sig .tc := ⟨.hbm, 1112, rfl⟩
abbrev main_v790 : Ref sig .tc := ⟨.hbm, 1113, rfl⟩
abbrev main_v791 : Ref sig .tc := ⟨.hbm, 1114, rfl⟩
abbrev main_v792 : Ref sig .tc := ⟨.hbm, 1115, rfl⟩
abbrev main_cst_255 : Ref sig .tc := ⟨.hbm, 1116, rfl⟩
abbrev main_v793 : Ref sig .tc := ⟨.hbm, 1117, rfl⟩
abbrev main_v794 : Ref sig .tc := ⟨.hbm, 1118, rfl⟩
abbrev main_cst_256 : Ref sig .tc := ⟨.hbm, 1119, rfl⟩
abbrev main_v795 : Ref sig .tc := ⟨.hbm, 1120, rfl⟩
abbrev main_v796 : Ref sig .tc := ⟨.hbm, 1121, rfl⟩
abbrev main_v797 : Ref sig .tc := ⟨.hbm, 1122, rfl⟩
abbrev main_cst_257 : Ref sig .tc := ⟨.hbm, 1123, rfl⟩
abbrev main_v798 : Ref sig .tc := ⟨.hbm, 1124, rfl⟩
abbrev main_v799 : Ref sig .tc := ⟨.hbm, 1125, rfl⟩
abbrev main_cst_258 : Ref sig .tc := ⟨.hbm, 1126, rfl⟩
abbrev main_v800 : Ref sig .tc := ⟨.hbm, 1127, rfl⟩
abbrev main_v801 : Ref sig .tc := ⟨.hbm, 1128, rfl⟩
abbrev main_v802 : Ref sig .tc := ⟨.hbm, 1129, rfl⟩
abbrev main_cst_259 : Ref sig .tc := ⟨.hbm, 1130, rfl⟩
abbrev main_v803 : Ref sig .tc := ⟨.hbm, 1131, rfl⟩
abbrev main_v804 : Ref sig .tc := ⟨.hbm, 1132, rfl⟩
abbrev main_v805 : Ref sig .tc := ⟨.hbm, 1133, rfl⟩
abbrev main_v806 : Ref sig .tc := ⟨.hbm, 1134, rfl⟩
abbrev main_v807 : Ref sig .tc := ⟨.hbm, 1135, rfl⟩
abbrev main_v808 : Ref sig .tc := ⟨.hbm, 1136, rfl⟩
abbrev main_v809 : Ref sig .tc := ⟨.hbm, 1137, rfl⟩
abbrev main_v810 : Ref sig .tc := ⟨.hbm, 1138, rfl⟩
abbrev main_v811 : Ref sig .tc := ⟨.hbm, 1139, rfl⟩
abbrev main_v812 : Ref sig .tc := ⟨.hbm, 1140, rfl⟩
abbrev main_v813 : Ref sig .tc := ⟨.hbm, 1141, rfl⟩
abbrev main_v814 : Ref sig .tc := ⟨.hbm, 1142, rfl⟩
abbrev main_v815 : Ref sig .tc := ⟨.hbm, 1143, rfl⟩
abbrev main_v816 : Ref sig .tc := ⟨.hbm, 1144, rfl⟩
abbrev main_v817 : Ref sig .tc := ⟨.hbm, 1145, rfl⟩
abbrev main_v818 : Ref sig .tc := ⟨.hbm, 1146, rfl⟩
abbrev main_v819 : Ref sig .tc := ⟨.hbm, 1147, rfl⟩
abbrev main_v820 : Ref sig .tc := ⟨.hbm, 1148, rfl⟩
abbrev main_v821 : Ref sig .tc := ⟨.hbm, 1149, rfl⟩
abbrev main_v822 : Ref sig .tc := ⟨.hbm, 1150, rfl⟩
abbrev main_v823 : Ref sig .tc := ⟨.hbm, 1151, rfl⟩
abbrev main_v824 : Ref sig .tc := ⟨.hbm, 1152, rfl⟩
abbrev main_cst_260 : Ref sig .tc := ⟨.hbm, 1153, rfl⟩
abbrev main_v825 : Ref sig .tc := ⟨.hbm, 1154, rfl⟩
abbrev main_v826 : Ref sig .tc := ⟨.hbm, 1155, rfl⟩
abbrev main_v827 : Ref sig .tc := ⟨.hbm, 1156, rfl⟩
abbrev main_v828 : Ref sig .tc := ⟨.hbm, 1157, rfl⟩
abbrev main_v829 : Ref sig .tc := ⟨.hbm, 1158, rfl⟩
abbrev main_v830 : Ref sig .tc := ⟨.hbm, 1159, rfl⟩
abbrev main_v831 : Ref sig .tc := ⟨.hbm, 1160, rfl⟩
abbrev main_v832 : Ref sig .tc := ⟨.hbm, 1161, rfl⟩
abbrev main_v833 : Ref sig .tc := ⟨.hbm, 1162, rfl⟩
abbrev main_v834 : Ref sig .tc := ⟨.hbm, 1163, rfl⟩
abbrev main_v835 : Ref sig .tc := ⟨.hbm, 1164, rfl⟩
abbrev main_v836 : Ref sig .tc := ⟨.hbm, 1165, rfl⟩
abbrev main_v837 : Ref sig .tc := ⟨.hbm, 1166, rfl⟩
abbrev main_v838 : Ref sig .tc := ⟨.hbm, 1167, rfl⟩
abbrev main_v839 : Ref sig .tc := ⟨.hbm, 1168, rfl⟩
abbrev main_v840 : Ref sig .tc := ⟨.hbm, 1169, rfl⟩
abbrev main_v841 : Ref sig .tc := ⟨.hbm, 1170, rfl⟩
abbrev main_v842 : Ref sig .tc := ⟨.hbm, 1171, rfl⟩
abbrev main_v843 : Ref sig .tc := ⟨.hbm, 1172, rfl⟩
abbrev main_v844 : Ref sig .tc := ⟨.hbm, 1173, rfl⟩
abbrev main_v845 : Ref sig .tc := ⟨.hbm, 1174, rfl⟩
abbrev main_v846 : Ref sig .tc := ⟨.hbm, 1175, rfl⟩
abbrev main_v847 : Ref sig .tc := ⟨.hbm, 1176, rfl⟩
abbrev main_v848 : Ref sig .tc := ⟨.hbm, 1177, rfl⟩
abbrev main_v849 : Ref sig .tc := ⟨.hbm, 1178, rfl⟩
abbrev main_call24_v0 : Ref sig .tc := ⟨.hbm, 1179, rfl⟩
abbrev main_call24_cst : Ref sig .tc := ⟨.hbm, 1180, rfl⟩
abbrev main_call24_v1 : Ref sig .tc := ⟨.hbm, 1181, rfl⟩
abbrev main_v850 : Ref sig .tc := ⟨.hbm, 1182, rfl⟩
abbrev main_v851 : Ref sig .tc := ⟨.hbm, 1183, rfl⟩
abbrev main_v852 : Ref sig .tc := ⟨.hbm, 1184, rfl⟩
abbrev main_c_261 : Ref sig .tc := ⟨.hbm, 1185, rfl⟩
abbrev main_v853 : Ref sig .tc := ⟨.hbm, 1186, rfl⟩
abbrev main_v854 : Ref sig .tc := ⟨.hbm, 1187, rfl⟩
abbrev main_v855 : Ref sig .tc := ⟨.hbm, 1188, rfl⟩
abbrev main_v856 : Ref sig .tc := ⟨.hbm, 1189, rfl⟩
abbrev main_v857 : Ref sig .tc := ⟨.hbm, 1190, rfl⟩
abbrev main_v858 : Ref sig .tc := ⟨.hbm, 1191, rfl⟩
abbrev main_cst_262 : Ref sig .tc := ⟨.hbm, 1192, rfl⟩
abbrev main_v859 : Ref sig .tc := ⟨.hbm, 1193, rfl⟩
abbrev main_v860 : Ref sig .tc := ⟨.hbm, 1194, rfl⟩
abbrev main_cst_263 : Ref sig .tc := ⟨.hbm, 1195, rfl⟩
abbrev main_v861 : Ref sig .tc := ⟨.hbm, 1196, rfl⟩
abbrev main_v862 : Ref sig .tc := ⟨.hbm, 1197, rfl⟩
abbrev main_v863 : Ref sig .tc := ⟨.hbm, 1198, rfl⟩
abbrev main_cst_264 : Ref sig .tc := ⟨.hbm, 1199, rfl⟩
abbrev main_v864 : Ref sig .tc := ⟨.hbm, 1200, rfl⟩
abbrev main_v865 : Ref sig .tc := ⟨.hbm, 1201, rfl⟩
abbrev main_cst_265 : Ref sig .tc := ⟨.hbm, 1202, rfl⟩
abbrev main_v866 : Ref sig .tc := ⟨.hbm, 1203, rfl⟩
abbrev main_v867 : Ref sig .tc := ⟨.hbm, 1204, rfl⟩
abbrev main_v868 : Ref sig .tc := ⟨.hbm, 1205, rfl⟩
abbrev main_cst_266 : Ref sig .tc := ⟨.hbm, 1206, rfl⟩
abbrev main_v869 : Ref sig .tc := ⟨.hbm, 1207, rfl⟩
abbrev main_v870 : Ref sig .tc := ⟨.hbm, 1208, rfl⟩
abbrev main_v871 : Ref sig .tc := ⟨.hbm, 1209, rfl⟩
abbrev main_v872 : Ref sig .tc := ⟨.hbm, 1210, rfl⟩
abbrev main_v873 : Ref sig .tc := ⟨.hbm, 1211, rfl⟩
abbrev main_v874 : Ref sig .tc := ⟨.hbm, 1212, rfl⟩
abbrev main_v875 : Ref sig .tc := ⟨.hbm, 1213, rfl⟩
abbrev main_v876 : Ref sig .tc := ⟨.hbm, 1214, rfl⟩
abbrev main_v877 : Ref sig .tc := ⟨.hbm, 1215, rfl⟩
abbrev main_v878 : Ref sig .tc := ⟨.hbm, 1216, rfl⟩
abbrev main_v879 : Ref sig .tc := ⟨.hbm, 1217, rfl⟩
abbrev main_v880 : Ref sig .tc := ⟨.hbm, 1218, rfl⟩
abbrev main_v881 : Ref sig .tc := ⟨.hbm, 1219, rfl⟩
abbrev main_v882 : Ref sig .tc := ⟨.hbm, 1220, rfl⟩
abbrev main_v883 : Ref sig .tc := ⟨.hbm, 1221, rfl⟩
abbrev main_v884 : Ref sig .tc := ⟨.hbm, 1222, rfl⟩
abbrev main_v885 : Ref sig .tc := ⟨.hbm, 1223, rfl⟩
abbrev main_v886 : Ref sig .tc := ⟨.hbm, 1224, rfl⟩
abbrev main_v887 : Ref sig .tc := ⟨.hbm, 1225, rfl⟩
abbrev main_v888 : Ref sig .tc := ⟨.hbm, 1226, rfl⟩
abbrev main_v889 : Ref sig .tc := ⟨.hbm, 1227, rfl⟩
abbrev main_v890 : Ref sig .tc := ⟨.hbm, 1228, rfl⟩
abbrev main_v891 : Ref sig .tc := ⟨.hbm, 1229, rfl⟩
abbrev main_cst_267 : Ref sig .tc := ⟨.hbm, 1230, rfl⟩
abbrev main_v892 : Ref sig .tc := ⟨.hbm, 1231, rfl⟩
abbrev main_v893 : Ref sig .tc := ⟨.hbm, 1232, rfl⟩
abbrev main_cst_268 : Ref sig .tc := ⟨.hbm, 1233, rfl⟩
abbrev main_v894 : Ref sig .tc := ⟨.hbm, 1234, rfl⟩
abbrev main_v895 : Ref sig .tc := ⟨.hbm, 1235, rfl⟩
abbrev main_cst_269 : Ref sig .tc := ⟨.hbm, 1236, rfl⟩
abbrev main_cst_270 : Ref sig .tc := ⟨.hbm, 1237, rfl⟩
abbrev main_call25_v0 : Ref sig .tc := ⟨.hbm, 1238, rfl⟩
abbrev main_call25_v1 : Ref sig .tc := ⟨.hbm, 1239, rfl⟩
abbrev main_call25_v2 : Ref sig .tc := ⟨.hbm, 1240, rfl⟩
abbrev main_call25_v3 : Ref sig .tc := ⟨.hbm, 1241, rfl⟩
abbrev main_call25_v4 : Ref sig .tc := ⟨.hbm, 1242, rfl⟩
abbrev main_v896 : Ref sig .tc := ⟨.hbm, 1243, rfl⟩
abbrev main_v897 : Ref sig .tc := ⟨.hbm, 1244, rfl⟩
abbrev main_cst_271 : Ref sig .tc := ⟨.hbm, 1245, rfl⟩
abbrev main_v898 : Ref sig .tc := ⟨.hbm, 1246, rfl⟩
abbrev main_v899 : Ref sig .tc := ⟨.hbm, 1247, rfl⟩
abbrev main_v900 : Ref sig .tc := ⟨.hbm, 1248, rfl⟩
abbrev main_v901 : Ref sig .tc := ⟨.hbm, 1249, rfl⟩
abbrev main_cst_272 : Ref sig .tc := ⟨.hbm, 1250, rfl⟩
abbrev main_v902 : Ref sig .tc := ⟨.hbm, 1251, rfl⟩
abbrev main_v903 : Ref sig .tc := ⟨.hbm, 1252, rfl⟩
abbrev main_cst_273 : Ref sig .tc := ⟨.hbm, 1253, rfl⟩
abbrev main_v904 : Ref sig .tc := ⟨.hbm, 1254, rfl⟩
abbrev main_v905 : Ref sig .tc := ⟨.hbm, 1255, rfl⟩
abbrev main_v906 : Ref sig .tc := ⟨.hbm, 1256, rfl⟩
abbrev main_cst_274 : Ref sig .tc := ⟨.hbm, 1257, rfl⟩
abbrev main_v907 : Ref sig .tc := ⟨.hbm, 1258, rfl⟩
abbrev main_v908 : Ref sig .tc := ⟨.hbm, 1259, rfl⟩
abbrev main_v909 : Ref sig .tc := ⟨.hbm, 1260, rfl⟩
abbrev main_cst_275 : Ref sig .tc := ⟨.hbm, 1261, rfl⟩
abbrev main_v910 : Ref sig .tc := ⟨.hbm, 1262, rfl⟩
abbrev main_v911 : Ref sig .tc := ⟨.hbm, 1263, rfl⟩
abbrev main_v912 : Ref sig .tc := ⟨.hbm, 1264, rfl⟩
abbrev main_cst_276 : Ref sig .tc := ⟨.hbm, 1265, rfl⟩
abbrev main_v913 : Ref sig .tc := ⟨.hbm, 1266, rfl⟩
abbrev main_v914 : Ref sig .tc := ⟨.hbm, 1267, rfl⟩
abbrev main_v915 : Ref sig .tc := ⟨.hbm, 1268, rfl⟩
abbrev main_cst_277 : Ref sig .tc := ⟨.hbm, 1269, rfl⟩
abbrev main_v916 : Ref sig .tc := ⟨.hbm, 1270, rfl⟩
abbrev main_v917 : Ref sig .tc := ⟨.hbm, 1271, rfl⟩
abbrev main_v918 : Ref sig .tc := ⟨.hbm, 1272, rfl⟩
abbrev main_cst_278 : Ref sig .tc := ⟨.hbm, 1273, rfl⟩
abbrev main_v919 : Ref sig .tc := ⟨.hbm, 1274, rfl⟩
abbrev main_v920 : Ref sig .tc := ⟨.hbm, 1275, rfl⟩
abbrev main_v921 : Ref sig .tc := ⟨.hbm, 1276, rfl⟩
abbrev main_cst_279 : Ref sig .tc := ⟨.hbm, 1277, rfl⟩
abbrev main_v922 : Ref sig .tc := ⟨.hbm, 1278, rfl⟩
abbrev main_v923 : Ref sig .tc := ⟨.hbm, 1279, rfl⟩
abbrev main_cst_280 : Ref sig .tc := ⟨.hbm, 1280, rfl⟩
abbrev main_v924 : Ref sig .tc := ⟨.hbm, 1281, rfl⟩
abbrev main_v925 : Ref sig .tc := ⟨.hbm, 1282, rfl⟩
abbrev main_v926 : Ref sig .tc := ⟨.hbm, 1283, rfl⟩
abbrev main_v927 : Ref sig .tc := ⟨.hbm, 1284, rfl⟩
abbrev main_cst_281 : Ref sig .tc := ⟨.hbm, 1285, rfl⟩
abbrev main_v928 : Ref sig .tc := ⟨.hbm, 1286, rfl⟩
abbrev main_v929 : Ref sig .tc := ⟨.hbm, 1287, rfl⟩
abbrev main_cst_282 : Ref sig .tc := ⟨.hbm, 1288, rfl⟩
abbrev main_v930 : Ref sig .tc := ⟨.hbm, 1289, rfl⟩
abbrev main_v931 : Ref sig .tc := ⟨.hbm, 1290, rfl⟩
abbrev main_v932 : Ref sig .tc := ⟨.hbm, 1291, rfl⟩
abbrev main_cst_283 : Ref sig .tc := ⟨.hbm, 1292, rfl⟩
abbrev main_v933 : Ref sig .tc := ⟨.hbm, 1293, rfl⟩
abbrev main_v934 : Ref sig .tc := ⟨.hbm, 1294, rfl⟩
abbrev main_cst_284 : Ref sig .tc := ⟨.hbm, 1295, rfl⟩
abbrev main_v935 : Ref sig .tc := ⟨.hbm, 1296, rfl⟩
abbrev main_v936 : Ref sig .tc := ⟨.hbm, 1297, rfl⟩
abbrev main_cst_285 : Ref sig .tc := ⟨.hbm, 1298, rfl⟩
abbrev main_v937 : Ref sig .tc := ⟨.hbm, 1299, rfl⟩
abbrev main_v938 : Ref sig .tc := ⟨.hbm, 1300, rfl⟩
abbrev main_v939 : Ref sig .tc := ⟨.hbm, 1301, rfl⟩
abbrev main_v940 : Ref sig .tc := ⟨.hbm, 1302, rfl⟩
abbrev main_v941 : Ref sig .tc := ⟨.hbm, 1303, rfl⟩
abbrev main_v942 : Ref sig .tc := ⟨.hbm, 1304, rfl⟩
abbrev main_v943 : Ref sig .tc := ⟨.hbm, 1305, rfl⟩
abbrev main_v944 : Ref sig .tc := ⟨.hbm, 1306, rfl⟩
abbrev main_v945 : Ref sig .tc := ⟨.hbm, 1307, rfl⟩
abbrev main_v946 : Ref sig .tc := ⟨.hbm, 1308, rfl⟩
abbrev main_v947 : Ref sig .tc := ⟨.hbm, 1309, rfl⟩
abbrev main_v948 : Ref sig .tc := ⟨.hbm, 1310, rfl⟩
abbrev main_v949 : Ref sig .tc := ⟨.hbm, 1311, rfl⟩
abbrev main_v950 : Ref sig .tc := ⟨.hbm, 1312, rfl⟩
abbrev main_v951 : Ref sig .tc := ⟨.hbm, 1313, rfl⟩
abbrev main_v952 : Ref sig .tc := ⟨.hbm, 1314, rfl⟩
abbrev main_v953 : Ref sig .tc := ⟨.hbm, 1315, rfl⟩
abbrev main_v954 : Ref sig .tc := ⟨.hbm, 1316, rfl⟩
abbrev main_v955 : Ref sig .tc := ⟨.hbm, 1317, rfl⟩
abbrev main_v956 : Ref sig .tc := ⟨.hbm, 1318, rfl⟩
abbrev main_v957 : Ref sig .tc := ⟨.hbm, 1319, rfl⟩
abbrev main_v958 : Ref sig .tc := ⟨.hbm, 1320, rfl⟩
abbrev main_v959 : Ref sig .tc := ⟨.hbm, 1321, rfl⟩
abbrev main_v960 : Ref sig .tc := ⟨.hbm, 1322, rfl⟩
abbrev main_v961 : Ref sig .tc := ⟨.hbm, 1323, rfl⟩
abbrev main_v962 : Ref sig .tc := ⟨.hbm, 1324, rfl⟩
abbrev main_v963 : Ref sig .tc := ⟨.hbm, 1325, rfl⟩
abbrev main_v964 : Ref sig .tc := ⟨.hbm, 1326, rfl⟩
abbrev main_v965 : Ref sig .tc := ⟨.hbm, 1327, rfl⟩
abbrev main_v966 : Ref sig .tc := ⟨.hbm, 1328, rfl⟩
abbrev main_v967 : Ref sig .tc := ⟨.hbm, 1329, rfl⟩
abbrev main_v968 : Ref sig .tc := ⟨.hbm, 1330, rfl⟩
abbrev main_v969 : Ref sig .tc := ⟨.hbm, 1331, rfl⟩
abbrev main_v970 : Ref sig .tc := ⟨.hbm, 1332, rfl⟩
abbrev main_v971 : Ref sig .tc := ⟨.hbm, 1333, rfl⟩
abbrev main_v972 : Ref sig .tc := ⟨.hbm, 1334, rfl⟩

abbrev nD : Nat := 1
abbrev τ : Topo := Topo.v7x

variable {F : FTy → Type} [FloatOps F]
-- ==== Proof.Threefry.lean ====
/- The twenty rounds of threefry-2x32 on one counter, under the key of the categorical draw, as a function of words. -/
module

public import Idealize.ShloMosaic.Lib.PointwiseCore

@[expose] public section

set_option maxRecDepth 16384

noncomputable section

namespace Cert.Proof

open Idealize.ShloMosaic

variable (u : ArithUnit)

/-- One round: the sum, and the second word turned left by `r` (`s = 32 - r`) and mixed with the sum. -/
def mix (r s : BitVec 32) (p : BitVec 32 × BitVec 32) : BitVec 32 × BitVec 32 :=
  (IntOp.addi p.1 p.2, IntOp.xori (IntOp.ori (IntOp.shli u p.2 r) (IntOp.shrui u p.2 s)) (IntOp.addi p.1 p.2))

/-- A pair of key words added. -/
def inject (a b : BitVec 32) (p : BitVec 32 × BitVec 32) : BitVec 32 × BitVec 32 := (IntOp.addi p.1 a, IntOp.addi p.2 b)

/-- Four rounds with the first set of rotations. -/
def mixA (p : BitVec 32 × BitVec 32) : BitVec 32 × BitVec 32 := mix u 6#32 26#32 (mix u 26#32 6#32 (mix u 15#32 17#32 (mix u 13#32 19#32 p)))

/-- Four rounds with the second set of rotations. -/
def mixB (p : BitVec 32 × BitVec 32) : BitVec 32 × BitVec 32 := mix u 24#32 8#32 (mix u 16#32 16#32 (mix u 29#32 3#32 (mix u 17#32 15#32 p)))

/-- The state after each group of four rounds and its key words, from the counter `m` with the key's second word added. -/
def st0 (m : BitVec 32) : BitVec 32 × BitVec 32 := (3276925600#32, m)
def st1 (m : BitVec 32) : BitVec 32 × BitVec 32 := inject 2751771740#32 2089043239#32 (mixA u (st0 m))
def st2 (m : BitVec 32) : BitVec 32 × BitVec 32 := inject 2089043238#32 3276925602#32 (mixB u (st1 u m))
def st3 (m : BitVec 32) : BitVec 32 × BitVec 32 := inject 3276925600#32 2751771743#32 (mixA u (st2 u m))
def st4 (m : BitVec 32) : BitVec 32 × BitVec 32 := inject 2751771740#32 2089043242#32 (mixB u (st3 u m))
def st5 (m : BitVec 32) : BitVec 32 × BitVec 32 := inject 2089043238#32 3276925605#32 (mixA u (st4 u m))

/-- The drawn word, and the pattern of a float in [1, 2) that its upper 23 bits make. -/
def draw (m : BitVec 32) : BitVec 32 := IntOp.xori (st5 u m).1 (st5 u m).2
def pattern (m : BitVec 32) : BitVec 32 := IntOp.ori (IntOp.shrui u (draw u m) 9#32) 1065353216#32

end Cert.Proof

end
-- ==== Proof.Slices.lean ====
/- What one grid point of the kernel stores in its two scratch arrays, at an index: the race of each of its eight slices of rows, read down to the words of
   `Threefry` and one comparison. -/
module

public import proofs.«01_k».proof.Proof.Threefry
public import proofs.«01_k».proof.Proof.Gen.KernelIdeal.Skeleton
public import Idealize.ShloMosaic.Lib.Pipeline.ValueKit
public import Idealize.ShloMosaic.Lib.Pipeline.ReadBack
public import Idealize.ShloMosaic.Lib.Pointwise
public import Idealize.ShloMosaic.Lib.Ring

@[expose] public section

set_option maxRecDepth 16384

noncomputable section

namespace Cert.KernelIdeal.Gen

open Idealize.ShloMosaic Idealize.ShloMosaic.TcCoe Cert.Proof

variable {F : FTy → Type} [FloatOps F]

/-- The bin of lane `c` in half `k`. -/
def binAt (a1 : BitVec 32) (c : Nat) : BitVec 32 := IntOp.addi (IntOp.muli a1 4096#32) (BitVec.ofNat 32 c)

/-- The counter of bin `c` of half `a1` in row `r` of tile `a0`, the key's second word added. -/
def counterAt (a0 a1 : BitVec 32) (r c : Nat) : BitVec 32 :=
  IntOp.addi (IntOp.addi (IntOp.muli (IntOp.addi (IntOp.muli a0 64#32) (BitVec.ofNat 32 r)) 8191#32) (binAt a1 c)) 2751771740#32

/-- The counter as a slice computes it, its first row `off` added to the row within the slice. -/
def sliceCounter (a0 a1 off : BitVec 32) (j : S8x4096.Idx) : BitVec 32 :=
  IntOp.addi (IntOp.addi (IntOp.muli (IntOp.addi (IntOp.muli a0 64#32) (IntOp.addi (BitVec.ofNat 32 (j 0).val) off)) 8191#32) (binAt a1 (j 1).val)) 2751771740#32

theorem iota_row (j : S8x4096.Idx) : iota .tc S8x4096 32 [0] iota_S8x4096_d0_w32 j = BitVec.ofNat 32 (j 0).val :=
  congrArg (BitVec.ofNat 32) (show 0 * 8 + (j 0).val = (j 0).val by rw [Nat.zero_mul, Nat.zero_add])
theorem iota_lane (j : S8x4096.Idx) : iota .tc S8x4096 32 [1] iota_S8x4096_d1_w32 j = BitVec.ofNat 32 (j 1).val :=
  congrArg (BitVec.ofNat 32) (show 0 * 4096 + (j 1).val = (j 1).val by rw [Nat.zero_mul, Nat.zero_add])

/-- Both as printed, over the vectors that hold each index. -/
def rawBin (a1 : BitVec 32) (j : S8x4096.Idx) : BitVec 32 := IntOp.addi (IntOp.muli a1 4096#32) (iota .tc S8x4096 32 [1] iota_S8x4096_d1_w32 j)
def rawCounter (a0 a1 off : BitVec 32) (j : S8x4096.Idx) : BitVec 32 :=
  IntOp.addi (IntOp.addi (IntOp.muli (IntOp.addi (IntOp.muli a0 64#32) (IntOp.addi (iota .tc S8x4096 32 [0] iota_S8x4096_d0_w32 j) off)) 8191#32) (rawBin a1 j)) 2751771740#32
theorem rawBin_eq (a1 : BitVec 32) (j : S8x4096.Idx) : rawBin a1 j = binAt a1 (j 1).val := by unfold rawBin; rw [iota_lane]; rfl
theorem rawCounter_eq (a0 a1 off : BitVec 32) (j : S8x4096.Idx) : rawCounter a0 a1 off j = sliceCounter a0 a1 off j := by
  unfold rawCounter; rw [iota_row, rawBin_eq]; rfl

/-- The time drawn from counter `m` for the reciprocal density `v`: `log (max unit tiny) * v`. -/
def timeOf (v : F .f32) (m : BitVec 32) : F .f32 :=
  FloatOps.mulf (FloatOps.log (FloatOps.maximumf (FloatOps.subf (FloatOps.ofBits .f32 (pattern .vector m)) (FloatOps.ofBits .f32 0x3F800000#32)) (FloatOps.ofBits .f32 0x00800000#32))) v

/-- The lane of a row vector. -/
def lane (v : FVec F S1x4096 .f32) (c : Fin 4096) : F .f32 := v (ix2 0 c)

/-- The time of row `y 0` and lane `y 1` at a point. -/
def timeAt (i : grid0.Coords) (x : Vec F S1x1x4096 .f32) (y : S64x4096.Idx) : F .f32 :=
  timeOf (lane (k0_pay350 i x) (y 1)) (counterAt (BitVec.ofNat 32 (i 0).val) (BitVec.ofNat 32 (i 1).val) (y 0).val (y 1).val)

/-- The least time so far after a point, and its bin, from those before it. -/
def stepTime (i : grid0.Coords) (x : Vec F S1x1x4096 .f32) (X : Vec F S64x4096 .f32) : Vec F S64x4096 .f32 := fun y =>
  Scalar.select (FloatOps.cmpf .olt (timeAt i x y) (X y)) (timeAt i x y) (X y)
def stepBin (i : grid0.Coords) (x : Vec F S1x1x4096 .f32) (X : Vec F S64x4096 .f32) (B : Vec F S64x4096 .i32) : Vec F S64x4096 .i32 := fun y =>
  Scalar.select (FloatOps.cmpf .olt (timeAt i x y) (X y)) (binAt (BitVec.ofNat 32 (i 1).val) (y 1).val) (B y)

theorem sliceCounter_eq (a0 a1 : BitVec 32) (o : Nat) (j : S8x4096.Idx) (y : S64x4096.Idx) (h0 : (y 0).val = o + (j 0).val) (h1 : (y 1).val = (j 1).val) :
    sliceCounter a0 a1 (BitVec.ofNat 32 o) j = counterAt a0 a1 (y 0).val (y 1).val := by
  unfold sliceCounter counterAt
  rw [h0, h1, show IntOp.addi (BitVec.ofNat 32 (j 0).val) (BitVec.ofNat 32 o) = BitVec.ofNat 32 (o + (j 0).val) from by
    rw [Nat.add_comm, BitVec.ofNat_add]; rfl]

/-- One slice's times from a slice of the scratch array, and its bins. -/
theorem stepTime_of (i : grid0.Coords) (x : Vec F S1x1x4096 .f32) (X : Vec F S64x4096 .f32) (o : Nat) (j : S8x4096.Idx) (y : S64x4096.Idx) (w Xj : F .f32)
    (h0 : (y 0).val = o + (j 0).val) (h1 : (y 1).val = (j 1).val) (hX : Xj = X y)
    (hw : w = timeOf (lane (k0_pay350 i x) (j 1)) (sliceCounter (BitVec.ofNat 32 (i 0).val) (BitVec.ofNat 32 (i 1).val) (BitVec.ofNat 32 o) j)) :
    Scalar.select (FloatOps.cmpf .olt w Xj) w Xj = stepTime i x X y := by
  have h1' : (j 1 : Fin 4096) = y 1 := Fin.ext h1.symm
  rw [sliceCounter_eq _ _ o j y h0 h1, h1'] at hw
  rw [hw, hX]; rfl

theorem stepBin_of (i : grid0.Coords) (x : Vec F S1x1x4096 .f32) (X : Vec F S64x4096 .f32) (B : Vec F S64x4096 .i32) (o : Nat) (j : S8x4096.Idx) (y : S64x4096.Idx) (w Xj : F .f32) (b Bj : BitVec 32)
    (h0 : (y 0).val = o + (j 0).val) (h1 : (y 1).val = (j 1).val) (hX : Xj = X y) (hB : Bj = B y)
    (hb : b = binAt (BitVec.ofNat 32 (i 1).val) (j 1).val)
    (hw : w = timeOf (lane (k0_pay350 i x) (j 1)) (sliceCounter (BitVec.ofNat 32 (i 0).val) (BitVec.ofNat 32 (i 1).val) (BitVec.ofNat 32 o) j)) :
    Scalar.select (FloatOps.cmpf .olt w Xj) b Bj = stepBin i x X B y := by
  have h1' : (j 1 : Fin 4096) = y 1 := Fin.ext h1.symm
  rw [sliceCounter_eq _ _ o j y h0 h1, h1'] at hw
  rw [hw, hX, hb, hB, ← h1]; rfl

/-- The reciprocal densities, broadcast over the rows of a slice. -/
theorem lane_broadcast (v : FVec F S1x4096 .f32) (j : S8x4096.Idx) : broadcastTo S8x4096 v broadcasts_S1x4096_S8x4096 j = lane v (j 1) := by
  unfold broadcastTo lane
  congr 1; funext a
  match a with
  | ⟨0, _⟩ => rfl
  | ⟨1, _⟩ => rfl

/-- Slice 0. -/
def word0 (a0 a1 : BitVec 32) : FVec F S8x4096 .f32 :=
  (k0_pay39 (F := F) (k0_pay36 (k0_pay23 (k0_pay10 a0 a1) (k0_pay11 a0 a1) k0_pay12) (k0_pay24 (k0_pay10 a0 a1) (k0_pay11 a0 a1) k0_pay12) (k0_pay25 (k0_pay10 a0 a1) (k0_pay11 a0 a1) k0_pay12) 17#32) (k0_pay37 (k0_pay23 (k0_pay10 a0 a1) (k0_pay11 a0 a1) k0_pay12) (k0_pay24 (k0_pay10 a0 a1) (k0_pay11 a0 a1) k0_pay12) (k0_pay25 (k0_pay10 a0 a1) (k0_pay11 a0 a1) k0_pay12) 17#32) (k0_pay38 (k0_pay23 (k0_pay10 a0 a1) (k0_pay11 a0 a1) k0_pay12) (k0_pay24 (k0_pay10 a0 a1) (k0_pay11 a0 a1) k0_pay12) (k0_pay25 (k0_pay10 a0 a1) (k0_pay11 a0 a1) k0_pay12) 17#32) 8#32)
theorem time0 (v : FVec F S1x4096 .f32) (a0 a1 : BitVec 32) (j : S8x4096.Idx) :
    k0_pay40 v (word0 a0 a1) j = timeOf (lane v (j 1)) (sliceCounter a0 a1 0#32 j) := by
  have h : word0 (F := F) a0 a1 j = FloatOps.ofBits .f32 (pattern .vector (k0_pay3 a0 a1 j)) := by sl_kernel_rfl
  have e : k0_pay3 a0 a1 j = sliceCounter a0 a1 0#32 j := (by sl_kernel_rfl : k0_pay3 a0 a1 j = rawCounter a0 a1 0#32 j).trans (rawCounter_eq _ _ _ _)
  rw [e] at h
  unfold timeOf; rw [← h, ← lane_broadcast v j]; rfl

/-- Slice 1. -/
def worda1 (a0 a1 : BitVec 32) : IVec S8x4096 32 :=
  k0_pay83 (k0_pay71 (k0_pay59 (k0_pay46 a0 a1) (k0_pay47 a0 a1)) (k0_pay60 (k0_pay46 a0 a1) (k0_pay47 a0 a1))) (k0_pay72 (k0_pay59 (k0_pay46 a0 a1) (k0_pay47 a0 a1)) (k0_pay60 (k0_pay46 a0 a1) (k0_pay47 a0 a1))) 17#32
def wordb1 (a0 a1 : BitVec 32) : IVec S8x4096 32 :=
  k0_pay84 (k0_pay71 (k0_pay59 (k0_pay46 a0 a1) (k0_pay47 a0 a1)) (k0_pay60 (k0_pay46 a0 a1) (k0_pay47 a0 a1))) (k0_pay72 (k0_pay59 (k0_pay46 a0 a1) (k0_pay47 a0 a1)) (k0_pay60 (k0_pay46 a0 a1) (k0_pay47 a0 a1))) 17#32
theorem time1 (v : FVec F S1x4096 .f32) (a0 a1 : BitVec 32) (j : S8x4096.Idx) :
    k0_pay85 v (worda1 a0 a1) (wordb1 a0 a1) 26#32 j = timeOf (lane v (j 1)) (sliceCounter a0 a1 8#32 j) := by
  have h : k0_pay85 v (worda1 a0 a1) (wordb1 a0 a1) 26#32 j
      = FloatOps.mulf (FloatOps.log (FloatOps.maximumf (FloatOps.subf (FloatOps.ofBits .f32 (pattern .vector (k0_pay45 a0 a1 j))) (FloatOps.ofBits .f32 0x3F800000#32)) (FloatOps.ofBits .f32 0x00800000#32)))
          (broadcastTo S8x4096 v broadcasts_S1x4096_S8x4096 j) := by sl_kernel_rfl
  have e : k0_pay45 a0 a1 j = sliceCounter a0 a1 8#32 j := (by sl_kernel_rfl : k0_pay45 a0 a1 j = rawCounter a0 a1 8#32 j).trans (rawCounter_eq _ _ _ _)
  rw [h, e, lane_broadcast]; rfl

/-- Slice 2. -/
def word2 (a0 a1 : BitVec 32) : FVec F S8x4096 .f32 :=
  (k0_pay126 (F := F) (k0_pay123 (k0_pay110 (k0_pay97 a0 a1) (k0_pay98 a0 a1) k0_pay99) (k0_pay111 (k0_pay97 a0 a1) (k0_pay98 a0 a1) k0_pay99) (k0_pay112 (k0_pay97 a0 a1) (k0_pay98 a0 a1) k0_pay99) 17#32) (k0_pay124 (k0_pay110 (k0_pay97 a0 a1) (k0_pay98 a0 a1) k0_pay99) (k0_pay111 (k0_pay97 a0 a1) (k0_pay98 a0 a1) k0_pay99) (k0_pay112 (k0_pay97 a0 a1) (k0_pay98 a0 a1) k0_pay99) 17#32) (k0_pay125 (k0_pay110 (k0_pay97 a0 a1) (k0_pay98 a0 a1) k0_pay99) (k0_pay111 (k0_pay97 a0 a1) (k0_pay98 a0 a1) k0_pay99) (k0_pay112 (k0_pay97 a0 a1) (k0_pay98 a0 a1) k0_pay99) 17#32) 8#32)
theorem time2 (v : FVec F S1x4096 .f32) (a0 a1 : BitVec 32) (j : S8x4096.Idx) :
    k0_pay127 v (word2 a0 a1) j = timeOf (lane v (j 1)) (sliceCounter a0 a1 16#32 j) := by
  have h : word2 (F := F) a0 a1 j = FloatOps.ofBits .f32 (pattern .vector (k0_pay90 a0 a1 j)) := by sl_kernel_rfl
  have e : k0_pay90 a0 a1 j = sliceCounter a0 a1 16#32 j := (by sl_kernel_rfl : k0_pay90 a0 a1 j = rawCounter a0 a1 16#32 j).trans (rawCounter_eq _ _ _ _)
  rw [e] at h
  unfold timeOf; rw [← h, ← lane_broadcast v j]; rfl

/-- Slice 3. -/
def worda3 (a0 a1 : BitVec 32) : IVec S8x4096 32 :=
  k0_pay170 (k0_pay158 (k0_pay146 (k0_pay133 a0 a1) (k0_pay134 a0 a1)) (k0_pay147 (k0_pay133 a0 a1) (k0_pay134 a0 a1))) (k0_pay159 (k0_pay146 (k0_pay133 a0 a1) (k0_pay134 a0 a1)) (k0_pay147 (k0_pay133 a0 a1) (k0_pay134 a0 a1))) 17#32
def wordb3 (a0 a1 : BitVec 32) : IVec S8x4096 32 :=
  k0_pay171 (k0_pay158 (k0_pay146 (k0_pay133 a0 a1) (k0_pay134 a0 a1)) (k0_pay147 (k0_pay133 a0 a1) (k0_pay134 a0 a1))) (k0_pay159 (k0_pay146 (k0_pay133 a0 a1) (k0_pay134 a0 a1)) (k0_pay147 (k0_pay133 a0 a1) (k0_pay134 a0 a1))) 17#32
theorem time3 (v : FVec F S1x4096 .f32) (a0 a1 : BitVec 32) (j : S8x4096.Idx) :
    k0_pay172 v (worda3 a0 a1) (wordb3 a0 a1) 26#32 j = timeOf (lane v (j 1)) (sliceCounter a0 a1 24#32 j) := by
  have h : k0_pay172 v (worda3 a0 a1) (wordb3 a0 a1) 26#32 j
      = FloatOps.mulf (FloatOps.log (FloatOps.maximumf (FloatOps.subf (FloatOps.ofBits .f32 (pattern .vector (k0_pay132 a0 a1 j))) (FloatOps.ofBits .f32 0x3F800000#32)) (FloatOps.ofBits .f32 0x00800000#32)))
          (broadcastTo S8x4096 v broadcasts_S1x4096_S8x4096 j) := by sl_kernel_rfl
  have e : k0_pay132 a0 a1 j = sliceCounter a0 a1 24#32 j := (by sl_kernel_rfl : k0_pay132 a0 a1 j = rawCounter a0 a1 24#32 j).trans (rawCounter_eq _ _ _ _)
  rw [h, e, lane_broadcast]; rfl

/-- Slice 4. -/
def word4 (a0 a1 : BitVec 32) : FVec F S8x4096 .f32 :=
  (k0_pay213 (F := F) (k0_pay210 (k0_pay197 (k0_pay184 a0 a1) (k0_pay185 a0 a1) k0_pay186) (k0_pay198 (k0_pay184 a0 a1) (k0_pay185 a0 a1) k0_pay186) (k0_pay199 (k0_pay184 a0 a1) (k0_pay185 a0 a1) k0_pay186) 17#32) (k0_pay211 (k0_pay197 (k0_pay184 a0 a1) (k0_pay185 a0 a1) k0_pay186) (k0_pay198 (k0_pay184 a0 a1) (k0_pay185 a0 a1) k0_pay186) (k0_pay199 (k0_pay184 a0 a1) (k0_pay185 a0 a1) k0_pay186) 17#32) (k0_pay212 (k0_pay197 (k0_pay184 a0 a1) (k0_pay185 a0 a1) k0_pay186) (k0_pay198 (k0_pay184 a0 a1) (k0_pay185 a0 a1) k0_pay186) (k0_pay199 (k0_pay184 a0 a1) (k0_pay185 a0 a1) k0_pay186) 17#32) 8#32)
theorem time4 (v : FVec F S1x4096 .f32) (a0 a1 : BitVec 32) (j : S8x4096.Idx) :
    k0_pay214 v (word4 a0 a1) j = timeOf (lane v (j 1)) (sliceCounter a0 a1 32#32 j) := by
  have h : word4 (F := F) a0 a1 j = FloatOps.ofBits .f32 (pattern .vector (k0_pay177 a0 a1 j)) := by sl_kernel_rfl
  have e : k0_pay177 a0 a1 j = sliceCounter a0 a1 32#32 j := (by sl_kernel_rfl : k0_pay177 a0 a1 j = rawCounter a0 a1 32#32 j).trans (rawCounter_eq _ _ _ _)
  rw [e] at h
  unfold timeOf; rw [← h, ← lane_broadcast v j]; rfl

/-- Slice 5. -/
def worda5 (a0 a1 : BitVec 32) : IVec S8x4096 32 :=
  k0_pay257 (k0_pay245 (k0_pay233 (k0_pay220 a0 a1) (k0_pay221 a0 a1)) (k0_pay234 (k0_pay220 a0 a1) (k0_pay221 a0 a1))) (k0_pay246 (k0_pay233 (k0_pay220 a0 a1) (k0_pay221 a0 a1)) (k0_pay234 (k0_pay220 a0 a1) (k0_pay221 a0 a1))) 17#32
def wordb5 (a0 a1 : BitVec 32) : IVec S8x4096 32 :=
  k0_pay258 (k0_pay245 (k0_pay233 (k0_pay220 a0 a1) (k0_pay221 a0 a1)) (k0_pay234 (k0_pay220 a0 a1) (k0_pay221 a0 a1))) (k0_pay246 (k0_pay233 (k0_pay220 a0 a1) (k0_pay221 a0 a1)) (k0_pay234 (k0_pay220 a0 a1) (k0_pay221 a0 a1))) 17#32
theorem time5 (v : FVec F S1x4096 .f32) (a0 a1 : BitVec 32) (j : S8x4096.Idx) :
    k0_pay259 v (worda5 a0 a1) (wordb5 a0 a1) 26#32 j = timeOf (lane v (j 1)) (sliceCounter a0 a1 40#32 j) := by
  have h : k0_pay259 v (worda5 a0 a1) (wordb5 a0 a1) 26#32 j
      = FloatOps.mulf (FloatOps.log (FloatOps.maximumf (FloatOps.subf (FloatOps.ofBits .f32 (pattern .vector (k0_pay219 a0 a1 j))) (FloatOps.ofBits .f32 0x3F800000#32)) (FloatOps.ofBits .f32 0x00800000#32)))
          (broadcastTo S8x4096 v broadcasts_S1x4096_S8x4096 j) := by sl_kernel_rfl
  have e : k0_pay219 a0 a1 j = sliceCounter a0 a1 40#32 j := (by sl_kernel_rfl : k0_pay219 a0 a1 j = rawCounter a0 a1 40#32 j).trans (rawCounter_eq _ _ _ _)
  rw [h, e, lane_broadcast]; rfl

/-- Slice 6. -/
def word6 (a0 a1 : BitVec 32) : FVec F S8x4096 .f32 :=
  (k0_pay300 (F := F) (k0_pay297 (k0_pay284 (k0_pay271 a0 a1) (k0_pay272 a0 a1) k0_pay273) (k0_pay285 (k0_pay271 a0 a1) (k0_pay272 a0 a1) k0_pay273) (k0_pay286 (k0_pay271 a0 a1) (k0_pay272 a0 a1) k0_pay273) 17#32) (k0_pay298 (k0_pay284 (k0_pay271 a0 a1) (k0_pay272 a0 a1) k0_pay273) (k0_pay285 (k0_pay271 a0 a1) (k0_pay272 a0 a1) k0_pay273) (k0_pay286 (k0_pay271 a0 a1) (k0_pay272 a0 a1) k0_pay273) 17#32) (k0_pay299 (k0_pay284 (k0_pay271 a0 a1) (k0_pay272 a0 a1) k0_pay273) (k0_pay285 (k0_pay271 a0 a1) (k0_pay272 a0 a1) k0_pay273) (k0_pay286 (k0_pay271 a0 a1) (k0_pay272 a0 a1) k0_pay273) 17#32) 8#32)
theorem time6 (v : FVec F S1x4096 .f32) (a0 a1 : BitVec 32) (j : S8x4096.Idx) :
    k0_pay301 v (word6 a0 a1) j = timeOf (lane v (j 1)) (sliceCounter a0 a1 48#32 j) := by
  have h : word6 (F := F) a0 a1 j = FloatOps.ofBits .f32 (pattern .vector (k0_pay264 a0 a1 j)) := by sl_kernel_rfl
  have e : k0_pay264 a0 a1 j = sliceCounter a0 a1 48#32 j := (by sl_kernel_rfl : k0_pay264 a0 a1 j = rawCounter a0 a1 48#32 j).trans (rawCounter_eq _ _ _ _)
  rw [e] at h
  unfold timeOf; rw [← h, ← lane_broadcast v j]; rfl

/-- Slice 7. -/
def worda7 (a0 a1 : BitVec 32) : IVec S8x4096 32 :=
  k0_pay344 (k0_pay332 (k0_pay320 (k0_pay307 a0 a1) (k0_pay308 a0 a1)) (k0_pay321 (k0_pay307 a0 a1) (k0_pay308 a0 a1))) (k0_pay333 (k0_pay320 (k0_pay307 a0 a1) (k0_pay308 a0 a1)) (k0_pay321 (k0_pay307 a0 a1) (k0_pay308 a0 a1))) 17#32
def wordb7 (a0 a1 : BitVec 32) : IVec S8x4096 32 :=
  k0_pay345 (k0_pay332 (k0_pay320 (k0_pay307 a0 a1) (k0_pay308 a0 a1)) (k0_pay321 (k0_pay307 a0 a1) (k0_pay308 a0 a1))) (k0_pay333 (k0_pay320 (k0_pay307 a0 a1) (k0_pay308 a0 a1)) (k0_pay321 (k0_pay307 a0 a1) (k0_pay308 a0 a1))) 17#32
theorem time7 (v : FVec F S1x4096 .f32) (a0 a1 : BitVec 32) (j : S8x4096.Idx) :
    k0_pay346 v (worda7 a0 a1) (wordb7 a0 a1) 26#32 j = timeOf (lane v (j 1)) (sliceCounter a0 a1 56#32 j) := by
  have h : k0_pay346 v (worda7 a0 a1) (wordb7 a0 a1) 26#32 j
      = FloatOps.mulf (FloatOps.log (FloatOps.maximumf (FloatOps.subf (FloatOps.ofBits .f32 (pattern .vector (k0_pay306 a0 a1 j))) (FloatOps.ofBits .f32 0x3F800000#32)) (FloatOps.ofBits .f32 0x00800000#32)))
          (broadcastTo S8x4096 v broadcasts_S1x4096_S8x4096 j) := by sl_kernel_rfl
  have e : k0_pay306 a0 a1 j = sliceCounter a0 a1 56#32 j := (by sl_kernel_rfl : k0_pay306 a0 a1 j = rawCounter a0 a1 56#32 j).trans (rawCounter_eq _ _ _ _)
  rw [h, e, lane_broadcast]; rfl

theorem row_val (o n : Nat) : o + 1 * n = o + n := by rw [Nat.one_mul]
theorem lane_val (n : Nat) : 0 + 1 * n = n := by rw [Nat.one_mul, Nat.zero_add]

/-- A slice's store of times `w`, taken where they are less, is a block of the step; so is its store of bins `b`. -/
theorem timePiece (i : grid0.Coords) (x : Vec F S1x1x4096 .f32) (X : Vec F S64x4096 .f32) (o : Nat) (inb : ∀ a, (![o, 0] : Fin 2 → Nat) a + S8x4096.size a ≤ S64x4096.size a) (p w : FVec F S8x4096 .f32)
    (hp : p = shapeCast S8x4096 (select (cmpf .olt w (View.ld X (Rect.unit (s := S64x4096) ![o, 0] S8x4096.size inb))) w (View.ld X (Rect.unit (s := S64x4096) ![o, 0] S8x4096.size inb))) shapeCasts_S8x4096_S8x4096)
    (hw : ∀ j, w j = timeOf (lane (k0_pay350 i x) (j 1)) (sliceCounter (BitVec.ofNat 32 (i 0).val) (BitVec.ofNat 32 (i 1).val) (BitVec.ofNat 32 o) j)) (j : S8x4096.Idx) :
    p j = stepTime i x X ((Rect.unit (s := S64x4096) ![o, 0] S8x4096.size inb).emb j) := by
  rw [hp, shapeCast_self]
  exact stepTime_of i x X o j _ _ _ (row_val _ _) (lane_val _) rfl (hw j)
theorem binPiece (i : grid0.Coords) (x : Vec F S1x1x4096 .f32) (X : Vec F S64x4096 .f32) (B : Vec F S64x4096 .i32) (o : Nat) (inb : ∀ a, (![o, 0] : Fin 2 → Nat) a + S8x4096.size a ≤ S64x4096.size a)
    (p b : IVec S8x4096 32) (w : FVec F S8x4096 .f32)
    (hp : p = shapeCast S8x4096 (select (cmpf .olt w (View.ld X (Rect.unit (s := S64x4096) ![o, 0] S8x4096.size inb))) b (View.ld B (Rect.unit (s := S64x4096) ![o, 0] S8x4096.size inb))) shapeCasts_S8x4096_S8x4096)
    (hb : ∀ j, b j = binAt (BitVec.ofNat 32 (i 1).val) (j 1).val)
    (hw : ∀ j, w j = timeOf (lane (k0_pay350 i x) (j 1)) (sliceCounter (BitVec.ofNat 32 (i 0).val) (BitVec.ofNat 32 (i 1).val) (BitVec.ofNat 32 o) j)) (j : S8x4096.Idx) :
    p j = stepBin i x X B ((Rect.unit (s := S64x4096) ![o, 0] S8x4096.size inb).emb j) := by
  rw [hp, shapeCast_self]
  exact stepBin_of i x X B o j _ _ _ _ _ (row_val _ _) (lane_val _) rfl rfl (hb j) (hw j)

/-- The eight stores of times, the last slice's first, from the array `X`. -/
def timePieces (i : grid0.Coords) (x : Vec F S1x1x4096 .f32) (X : Vec F S64x4096 .f32) : List (View.Piece (Elt F) S64x4096 .f32) :=
  [⟨Rect.unit ![56, 0] ![8, 4096] inb_S64x4096_S8x4096_56_0, k0_pay349 (k0_pay350 i x) (worda7 (BitVec.ofNat 32 (i 0).val) (BitVec.ofNat 32 (i 1).val)) (wordb7 (BitVec.ofNat 32 (i 0).val) (BitVec.ofNat 32 (i 1).val)) 26#32 (View.ld X (Rect.unit ![56, 0] ![8, 4096] inb_S64x4096_S8x4096_56_0))⟩,
   ⟨Rect.unit ![48, 0] ![8, 4096] inb_S64x4096_S8x4096_48_0, k0_pay304 (k0_pay350 i x) (word6 (BitVec.ofNat 32 (i 0).val) (BitVec.ofNat 32 (i 1).val)) (View.ld X (Rect.unit ![48, 0] ![8, 4096] inb_S64x4096_S8x4096_48_0))⟩,
   ⟨Rect.unit ![40, 0] ![8, 4096] inb_S64x4096_S8x4096_40_0, k0_pay262 (k0_pay350 i x) (worda5 (BitVec.ofNat 32 (i 0).val) (BitVec.ofNat 32 (i 1).val)) (wordb5 (BitVec.ofNat 32 (i 0).val) (BitVec.ofNat 32 (i 1).val)) 26#32 (View.ld X (Rect.unit ![40, 0] ![8, 4096] inb_S64x4096_S8x4096_40_0))⟩,
   ⟨Rect.unit ![32, 0] ![8, 4096] inb_S64x4096_S8x4096_32_0, k0_pay217 (k0_pay350 i x) (word4 (BitVec.ofNat 32 (i 0).val) (BitVec.ofNat 32 (i 1).val)) (View.ld X (Rect.unit ![32, 0] ![8, 4096] inb_S64x4096_S8x4096_32_0))⟩,
   ⟨Rect.unit ![24, 0] ![8, 4096] inb_S64x4096_S8x4096_24_0, k0_pay175 (k0_pay350 i x) (worda3 (BitVec.ofNat 32 (i 0).val) (BitVec.ofNat 32 (i 1).val)) (wordb3 (BitVec.ofNat 32 (i 0).val) (BitVec.ofNat 32 (i 1).val)) 26#32 (View.ld X (Rect.unit ![24, 0] ![8, 4096] inb_S64x4096_S8x4096_24_0))⟩,
   ⟨Rect.unit ![16, 0] ![8, 4096] inb_S64x4096_S8x4096_16_0, k0_pay130 (k0_pay350 i x) (word2 (BitVec.ofNat 32 (i 0).val) (BitVec.ofNat 32 (i 1).val)) (View.ld X (Rect.unit ![16, 0] ![8, 4096] inb_S64x4096_S8x4096_16_0))⟩,
   ⟨Rect.unit ![8, 0] ![8, 4096] inb_S64x4096_S8x4096_8_0, k0_pay88 (k0_pay350 i x) (worda1 (BitVec.ofNat 32 (i 0).val) (BitVec.ofNat 32 (i 1).val)) (wordb1 (BitVec.ofNat 32 (i 0).val) (BitVec.ofNat 32 (i 1).val)) 26#32 (View.ld X (Rect.unit ![8, 0] ![8, 4096] inb_S64x4096_S8x4096_8_0))⟩,
   ⟨Rect.unit ![0, 0] ![8, 4096] inb_S64x4096_S8x4096_0_0, k0_pay43 (k0_pay350 i x) (word0 (BitVec.ofNat 32 (i 0).val) (BitVec.ofNat 32 (i 1).val)) (View.ld X (Rect.unit ![0, 0] ![8, 4096] inb_S64x4096_S8x4096_0_0))⟩]

/-- The eight stores of bins, from the arrays `X` of times and `B` of bins. -/
def binPieces (i : grid0.Coords) (x : Vec F S1x1x4096 .f32) (X : Vec F S64x4096 .f32) (B : Vec F S64x4096 .i32) : List (View.Piece (Elt F) S64x4096 .i32) :=
  [⟨Rect.unit ![56, 0] ![8, 4096] inb_S64x4096_S8x4096_56_0, k0_pay348 (k0_pay350 i x) (k0_pay305 (BitVec.ofNat 32 (i 1).val)) (worda7 (BitVec.ofNat 32 (i 0).val) (BitVec.ofNat 32 (i 1).val)) (wordb7 (BitVec.ofNat 32 (i 0).val) (BitVec.ofNat 32 (i 1).val)) 26#32 (View.ld X (Rect.unit ![56, 0] ![8, 4096] inb_S64x4096_S8x4096_56_0)) (View.ld B (Rect.unit ![56, 0] ![8, 4096] inb_S64x4096_S8x4096_56_0))⟩,
   ⟨Rect.unit ![48, 0] ![8, 4096] inb_S64x4096_S8x4096_48_0, k0_pay303 (k0_pay350 i x) (k0_pay263 (BitVec.ofNat 32 (i 1).val)) (word6 (BitVec.ofNat 32 (i 0).val) (BitVec.ofNat 32 (i 1).val)) (View.ld X (Rect.unit ![48, 0] ![8, 4096] inb_S64x4096_S8x4096_48_0)) (View.ld B (Rect.unit ![48, 0] ![8, 4096] inb_S64x4096_S8x4096_48_0))⟩,
   ⟨Rect.unit ![40, 0] ![8, 4096] inb_S64x4096_S8x4096_40_0, k0_pay261 (k0_pay350 i x) (k0_pay218 (BitVec.ofNat 32 (i 1).val)) (worda5 (BitVec.ofNat 32 (i 0).val) (BitVec.ofNat 32 (i 1).val)) (wordb5 (BitVec.ofNat 32 (i 0).val) (BitVec.ofNat 32 (i 1).val)) 26#32 (View.ld X (Rect.unit ![40, 0] ![8, 4096] inb_S64x4096_S8x4096_40_0)) (View.ld B (Rect.unit ![40, 0] ![8, 4096] inb_S64x4096_S8x4096_40_0))⟩,
   ⟨Rect.unit ![32, 0] ![8, 4096] inb_S64x4096_S8x4096_32_0, k0_pay216 (k0_pay350 i x) (k0_pay176 (BitVec.ofNat 32 (i 1).val)) (word4 (BitVec.ofNat 32 (i 0).val) (BitVec.ofNat 32 (i 1).val)) (View.ld X (Rect.unit ![32, 0] ![8, 4096] inb_S64x4096_S8x4096_32_0)) (View.ld B (Rect.unit ![32, 0] ![8, 4096] inb_S64x4096_S8x4096_32_0))⟩,
   ⟨Rect.unit ![24, 0] ![8, 4096] inb_S64x4096_S8x4096_24_0, k0_pay174 (k0_pay350 i x) (k0_pay131 (BitVec.ofNat 32 (i 1).val)) (worda3 (BitVec.ofNat 32 (i 0).val) (BitVec.ofNat 32 (i 1).val)) (wordb3 (BitVec.ofNat 32 (i 0).val) (BitVec.ofNat 32 (i 1).val)) 26#32 (View.ld X (Rect.unit ![24, 0] ![8, 4096] inb_S64x4096_S8x4096_24_0)) (View.ld B (Rect.unit ![24, 0] ![8, 4096] inb_S64x4096_S8x4096_24_0))⟩,
   ⟨Rect.unit ![16, 0] ![8, 4096] inb_S64x4096_S8x4096_16_0, k0_pay129 (k0_pay350 i x) (k0_pay89 (BitVec.ofNat 32 (i 1).val)) (word2 (BitVec.ofNat 32 (i 0).val) (BitVec.ofNat 32 (i 1).val)) (View.ld X (Rect.unit ![16, 0] ![8, 4096] inb_S64x4096_S8x4096_16_0)) (View.ld B (Rect.unit ![16, 0] ![8, 4096] inb_S64x4096_S8x4096_16_0))⟩,
   ⟨Rect.unit ![8, 0] ![8, 4096] inb_S64x4096_S8x4096_8_0, k0_pay87 (k0_pay350 i x) (k0_pay44 (BitVec.ofNat 32 (i 1).val)) (worda1 (BitVec.ofNat 32 (i 0).val) (BitVec.ofNat 32 (i 1).val)) (wordb1 (BitVec.ofNat 32 (i 0).val) (BitVec.ofNat 32 (i 1).val)) 26#32 (View.ld X (Rect.unit ![8, 0] ![8, 4096] inb_S64x4096_S8x4096_8_0)) (View.ld B (Rect.unit ![8, 0] ![8, 4096] inb_S64x4096_S8x4096_8_0))⟩,
   ⟨Rect.unit ![0, 0] ![8, 4096] inb_S64x4096_S8x4096_0_0, k0_pay42 (k0_pay350 i x) (k0_pay2 (BitVec.ofNat 32 (i 1).val)) (word0 (BitVec.ofNat 32 (i 0).val) (BitVec.ofNat 32 (i 1).val)) (View.ld X (Rect.unit ![0, 0] ![8, 4096] inb_S64x4096_S8x4096_0_0)) (View.ld B (Rect.unit ![0, 0] ![8, 4096] inb_S64x4096_S8x4096_0_0))⟩]

theorem timePieces_of (i : grid0.Coords) (x : Vec F S1x1x4096 .f32) (X : Vec F S64x4096 .f32) : View.PiecesOf (stepTime i x X) (timePieces i x X) :=
  ⟨timePiece i x X 56 _ _ _ rfl (time7 _ (BitVec.ofNat 32 (i 0).val) (BitVec.ofNat 32 (i 1).val)),
    timePiece i x X 48 _ _ _ rfl (time6 _ (BitVec.ofNat 32 (i 0).val) (BitVec.ofNat 32 (i 1).val)),
    timePiece i x X 40 _ _ _ rfl (time5 _ (BitVec.ofNat 32 (i 0).val) (BitVec.ofNat 32 (i 1).val)),
    timePiece i x X 32 _ _ _ rfl (time4 _ (BitVec.ofNat 32 (i 0).val) (BitVec.ofNat 32 (i 1).val)),
    timePiece i x X 24 _ _ _ rfl (time3 _ (BitVec.ofNat 32 (i 0).val) (BitVec.ofNat 32 (i 1).val)),
    timePiece i x X 16 _ _ _ rfl (time2 _ (BitVec.ofNat 32 (i 0).val) (BitVec.ofNat 32 (i 1).val)),
    timePiece i x X 8 _ _ _ rfl (time1 _ (BitVec.ofNat 32 (i 0).val) (BitVec.ofNat 32 (i 1).val)),
    timePiece i x X 0 _ _ _ rfl (time0 _ (BitVec.ofNat 32 (i 0).val) (BitVec.ofNat 32 (i 1).val)), trivial⟩

theorem binPieces_of (i : grid0.Coords) (x : Vec F S1x1x4096 .f32) (X : Vec F S64x4096 .f32) (B : Vec F S64x4096 .i32) : View.PiecesOf (stepBin i x X B) (binPieces i x X B) :=
  ⟨binPiece i x X B 56 _ _ _ _ rfl (fun j => (by sl_kernel_rfl : k0_pay305 (BitVec.ofNat 32 (i 1).val) j = rawBin _ j).trans (rawBin_eq _ _)) (time7 _ (BitVec.ofNat 32 (i 0).val) (BitVec.ofNat 32 (i 1).val)),
    binPiece i x X B 48 _ _ _ _ rfl (fun j => (by sl_kernel_rfl : k0_pay263 (BitVec.ofNat 32 (i 1).val) j = rawBin _ j).trans (rawBin_eq _ _)) (time6 _ (BitVec.ofNat 32 (i 0).val) (BitVec.ofNat 32 (i 1).val)),
    binPiece i x X B 40 _ _ _ _ rfl (fun j => (by sl_kernel_rfl : k0_pay218 (BitVec.ofNat 32 (i 1).val) j = rawBin _ j).trans (rawBin_eq _ _)) (time5 _ (BitVec.ofNat 32 (i 0).val) (BitVec.ofNat 32 (i 1).val)),
    binPiece i x X B 32 _ _ _ _ rfl (fun j => (by sl_kernel_rfl : k0_pay176 (BitVec.ofNat 32 (i 1).val) j = rawBin _ j).trans (rawBin_eq _ _)) (time4 _ (BitVec.ofNat 32 (i 0).val) (BitVec.ofNat 32 (i 1).val)),
    binPiece i x X B 24 _ _ _ _ rfl (fun j => (by sl_kernel_rfl : k0_pay131 (BitVec.ofNat 32 (i 1).val) j = rawBin _ j).trans (rawBin_eq _ _)) (time3 _ (BitVec.ofNat 32 (i 0).val) (BitVec.ofNat 32 (i 1).val)),
    binPiece i x X B 16 _ _ _ _ rfl (fun j => (by sl_kernel_rfl : k0_pay89 (BitVec.ofNat 32 (i 1).val) j = rawBin _ j).trans (rawBin_eq _ _)) (time2 _ (BitVec.ofNat 32 (i 0).val) (BitVec.ofNat 32 (i 1).val)),
    binPiece i x X B 8 _ _ _ _ rfl (fun j => (by sl_kernel_rfl : k0_pay44 (BitVec.ofNat 32 (i 1).val) j = rawBin _ j).trans (rawBin_eq _ _)) (time1 _ (BitVec.ofNat 32 (i 0).val) (BitVec.ofNat 32 (i 1).val)),
    binPiece i x X B 0 _ _ _ _ rfl (fun j => (by sl_kernel_rfl : k0_pay2 (BitVec.ofNat 32 (i 1).val) j = rawBin _ j).trans (rawBin_eq _ _)) (time0 _ (BitVec.ofNat 32 (i 0).val) (BitVec.ofNat 32 (i 1).val)), trivial⟩

/-- After the stores the scratch arrays hold the point's step, whatever was stored before. -/
theorem canon_times (i : grid0.Coords) (x : Vec F S1x1x4096 .f32) (X : Vec F S64x4096 .f32) (L : List (View.Piece (Elt F) S64x4096 .f32)) (y : S64x4096.Idx) :
    View.canon (timePieces i x X ++ L) y = stepTime i x X y :=
  View.canon_append_of_piecesOf _ L _ (timePieces_of i x X) y (View.cover_of_tiledL (s := S64x4096) _ S8x4096.size (by sl_kernel_rfl) y)
theorem canon_bins (i : grid0.Coords) (x : Vec F S1x1x4096 .f32) (X : Vec F S64x4096 .f32) (B : Vec F S64x4096 .i32) (L : List (View.Piece (Elt F) S64x4096 .i32)) (y : S64x4096.Idx) :
    View.canon (binPieces i x X B ++ L) y = stepBin i x X B y :=
  View.canon_append_of_piecesOf _ L _ (binPieces_of i x X B) y (View.cover_of_tiledL (s := S64x4096) _ S8x4096.size (by sl_kernel_rfl) y)

end Cert.KernelIdeal.Gen

end
-- ==== Proof.Cases.lean ====
/- What one grid point leaves in the two scratch arrays and in its output block, in each of the four cases of the two branches. -/
module

public import proofs.«01_k».proof.Proof.Slices
public import proofs.«01_k».proof.Proof.Gen.KernelIdeal.Frame
public import Idealize.ShloMosaic.Lib.Pipeline.ReadBack

@[expose] public section

set_option maxRecDepth 16384

noncomputable section

namespace Cert.KernelIdeal.Gen

open Idealize.ShloMosaic Idealize.ShloMosaic.TcCoe Cert.Proof

variable {F : FTy → Type} [FloatOps F]

/-- A load of the whole array reads it in place. -/
theorem whole_idx (z : S64x4096.Idx) : (Rect.unit (s := S64x4096) ![0, 0] ![64, 4096] inb_S64x4096_S64x4096_0_0).toLoadRect.idx z = z := by
  funext a
  match a with
  | ⟨0, _⟩ => exact Fin.ext (lane_val _)
  | ⟨1, _⟩ => exact Fin.ext (lane_val _)

theorem sout0_A_0_eq (c : Dev nD) (i : grid0.Coords) (arg4 : Memref sig .tc .vmem S1x1x4096 .f32) (harg4 : arg4.IsWhole) (arg5 : Memref sig .tc .vmem S1x64x1 .i32) (harg5 : arg5.IsWhole) (arg6 : Memref sig .tc .vmem S64x4096 .f32) (harg6 : arg6.IsWhole) (arg7 : Memref sig .tc .vmem S64x4096 .i32) (harg7 : arg7.IsWhole) (hc0 : cond0_0 i) (hc2 : ¬cond0_2 i)
    (x0 : Vec F S1x1x4096 .f32) (xt0 : TbBuf0 (F := F) c tbM0_0) (xt1 : TbBuf0 (F := F) c tbM0_1) (hc1 : cond0_1 i (tbM0_1.view.readAt (Elt F) (Rect.unit (s := S32) (k0_off1 i) S1.size (k0_off1_inb i)).toLoadRect xt1 (Shape.Idx.first (numel1_S1.symm ▸ Nat.one_pos)))) :
    sout0_A_0 c i arg4 harg4 arg5 harg5 arg6 harg6 arg7 harg7 hc0 hc2 x0 xt0 xt1 hc1 = stepTime i x0 k0_pay351 := by
  funext j
  frame_open
  simp (disch := decide) only [↓ View.readCov_skip, ↓ View.readCov_cons_toLoadRect, ↓ View.readCov_fill]
  frame_out
  exact canon_times i x0 k0_pay351 [_] j

theorem sout0_A_1_eq (c : Dev nD) (i : grid0.Coords) (arg4 : Memref sig .tc .vmem S1x1x4096 .f32) (harg4 : arg4.IsWhole) (arg5 : Memref sig .tc .vmem S1x64x1 .i32) (harg5 : arg5.IsWhole) (arg6 : Memref sig .tc .vmem S64x4096 .f32) (harg6 : arg6.IsWhole) (arg7 : Memref sig .tc .vmem S64x4096 .i32) (harg7 : arg7.IsWhole) (hc0 : cond0_0 i) (hc2 : ¬cond0_2 i)
    (x0 : Vec F S1x1x4096 .f32) (xt0 : TbBuf0 (F := F) c tbM0_0) (xt1 : TbBuf0 (F := F) c tbM0_1) (hc1 : cond0_1 i (tbM0_1.view.readAt (Elt F) (Rect.unit (s := S32) (k0_off1 i) S1.size (k0_off1_inb i)).toLoadRect xt1 (Shape.Idx.first (numel1_S1.symm ▸ Nat.one_pos)))) :
    sout0_A_1 c i arg4 harg4 arg5 harg5 arg6 harg6 arg7 harg7 hc0 hc2 x0 xt0 xt1 hc1 = stepBin i x0 k0_pay351 k0_pay352 := by
  funext j
  frame_open
  simp (disch := decide) only [↓ View.readCov_skip, ↓ View.readCov_cons_toLoadRect, ↓ View.readCov_fill]
  frame_out
  exact canon_bins i x0 k0_pay351 k0_pay352 [_] j

theorem sout0_C_0_eq (c : Dev nD) (i : grid0.Coords) (arg4 : Memref sig .tc .vmem S1x1x4096 .f32) (harg4 : arg4.IsWhole) (arg5 : Memref sig .tc .vmem S1x64x1 .i32) (harg5 : arg5.IsWhole) (arg6 : Memref sig .tc .vmem S64x4096 .f32) (harg6 : arg6.IsWhole) (arg7 : Memref sig .tc .vmem S64x4096 .i32) (harg7 : arg7.IsWhole) (hc0 : ¬cond0_0 i) (hc2 : cond0_2 i)
    (x0 : Vec F S1x1x4096 .f32) (xt0 : TbBuf0 (F := F) c tbM0_0) (xt1 : TbBuf0 (F := F) c tbM0_1) (xs0 : Vec F S64x4096 .f32) (xs1 : Vec F S64x4096 .i32) (hc1 : cond0_1 i (tbM0_1.view.readAt (Elt F) (Rect.unit (s := S32) (k0_off1 i) S1.size (k0_off1_inb i)).toLoadRect xt1 (Shape.Idx.first (numel1_S1.symm ▸ Nat.one_pos)))) :
    sout0_C_0 c i arg4 harg4 arg5 harg5 arg6 harg6 arg7 harg7 hc0 hc2 x0 xt0 xt1 xs0 xs1 hc1 = stepTime i x0 xs0 := by
  funext j
  frame_open
  simp (disch := decide) only [↓ View.readCov_skip, ↓ View.readCov_cons_toLoadRect, ↓ View.readCov_fill]
  frame_out
  exact canon_times i x0 xs0 [] j

theorem sout0_C_1_eq (c : Dev nD) (i : grid0.Coords) (arg4 : Memref sig .tc .vmem S1x1x4096 .f32) (harg4 : arg4.IsWhole) (arg5 : Memref sig .tc .vmem S1x64x1 .i32) (harg5 : arg5.IsWhole) (arg6 : Memref sig .tc .vmem S64x4096 .f32) (harg6 : arg6.IsWhole) (arg7 : Memref sig .tc .vmem S64x4096 .i32) (harg7 : arg7.IsWhole) (hc0 : ¬cond0_0 i) (hc2 : cond0_2 i)
    (x0 : Vec F S1x1x4096 .f32) (xt0 : TbBuf0 (F := F) c tbM0_0) (xt1 : TbBuf0 (F := F) c tbM0_1) (xs0 : Vec F S64x4096 .f32) (xs1 : Vec F S64x4096 .i32) (hc1 : cond0_1 i (tbM0_1.view.readAt (Elt F) (Rect.unit (s := S32) (k0_off1 i) S1.size (k0_off1_inb i)).toLoadRect xt1 (Shape.Idx.first (numel1_S1.symm ▸ Nat.one_pos)))) :
    sout0_C_1 c i arg4 harg4 arg5 harg5 arg6 harg6 arg7 harg7 hc0 hc2 x0 xt0 xt1 xs0 xs1 hc1 = stepBin i x0 xs0 xs1 := by
  funext j
  frame_open
  simp (disch := decide) only [↓ View.readCov_skip, ↓ View.readCov_cons_toLoadRect, ↓ View.readCov_fill]
  frame_out
  exact canon_bins i x0 xs0 xs1 [] j

theorem sout0_B_0_eq (c : Dev nD) (i : grid0.Coords) (arg4 : Memref sig .tc .vmem S1x1x4096 .f32) (harg4 : arg4.IsWhole) (arg5 : Memref sig .tc .vmem S1x64x1 .i32) (harg5 : arg5.IsWhole) (arg6 : Memref sig .tc .vmem S64x4096 .f32) (harg6 : arg6.IsWhole) (arg7 : Memref sig .tc .vmem S64x4096 .i32) (harg7 : arg7.IsWhole) (hc0 : cond0_0 i) (hc2 : ¬cond0_2 i)
    (x0 : Vec F S1x1x4096 .f32) (xt0 : TbBuf0 (F := F) c tbM0_0) (xt1 : TbBuf0 (F := F) c tbM0_1) (hc1 : ¬cond0_1 i (tbM0_1.view.readAt (Elt F) (Rect.unit (s := S32) (k0_off1 i) S1.size (k0_off1_inb i)).toLoadRect xt1 (Shape.Idx.first (numel1_S1.symm ▸ Nat.one_pos)))) :
    sout0_B_0 c i arg4 harg4 arg5 harg5 arg6 harg6 arg7 harg7 hc0 hc2 x0 xt0 xt1 hc1 = k0_pay351 := by
  funext j
  frame_open
  frame_out

theorem sout0_B_1_eq (c : Dev nD) (i : grid0.Coords) (arg4 : Memref sig .tc .vmem S1x1x4096 .f32) (harg4 : arg4.IsWhole) (arg5 : Memref sig .tc .vmem S1x64x1 .i32) (harg5 : arg5.IsWhole) (arg6 : Memref sig .tc .vmem S64x4096 .f32) (harg6 : arg6.IsWhole) (arg7 : Memref sig .tc .vmem S64x4096 .i32) (harg7 : arg7.IsWhole) (hc0 : cond0_0 i) (hc2 : ¬cond0_2 i)
    (x0 : Vec F S1x1x4096 .f32) (xt0 : TbBuf0 (F := F) c tbM0_0) (xt1 : TbBuf0 (F := F) c tbM0_1) (hc1 : ¬cond0_1 i (tbM0_1.view.readAt (Elt F) (Rect.unit (s := S32) (k0_off1 i) S1.size (k0_off1_inb i)).toLoadRect xt1 (Shape.Idx.first (numel1_S1.symm ▸ Nat.one_pos)))) :
    sout0_B_1 c i arg4 harg4 arg5 harg5 arg6 harg6 arg7 harg7 hc0 hc2 x0 xt0 xt1 hc1 = k0_pay352 := by
  funext j
  frame_open
  frame_out

theorem out0_D_1_eq (c : Dev nD) (i : grid0.Coords) (arg4 : Memref sig .tc .vmem S1x1x4096 .f32) (harg4 : arg4.IsWhole) (arg5 : Memref sig .tc .vmem S1x64x1 .i32) (harg5 : arg5.IsWhole) (arg6 : Memref sig .tc .vmem S64x4096 .f32) (harg6 : arg6.IsWhole) (arg7 : Memref sig .tc .vmem S64x4096 .i32) (harg7 : arg7.IsWhole) (hc0 : ¬cond0_0 i) (hc2 : cond0_2 i)
    (x0 : Vec F S1x1x4096 .f32) (xt0 : TbBuf0 (F := F) c tbM0_0) (xt1 : TbBuf0 (F := F) c tbM0_1) (xs0 : Vec F S64x4096 .f32) (xs1 : Vec F S64x4096 .i32) (hc1 : ¬cond0_1 i (tbM0_1.view.readAt (Elt F) (Rect.unit (s := S32) (k0_off1 i) S1.size (k0_off1_inb i)).toLoadRect xt1 (Shape.Idx.first (numel1_S1.symm ▸ Nat.one_pos)))) :
    out0_D_1 c i arg4 harg4 arg5 harg5 arg6 harg6 arg7 harg7 hc0 hc2 x0 xt0 xt1 xs0 xs1 hc1 = k0_pay1 xs0 xs1 := by
  funext j
  frame_open
  frame_out

theorem out0_C_1_eq (c : Dev nD) (i : grid0.Coords) (arg4 : Memref sig .tc .vmem S1x1x4096 .f32) (harg4 : arg4.IsWhole) (arg5 : Memref sig .tc .vmem S1x64x1 .i32) (harg5 : arg5.IsWhole) (arg6 : Memref sig .tc .vmem S64x4096 .f32) (harg6 : arg6.IsWhole) (arg7 : Memref sig .tc .vmem S64x4096 .i32) (harg7 : arg7.IsWhole) (hc0 : ¬cond0_0 i) (hc2 : cond0_2 i)
    (x0 : Vec F S1x1x4096 .f32) (xt0 : TbBuf0 (F := F) c tbM0_0) (xt1 : TbBuf0 (F := F) c tbM0_1) (xs0 : Vec F S64x4096 .f32) (xs1 : Vec F S64x4096 .i32) (hc1 : cond0_1 i (tbM0_1.view.readAt (Elt F) (Rect.unit (s := S32) (k0_off1 i) S1.size (k0_off1_inb i)).toLoadRect xt1 (Shape.Idx.first (numel1_S1.symm ▸ Nat.one_pos)))) :
    out0_C_1 c i arg4 harg4 arg5 harg5 arg6 harg6 arg7 harg7 hc0 hc2 x0 xt0 xt1 xs0 xs1 hc1 = k0_pay1 (stepTime i x0 xs0) (stepBin i x0 xs0 xs1) := by
  funext j
  frame_open
  frame_out
  refine congrArg₂ (fun a b => k0_pay1 a b j) ?_ ?_
  · exact (View.readCov_eq_canon' _ _ _).trans (funext fun z => (canon_times i x0 xs0 [] _).trans (congrArg _ (whole_idx z)))
  · exact (View.readCov_eq_canon' _ _ _).trans (funext fun z => (canon_bins i x0 xs0 xs1 [] _).trans (congrArg _ (whole_idx z)))

end Cert.KernelIdeal.Gen

end
-- ==== Proof.Array.lean ====
/- What the two points of a block of draws leave in the output array, by the flag of their trajectory point. -/
module

public import proofs.«01_k».proof.Proof.Cases
public import Idealize.ShloMosaic.Lib.Pipeline.ValueKit

@[expose] public section

set_option maxRecDepth 16384

noncomputable section

namespace Cert.KernelIdeal.Gen

open Idealize.ShloMosaic Idealize.ShloMosaic.TcCoe Cert.Proof

variable {F : FTy → Type} [FloatOps F] (m : (ℓ : Loc nD τ sig) → Buf (Elt F) ℓ) (hO : Ok m) (c : Dev nD)

/-- The trajectory point whose flag the grid point `t` reads. -/
theorem off_eq (t : Fin grid0.N) : k0_off1 (grid0.coords t) 0 = t.val / 8 :=
  (by decide +kernel : ∀ t : Fin grid0.N, k0_off1 (grid0.coords t) 0 = t.val / 8) t

theorem off_idx (t : Fin grid0.N) (w : Fin 32) (hw : w.val = t.val / 8) :
    (Rect.unit (s := S32) (k0_off1 (grid0.coords t)) S1.size (k0_off1_inb (grid0.coords t))).toLoadRect.idx (Shape.Idx.first (numel1_S1.symm ▸ Nat.one_pos)) = ix1 w := by
  refine funext fun a => ?_
  match a with
  | ⟨0, _⟩ =>
    apply Fin.ext
    have h := off_eq t
    have f : ((Shape.Idx.first (s := S1) (numel1_S1.symm ▸ Nat.one_pos)) 0).val = 0 := Nat.lt_one_iff.mp (Fin.isLt _)
    show k0_off1 (grid0.coords t) 0 + 1 * ((Shape.Idx.first (s := S1) (numel1_S1.symm ▸ Nat.one_pos)) 0).val = w.val
    rw [f, h, hw, Nat.mul_zero, Nat.add_zero]

/-- The flag word the grid point `t` reads. -/
abbrev flagWord (t : Fin grid0.N) : BitVec 32 :=
  tbM0_1.view.readAt (Elt F) (Rect.unit (s := S32) (k0_off1 (grid0.coords t)) S1.size (k0_off1_inb (grid0.coords t))).toLoadRect (tbl m 1) (Shape.Idx.first (numel1_S1.symm ▸ Nat.one_pos))

theorem flagWord_eq (t : Fin grid0.N) (w : Fin 32) (hw : w.val = t.val / 8) :
    flagWord m t = (tbl m 1 : IVec S32 32) (ix1 w) := by
  have e : flagWord m t = (tbl m 1 : IVec S32 32) ((Rect.unit (s := S32) (k0_off1 (grid0.coords t)) S1.size (k0_off1_inb (grid0.coords t))).toLoadRect.idx (Shape.Idx.first (numel1_S1.symm ▸ Nat.one_pos))) := rfl
  rw [e, off_idx t w hw]

theorem cond_of_word (i : grid0.Coords) (v : BitVec 32) : cond0_1 i v ↔ v = 0#32 := by
  unfold cond0_1
  by_cases h : v = 0#32
  · subst h; simp; decide
  · simp only [h, iff_false]
    have : IntOp.cmpi .eq v 0#32 = 0#1 := by
      show BitVec.ofBool (v == 0#32) = 0#1
      rw [beq_eq_false_iff_ne.mpr h]; rfl
    show ¬ Scalar.cmpi .ne (Scalar.extui (IntOp.cmpi .eq v 0#32)) 0#32 = 1#1
    rw [this]; decide

/-- The point before an odd one. -/
abbrev prev (t : Fin (cfgM m hO).N) : Fin (cfgM m hO).N := ⟨t.val - 1, lt_of_le_of_lt (Nat.sub_le _ _) t.isLt⟩

theorem times_race (t : Fin (cfgM m hO).N) (h0 : t.val % 2 = 0) (hw : flagWord m t = 0#32) :
    (outsAt0 m hO c t.val t.isLt).2.1 = stepTime (grid0.coords t) (iblk m hO c 0 t) k0_pay351 := by
  have h1 := (cond_of_word (grid0.coords t) _).mpr hw
  have h2 : ¬t.val % 2 = 1 := by omega
  rw [outsAt0_A m hO c t h0 h1 h2]
  have e := (sout0_A_0_eq c (grid0.coords t) (ms0_0 m hO t) (hs0_0 m hO t) (ms0_1 m hO t) (hs0_1 m hO t) scM0_0 (Memref.isWhole_whole _) scM0_1 (Memref.isWhole_whole _) ((hcond0_0 t).mpr h0) (fun h => h2 ((hcond0_2 t).mp h)) (iblk m hO c 0 t) (tbl m 0) (tbl m 1) h1)
  with_reducible exact e

theorem bins_race (t : Fin (cfgM m hO).N) (h0 : t.val % 2 = 0) (hw : flagWord m t = 0#32) :
    (outsAt0 m hO c t.val t.isLt).2.2 = stepBin (grid0.coords t) (iblk m hO c 0 t) k0_pay351 k0_pay352 := by
  have h1 := (cond_of_word (grid0.coords t) _).mpr hw
  have h2 : ¬t.val % 2 = 1 := by omega
  rw [outsAt0_A m hO c t h0 h1 h2]
  have e := (sout0_A_1_eq c (grid0.coords t) (ms0_0 m hO t) (hs0_0 m hO t) (ms0_1 m hO t) (hs0_1 m hO t) scM0_0 (Memref.isWhole_whole _) scM0_1 (Memref.isWhole_whole _) ((hcond0_0 t).mpr h0) (fun h => h2 ((hcond0_2 t).mp h)) (iblk m hO c 0 t) (tbl m 0) (tbl m 1) h1)
  with_reducible exact e

theorem times_flag (t : Fin (cfgM m hO).N) (h0 : t.val % 2 = 0) (hw : flagWord m t ≠ 0#32) :
    (outsAt0 m hO c t.val t.isLt).2.1 = k0_pay351 := by
  have h1 : ¬ cond0_1 (grid0.coords t) _ := fun h => hw ((cond_of_word (grid0.coords t) _).mp h)
  have h2 : ¬t.val % 2 = 1 := by omega
  rw [outsAt0_B m hO c t h0 h1 h2]
  have e := (sout0_B_0_eq c (grid0.coords t) (ms0_0 m hO t) (hs0_0 m hO t) (ms0_1 m hO t) (hs0_1 m hO t) scM0_0 (Memref.isWhole_whole _) scM0_1 (Memref.isWhole_whole _) ((hcond0_0 t).mpr h0) (fun h => h2 ((hcond0_2 t).mp h)) (iblk m hO c 0 t) (tbl m 0) (tbl m 1) h1)
  with_reducible exact e

theorem bins_flag (t : Fin (cfgM m hO).N) (h0 : t.val % 2 = 0) (hw : flagWord m t ≠ 0#32) :
    (outsAt0 m hO c t.val t.isLt).2.2 = k0_pay352 := by
  have h1 : ¬ cond0_1 (grid0.coords t) _ := fun h => hw ((cond_of_word (grid0.coords t) _).mp h)
  have h2 : ¬t.val % 2 = 1 := by omega
  rw [outsAt0_B m hO c t h0 h1 h2]
  have e := (sout0_B_1_eq c (grid0.coords t) (ms0_0 m hO t) (hs0_0 m hO t) (ms0_1 m hO t) (hs0_1 m hO t) scM0_0 (Memref.isWhole_whole _) scM0_1 (Memref.isWhole_whole _) ((hcond0_0 t).mpr h0) (fun h => h2 ((hcond0_2 t).mp h)) (iblk m hO c 0 t) (tbl m 0) (tbl m 1) h1)
  with_reducible exact e

theorem out_race (t : Fin (cfgM m hO).N) (h2 : t.val % 2 = 1) (hv : flagWord m (prev m hO t) = 0#32) (hw : flagWord m t = 0#32) :
    (outsAt0 m hO c t.val t.isLt).1
      = k0_pay1 (stepTime (grid0.coords t) (iblk m hO c 0 t) (stepTime (grid0.coords (prev m hO t)) (iblk m hO c 0 (prev m hO t)) k0_pay351))
          (stepBin (grid0.coords t) (iblk m hO c 0 t) (stepTime (grid0.coords (prev m hO t)) (iblk m hO c 0 (prev m hO t)) k0_pay351)
            (stepBin (grid0.coords (prev m hO t)) (iblk m hO c 0 (prev m hO t)) k0_pay351 k0_pay352)) := by
  have e1 := times_race m hO c (prev m hO t) (show (t.val - 1) % 2 = 0 by omega) hv
  have e2 := bins_race m hO c (prev m hO t) (show (t.val - 1) % 2 = 0 by omega) hv
  have h1 := (cond_of_word (grid0.coords t) _).mpr hw
  have h0 : ¬t.val % 2 = 0 := by omega
  rw [outsAt0_C m hO c t h0 h1 h2]
  refine (out0_C_1_eq c (grid0.coords t) (ms0_0 m hO t) (hs0_0 m hO t) (ms0_1 m hO t) (hs0_1 m hO t) scM0_0 (Memref.isWhole_whole _) scM0_1 (Memref.isWhole_whole _) (fun h => h0 ((hcond0_0 t).mp h)) ((hcond0_2 t).mpr h2) (iblk m hO c 0 t) (tbl m 0) (tbl m 1) _ _ h1).trans ?_
  rw [e1, e2]

theorem out_flag (t : Fin (cfgM m hO).N) (h2 : t.val % 2 = 1) (hv : flagWord m (prev m hO t) ≠ 0#32) (hw : flagWord m t ≠ 0#32) :
    (outsAt0 m hO c t.val t.isLt).1 = k0_pay1 (F := F) k0_pay351 k0_pay352 := by
  have e1 := times_flag m hO c (prev m hO t) (show (t.val - 1) % 2 = 0 by omega) hv
  have e2 := bins_flag m hO c (prev m hO t) (show (t.val - 1) % 2 = 0 by omega) hv
  have h1 : ¬ cond0_1 (grid0.coords t) _ := fun h => hw ((cond_of_word (grid0.coords t) _).mp h)
  have h0 : ¬t.val % 2 = 0 := by omega
  rw [outsAt0_D m hO c t h0 h1 h2]
  refine (out0_D_1_eq c (grid0.coords t) (ms0_0 m hO t) (hs0_0 m hO t) (ms0_1 m hO t) (hs0_1 m hO t) scM0_0 (Memref.isWhole_whole _) scM0_1 (Memref.isWhole_whole _) (fun h => h0 ((hcond0_0 t).mp h)) ((hcond0_2 t).mpr h2) (iblk m hO c 0 t) (tbl m 0) (tbl m 1) _ _ h1).trans ?_
  rw [e1, e2]

/-- The block the output's window is at. -/
theorem out_index (t : Fin (cfgM m hO).N) : ((cfgM m hO).win 1).index t = ![t.val / 2, 0, 0] :=
  (by decide +kernel : ∀ t : Fin grid0.N, cc0_transform_1 (grid0.coords t) = ![t.val / 2, 0, 0]) t

/-- An array that agrees with what the odd points leave, block by block, is the output array. -/
theorem arr_eq (G : IVec S128x64x1 32)
    (h : ∀ (t : Fin (cfgM m hO).N) (_ : t.val % 2 = 1) (p : Fin 128) (_ : p.val = t.val / 2) (r : Fin 64),
      (outsAt0 m hO c t.val t.isLt).1 (ix3 0 r 0) = G (ix3 p r 0)) :
    (dats m hO 0 c).arrAt 1 (cfgM m hO).N = G := by
  refine (dats m hO 0 c).arrAt_eq_of_emb 1 G (fun t hf y => ?_) (fun (i : S128x64x1.Idx) => ?_)
  · have h2 : t.val % 2 = 1 := (flush0_1 _ t).mp hf
    blk_simp
    rw [after0_1]
    obtain ⟨r, hr⟩ : ∃ r : Fin 64, r = (show S1x64x1.Idx from y) 1 := ⟨_, rfl⟩
    have hy : (show S1x64x1.Idx from y) = ix3 0 r 0 := by
      funext a
      match a with
      | ⟨0, _⟩ => exact Subsingleton.elim (α := Fin 1) _ _
      | ⟨1, _⟩ => exact hr.symm
      | ⟨2, _⟩ => exact Subsingleton.elim (α := Fin 1) _ _
    have hp : t.val / 2 < 128 := by have := t.isLt; have e : (cfgM m hO).grid.N = 256 := N_0; omega
    refine (congrArg (outsAt0 m hO c t.val t.isLt).1 hy).trans ((h t h2 ⟨t.val / 2, hp⟩ rfl r).trans (congrArg G ?_))
    funext a
    apply Fin.ext
    match a with
    | ⟨0, _⟩ =>
      blk_simp
      exact (congrFun (out_index m hO t) (0 : Fin 3)).symm
    | ⟨1, _⟩ =>
      blk_simp
      rw [show ((cfgM m hO).win 1).index t (1 : Fin 3) = 0 from congrFun (out_index m hO t) (1 : Fin 3), Nat.zero_mul, Nat.zero_add]
      exact congrArg Fin.val hr
    | ⟨2, _⟩ =>
      blk_simp
      exact (congrFun (out_index m hO t) (2 : Fin 3)).symm
  · have e : (cfgM m hO).N = 256 := N_0
    have hi : (i 0).val < 128 := (i 0).isLt
    have h1 : (i 1).val < 64 := (i 1).isLt
    have h2 : (i 2).val < 1 := (i 2).isLt
    obtain ⟨t, ht⟩ : ∃ t : Fin (cfgM m hO).N, t.val = 2 * (i 0).val + 1 := ⟨⟨_, by omega⟩, rfl⟩
    refine ⟨t, (flush0_1 _ _).mpr (by omega), ?_⟩
    refine (Pipeline.Window.emb_mem_blk_iff ((cfgM m hO).win 1) t i rfl).mpr fun a => ?_
    rw [out_index]
    match a with
    | ⟨0, _⟩ => show t.val / 2 * 1 ≤ (i 0).val ∧ (i 0).val < t.val / 2 * 1 + 1; omega
    | ⟨1, _⟩ => show 0 * 64 ≤ (i 1).val ∧ (i 1).val < 0 * 64 + 64; omega
    | ⟨2, _⟩ => show 0 * 1 ≤ (i 2).val ∧ (i 2).val < 0 * 1 + 1; omega

end Cert.KernelIdeal.Gen

end
-- ==== Proof.Tables.lean ====
/- The time steps `t` are below 100 under either precondition, and then every block that the pipeline of the kernel fetches lies inside
   the array of densities: the side condition of the prefetched tables. -/
module

public import proofs.«01_k».proof.Defs
public import proofs.«01_k».proof.Proof.Gen.Kernel.Frame
public import proofs.«01_k».proof.Proof.Gen.KernelIdeal.Frame
public import proofs.«01_k».proof.Proof.Gen.Pre_in_range
public import proofs.«01_k».proof.Proof.Gen.Pre_densities

@[expose] public section

set_option maxRecDepth 16384

noncomputable section

namespace Cert.Proof

open Idealize.ShloMosaic Idealize.ShloMosaic.TcCoe

/-- Every word of the table of time steps is below 100. -/
abbrev Below (x : (⟨1, ![32]⟩ : Shape).Idx → BitVec 32) : Prop := ∀ w, (x w).toNat < 100

/-- A word that is at least 0 and less than a bound, both as signed numbers, is below that bound. -/
theorem lt_of_word (n : Nat) (hn : n < 2 ^ 31) (v : BitVec 32) (h : IntOp.andi (IntOp.cmpi .sge v 0#32) (IntOp.cmpi .slt v (BitVec.ofNat 32 n)) = 1#1) : v.toNat < n := by
  have andi_one (a b : BitVec 1) : IntOp.andi a b = 1#1 ↔ a = 1#1 ∧ b = 1#1 := by revert a b; decide
  have ofBool_eq_one (p : Bool) : (BitVec.ofBool p = 1#1) ↔ p = true := by cases p <;> decide
  rw [andi_one] at h
  simp only [IntOp.cmpi, ofBool_eq_one, BitVec.sle, BitVec.slt, decide_eq_true_eq, BitVec.toInt, BitVec.toNat_ofNat] at h
  have := v.isLt
  omega

theorem below_in_range {F : FTy → Type} [FloatOps F] (x : IVec Cert.Pre_in_range.S32 32) (y : FVec F Cert.Pre_in_range.S101x8192 .f32) (z : IVec Cert.Pre_in_range.S101 1)
    (h : Cert.Pre_in_range.fn (F := F) x y z = fun _ => 1#1) : Below x := fun w =>
  lt_of_word 100 (by decide) _ (congrFun h w)

theorem below_densities {F : FTy → Type} [FloatOps F] (x : IVec Cert.Pre_densities.S32 32) (y : FVec F Cert.Pre_densities.S101x8192 .f32) (z : IVec Cert.Pre_densities.S101 1)
    (h : (Cert.Pre_densities.fn (F := F) x y z).1 = fun _ => 1#1) : Below x := fun w =>
  lt_of_word 100 (by decide) _ (congrFun h w)

/-- The row of the block of densities at a point: twice a time step, plus the half. -/
theorem row_lt (v : BitVec 32) (h : v.toNat < 100) (k : Nat) (hk : k < 2) :
    (IntOp.addi (IntOp.muli v 2#32) (BitVec.ofNat 32 k)).toNat = 2 * v.toNat + k := by
  simp only [IntOp.addi, IntOp.muli, BitVec.toNat_add, BitVec.toNat_mul, BitVec.toNat_ofNat]
  omega

namespace K
open Cert.Kernel Cert.Kernel.Gen

theorem ok0_of {F : FTy → Type} [FloatOps F] (pf : pre0.Contents (Elt F)) (h : Below (pf 0)) : ok0 pf := by
  intro i
  refine ⟨fun a => ?_, Or.inl rfl⟩
  match a with
  | ⟨0, _⟩ =>
    have hk : (i 1).val < 2 := (i 1).isLt
    have key : ∀ w, ((IntOp.addi (IntOp.muli (pf 0 w) 2#32) (BitVec.ofNat 32 (i 1).val)).toNat + 1) * 1 ≤ 202 := fun w => by
      rw [row_lt _ (h w) _ hk]
      have := h w
      omega
    exact key _
  | ⟨1, _⟩ => exact (by decide : (0 + 1) * 1 ≤ 1)
  | ⟨2, _⟩ => exact (by decide : (0 + 1) * 4096 ≤ 4096)

theorem ok_of_pre (m : (ℓ : Loc nD τ sig) → Buf (Elt Bits) ℓ) (h : Cert.Pre_Kernel m) : Ok m :=
  ok0_of _ (by
    have e : tbl m 0 = m (((0 : Dev nD) : Thread nD τ).loc main_arg0) := V_main_arg0 m 0
    rw [e]; exact below_in_range _ _ _ (h 0))

end K

namespace KI
open Cert.KernelIdeal Cert.KernelIdeal.Gen

theorem ok0_of {F : FTy → Type} [FloatOps F] (pf : pre0.Contents (Elt F)) (h : Below (pf 0)) : ok0 pf := by
  intro i
  refine ⟨fun a => ?_, Or.inl rfl⟩
  match a with
  | ⟨0, _⟩ =>
    have hk : (i 1).val < 2 := (i 1).isLt
    have key : ∀ w, ((IntOp.addi (IntOp.muli (pf 0 w) 2#32) (BitVec.ofNat 32 (i 1).val)).toNat + 1) * 1 ≤ 202 := fun w => by
      rw [row_lt _ (h w) _ hk]
      have := h w
      omega
    exact key _
  | ⟨1, _⟩ => exact (by decide : (0 + 1) * 1 ≤ 1)
  | ⟨2, _⟩ => exact (by decide : (0 + 1) * 4096 ≤ 4096)

theorem ok_of_pre (m : (ℓ : Loc nD τ sig) → Buf (Elt Ideal) ℓ) (h : Cert.Pre_KernelIdeal m) : Ok m :=
  ok0_of _ (by
    have e : tbl m 0 = m (((0 : Dev nD) : Thread nD τ).loc main_arg0) := V_main_arg0 m 0
    rw [e]; exact below_in_range _ _ _ (h 0))

theorem ok_of_densities (m : (ℓ : Loc nD τ sig) → Buf (Elt Ideal) ℓ) (h : Cert.Pre_KernelIdeal_densities m) : Ok m :=
  ok0_of _ (by
    have e : tbl m 0 = m (((0 : Dev nD) : Thread nD τ).loc main_arg0) := V_main_arg0 m 0
    rw [e]; exact below_densities _ _ _ (h 0).1)

end KI

end Cert.Proof

end
-- ==== Proof.Times.lean ====
/- The numbers of the draw at `Ideal`: the unit a counter draws, its exponential variable, the time of a bin and the score the reference gives it. -/
module

public import proofs.«01_k».proof.Proof.Threefry
public import Idealize.ShloMosaic.PureOps.Ideal.Laws

@[expose] public section

set_option maxRecDepth 16384

noncomputable section

namespace Cert.Proof

open Idealize.ShloMosaic

/-- The unit variable of a float pattern in [1, 2). -/
def unitOf (b : BitVec 32) : EReal := max (Ideal.ofBits .f32 b - Ideal.ofBits .f32 0x3F800000#32) (Ideal.ofBits .f32 0x00800000#32)

/-- The constants. -/
theorem one_real : Ideal.ofBits .f32 0x3F800000#32 = ((1 : ℝ) : EReal) := by
  simp [Ideal.ofBits, Ideal.ieee, -EReal.coe_mul]; norm_num
theorem negone_real : Ideal.ofBits .f32 0xBF800000#32 = ((-1 : ℝ) : EReal) := by
  simp [Ideal.ofBits, Ideal.ieee, -EReal.coe_mul]; norm_num
theorem tiny_real : Ideal.ofBits .f32 0x00800000#32 = (((2 : ℝ) ^ (-126 : ℤ) : ℝ) : EReal) := by
  simp [Ideal.ofBits, Ideal.ieee, -EReal.coe_mul]; try norm_num
theorem eps_real : ∃ e : ℝ, 1 / 10 ^ 21 ≤ e ∧ Ideal.ofBits .f32 0x1E3CE508#32 = (e : EReal) := by
  refine ⟨12379400 * (2 : ℝ) ^ (-90 : ℤ), by norm_num, ?_⟩
  simp [Ideal.ofBits, Ideal.ieee, -EReal.coe_mul]; try norm_num
theorem huge_real : ∃ h : ℝ, 10 ^ 38 ≤ h ∧ Ideal.ofBits .f32 0x7F61B1E6#32 = (h : EReal) ∧ Ideal.ofBits .f32 0xFF61B1E6#32 = ((-h : ℝ) : EReal) := by
  refine ⟨14791142 * (2 : ℝ) ^ (104 : ℤ), by norm_num, ?_, ?_⟩ <;>
  · simp [Ideal.ofBits, Ideal.ieee, -EReal.coe_mul]
    try norm_num
theorem posInf_real : Ideal.ofBits .f32 0x7F800000#32 = (⊤ : EReal) := by
  simp [Ideal.ofBits, Ideal.ieee]
theorem negInf_real : Ideal.ofBits .f32 0xFF800000#32 = (⊥ : EReal) := by
  simp [Ideal.ofBits, Ideal.ieee]

/-- A pattern with the exponent of 1 is `1 + f / 2²³`. -/
theorem pattern_real (w : BitVec 32) : ∃ f : ℕ, f < 2 ^ 23 ∧
    Ideal.ofBits .f32 ((w >>> 9) ||| 1065353216#32) = ((1 + f * (2 : ℝ) ^ (-23 : ℤ) : ℝ) : EReal) := by
  have hs : ((w >>> 9) ||| 1065353216#32).extractLsb' 31 1 = 0#1 := by
    apply BitVec.eq_of_getLsbD_eq
    intro i hi
    have : i = 0 := by omega
    subst this
    simp [BitVec.getLsbD_extractLsb', BitVec.getLsbD_or, BitVec.getLsbD_ushiftRight]
  have he : ((w >>> 9) ||| 1065353216#32).extractLsb' 23 8 = 127#8 := by
    apply BitVec.eq_of_getLsbD_eq
    intro i hi
    interval_cases i <;> simp [BitVec.getLsbD_extractLsb', BitVec.getLsbD_or, BitVec.getLsbD_ushiftRight]
  refine ⟨(((w >>> 9) ||| 1065353216#32).extractLsb' 0 23).toNat, BitVec.isLt _, ?_⟩
  generalize hb : ((w >>> 9) ||| 1065353216#32) = b at hs he ⊢
  show Ideal.ieee 8 23 b = _
  unfold Ideal.ieee
  simp only [show 8 + 23 = 31 from rfl, hs, he]
  generalize (b.extractLsb' 0 23).toNat = f
  rw [if_neg (by decide), if_neg (by decide)]
  congr 1
  push_cast
  norm_num
  ring

/-- The drawn unit lies strictly between 0 and 1, and by how much. -/
theorem unit_real (w : BitVec 32) : ∃ u : ℝ, (2 : ℝ) ^ (-126 : ℤ) ≤ u ∧ u ≤ 1 - (2 : ℝ) ^ (-23 : ℤ) ∧
    unitOf ((w >>> 9) ||| 1065353216#32) = (u : EReal) := by
  obtain ⟨f, hf, h⟩ := pattern_real w
  have hf' : (f : ℝ) ≤ 2 ^ 23 - 1 := by
    have : f ≤ 2 ^ 23 - 1 := by omega
    have h2 : (f : ℝ) ≤ ((2 ^ 23 - 1 : ℕ) : ℝ) := by exact_mod_cast this
    norm_num at h2 ⊢; exact h2
  refine ⟨max (f * (2 : ℝ) ^ (-23 : ℤ)) ((2 : ℝ) ^ (-126 : ℤ)), le_max_right _ _, max_le ?_ (by norm_num), ?_⟩
  · have : (0 : ℝ) < (2 : ℝ) ^ (-23 : ℤ) := by positivity
    calc (f : ℝ) * (2 : ℝ) ^ (-23 : ℤ) ≤ (2 ^ 23 - 1) * (2 : ℝ) ^ (-23 : ℤ) := by gcongr
      _ = 1 - (2 : ℝ) ^ (-23 : ℤ) := by norm_num
  · unfold unitOf
    rw [h, one_real, tiny_real, ← EReal.coe_sub, add_sub_cancel_left]
    exact ((EReal.coe_strictMono.monotone).map_max).symm

/-- Its exponential variable `- log u`. -/
theorem log_unit (w : BitVec 32) : ∃ E : ℝ, (2 : ℝ) ^ (-23 : ℤ) ≤ E ∧ E ≤ 126 ∧
    Ideal.log (unitOf ((w >>> 9) ||| 1065353216#32)) = ((-E : ℝ) : EReal) := by
  obtain ⟨u, h0, h1, h⟩ := unit_real w
  have hu : 0 < u := lt_of_lt_of_le (by positivity) h0
  refine ⟨-Real.log u, ?_, ?_, ?_⟩
  · have := Real.log_le_sub_one_of_pos hu
    linarith
  · have h2 := Real.log_le_log (by positivity) h0
    rw [Real.log_zpow] at h2
    have h3 : Real.log 2 < 1 := by have := Real.log_lt_sub_one_of_pos (x := 2) (by norm_num) (by norm_num); linarith
    push_cast at h2
    linarith
  · rw [h, Ideal.log_coe, if_neg (not_le.mpr hu), neg_neg]

/-- The kernel's time of a bin of density `y`, and the reference's score of it. -/
def binTime (b : BitVec 32) (y : EReal) : EReal := Ideal.log (unitOf b) * Ideal.div (Ideal.ofBits .f32 0xBF800000#32) (y + Ideal.ofBits .f32 0x1E3CE508#32)
def binScore (b : BitVec 32) (y : EReal) : EReal := -(Ideal.log (-(Ideal.log (unitOf b)))) + Ideal.log (y + Ideal.ofBits .f32 0x1E3CE508#32)
/-- The time of the one lane past the last bin. -/
def padTime (b : BitVec 32) : EReal := Ideal.log (unitOf b) * Ideal.ofBits .f32 0xFF61B1E6#32

/-- The score of a bin is minus the logarithm of its time, which is a real number not below 0 and far below the padded lane's. -/
theorem time_score (w : BitVec 32) (y : EReal) (hy : 0 ≤ y) : ∃ τ : ℝ, 0 ≤ τ ∧ τ ≤ 10 ^ 24 ∧
    binTime ((w >>> 9) ||| 1065353216#32) y = (τ : EReal) ∧ binScore ((w >>> 9) ||| 1065353216#32) y = -(Ideal.log (τ : EReal)) := by
  obtain ⟨E, hE0, hE1, h⟩ := log_unit w
  obtain ⟨e, he, hε⟩ := eps_real
  have hE : 0 < E := lt_of_lt_of_le (by positivity) hE0
  have hepos : 0 < e := lt_of_lt_of_le (by positivity) he
  unfold binTime binScore
  rw [h, hε, negone_real]
  induction y with
  | bot => exact absurd hy (by simp)
  | top =>
    refine ⟨0, le_refl _, by positivity, ?_, ?_⟩
    · rw [EReal.top_add_coe, Ideal.div, if_neg (by simp), EReal.inv_top, mul_zero, mul_zero]; rfl
    · rw [EReal.top_add_coe, Ideal.log_top, Ideal.log_coe, if_pos (le_refl _), EReal.neg_bot, ← EReal.coe_neg, neg_neg, Ideal.log_coe,
        if_neg (not_le.mpr hE), ← EReal.coe_neg, EReal.coe_add_top]
  | coe y =>
    have hy' : 0 ≤ y := by exact_mod_cast hy
    have hp : 0 < y + e := by linarith
    refine ⟨E / (y + e), by positivity, ?_, ?_, ?_⟩
    · rw [div_le_iff₀ hp]
      have : (1 : ℝ) / 10 ^ 21 ≤ y + e := by linarith
      calc E ≤ 126 := hE1
        _ ≤ 10 ^ 24 * (1 / 10 ^ 21) := by norm_num
        _ ≤ 10 ^ 24 * (y + e) := by gcongr
    · rw [← EReal.coe_add, Ideal.div_coe hp.ne', ← EReal.coe_mul, ← EReal.coe_mul]
      congr 1; field_simp
    · rw [← EReal.coe_add, ← EReal.coe_neg, neg_neg, Ideal.log_coe, Ideal.log_coe, Ideal.log_coe, if_neg (not_le.mpr hE), if_neg (not_le.mpr hp),
        if_neg (not_le.mpr (div_pos hE hp)), ← EReal.coe_neg, ← EReal.coe_neg, ← EReal.coe_add, Real.log_div hE.ne' hp.ne']
      congr 1; ring

theorem pad_time (w : BitVec 32) : ((10 ^ 30 : ℝ) : EReal) ≤ padTime ((w >>> 9) ||| 1065353216#32) := by
  obtain ⟨E, hE0, _, h⟩ := log_unit w
  obtain ⟨g, hg, _, hn⟩ := huge_real
  unfold padTime
  rw [h, hn, ← EReal.coe_mul, neg_mul_neg]
  refine EReal.coe_le_coe_iff.mpr ?_
  calc (10 ^ 30 : ℝ) ≤ (2 : ℝ) ^ (-23 : ℤ) * 10 ^ 38 := by norm_num
    _ ≤ E * g := by gcongr

/-- Minus the logarithm turns the order of the reals from 0 around. -/
theorem neg_log_le (a b : ℝ) (ha : 0 ≤ a) (hb : 0 ≤ b) : -(Ideal.log (b : EReal)) ≤ -(Ideal.log (a : EReal)) ↔ (a : EReal) ≤ (b : EReal) := by
  rw [EReal.neg_le_neg_iff, Ideal.log_coe, Ideal.log_coe, EReal.coe_le_coe_iff]
  by_cases h0 : a ≤ 0
  · rw [if_pos h0]; exact ⟨fun _ => le_trans h0 hb, fun _ => bot_le⟩
  · rw [if_neg h0]
    by_cases h1 : b ≤ 0
    · rw [if_pos h1]
      refine ⟨fun h => absurd (le_bot_iff.mp h) (EReal.coe_ne_bot _), fun h => absurd (le_trans h h1) h0⟩
    · rw [if_neg h1, EReal.coe_le_coe_iff]
      exact Real.log_le_log_iff (not_le.mp h0) (not_le.mp h1)

end Cert.Proof

end
-- ==== Proof.First.lean ====
/- A race over two halves of lanes, each lane keeping its least time and that time's bin, ends in the first bin of least time. -/
module

public import Idealize.ShloMosaic.Lib.SortNet.Extract
public import Idealize.ShloMosaic.PureOps.Ideal.Laws

@[expose] public section

set_option maxRecDepth 16384

noncomputable section

namespace Cert.Proof

open Idealize.ShloMosaic

/-- `r` is the first number below `n` with property `P`. -/
def First (n : ℕ) (P : ℕ → Prop) (r : ℕ) : Prop := r < n ∧ P r ∧ ∀ b < n, P b → r ≤ b

theorem First.unique {n : ℕ} {P Q : ℕ → Prop} {r s : ℕ} (h : First n P r) (g : First n Q s) (e : ∀ b < n, (P b ↔ Q b)) : r = s :=
  le_antisymm (h.2.2 s g.1 ((e s g.1).mpr g.2.1)) (g.2.2 r h.1 ((e r h.1).mp h.2.1))

/-- A fold of the signed minimum over a set is at most its start and every word met, and is one of them. -/
theorem fold_minsi_spec {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  refine Finset.induction_on s ⟨le_of_eq (by rw [Finset.fold_empty]), fun i hi => absurd hi (Finset.notMem_empty i),
    Or.inl (by rw [Finset.fold_empty])⟩ ?_
  intro a s ha ⟨h1, h2, h3⟩
  rw [Finset.fold_insert ha]
  have hm := SortNet.toInt_minsi (g a) (s.fold IntOp.minsi init g)
  refine ⟨by rw [hm]; exact le_trans (min_le_right _ _) h1, fun i hi => ?_, ?_⟩
  · rw [hm]
    rcases Finset.mem_insert.mp hi with rfl | hi
    · exact min_le_left _ _
    · exact le_trans (min_le_right _ _) (h2 i hi)
  · rcases (min_choice (g a).toInt (s.fold IntOp.minsi init g).toInt) with hc | hc
    · exact Or.inr ⟨a, Finset.mem_insert_self _ _, BitVec.eq_of_toInt_eq (hm.trans hc)⟩
    · have e := BitVec.eq_of_toInt_eq (hm.trans hc)
      rcases h3 with h3 | ⟨i, hi, h3⟩
      · exact Or.inl (e.trans h3)
      · exact Or.inr ⟨i, Finset.mem_insert_of_mem hi, e.trans h3⟩

/-- Folds of the least and of the greatest extended real. -/
theorem fold_min_spec {ι : Type} [DecidableEq ι] (g : ι → EReal) (s : Finset ι) (hs : s.Nonempty) :
    (∀ i ∈ s, s.fold min ⊤ g ≤ g i) ∧ ∃ i ∈ s, s.fold min ⊤ g = g i := by
  have h1 : ∀ c, c ≤ s.fold min ⊤ g ↔ c ≤ ⊤ ∧ ∀ i ∈ s, c ≤ g i := fun c => Finset.le_fold_min c
  obtain ⟨i, hi, hm⟩ := Finset.exists_min_image s g hs
  have h2 := ((h1 _).mp (le_refl _)).2
  exact ⟨h2, i, hi, le_antisymm (h2 i hi) ((h1 _).mpr ⟨le_top, hm⟩)⟩
theorem fold_max_spec {ι : Type} [DecidableEq ι] (g : ι → EReal) (s : Finset ι) (hs : s.Nonempty) :
    (∀ i ∈ s, g i ≤ s.fold max ⊥ g) ∧ ∃ i ∈ s, s.fold max ⊥ g = g i := by
  have h1 : ∀ c, s.fold max ⊥ g ≤ c ↔ ⊥ ≤ c ∧ ∀ i ∈ s, g i ≤ c := fun c => Finset.fold_max_le c
  obtain ⟨i, hi, hm⟩ := Finset.exists_max_image s g hs
  have h2 := ((h1 _).mp (le_refl _)).2
  exact ⟨h2, i, hi, le_antisymm ((h1 _).mpr ⟨bot_le, hm⟩) (h2 i hi)⟩

/-- The least word of a selection of positions is the first position selected, where the other words are not below `n`. -/
theorem first_of_fold (n m : ℕ) (hm : m < 2 ^ 31) (hmn : n ≤ m) (g : Fin n → Prop) (v : Fin n → BitVec 32) (init : BitVec 32) (hi : init.toInt = 2147483647)
    (hv : ∀ c, g c → v c = BitVec.ofNat 32 c.val) (hw : ∀ c, ¬ g c → v c = BitVec.ofNat 32 m) (hex : ∃ c, g c) :
    ∃ r, First n (fun b => ∃ h : b < n, g ⟨b, h⟩) r ∧ (Finset.univ : Finset (Fin n)).fold IntOp.minsi init v = BitVec.ofNat 32 r := by
  classical
  have toi : ∀ k : ℕ, k < 2 ^ 31 → (BitVec.ofNat 32 k).toInt = k := fun k hk => by
    rw [BitVec.toInt_eq_toNat_cond, BitVec.toNat_ofNat, Nat.mod_eq_of_lt (by omega), if_pos (by omega)]
  obtain ⟨h1, h2, h3⟩ := fold_minsi_spec v Finset.univ init
  obtain ⟨c, hc⟩ := hex
  have hle := h2 c (Finset.mem_univ c)
  rw [hv c hc, toi _ (by omega)] at hle
  rcases h3 with h3 | ⟨i, -, h3⟩
  · rw [h3, hi] at hle; omega
  · by_cases hg : g i
    · refine ⟨i.val, ⟨i.isLt, ⟨i.isLt, hg⟩, fun b hb ⟨_, hgb⟩ => ?_⟩, h3.trans (hv i hg)⟩
      have := h2 ⟨b, hb⟩ (Finset.mem_univ _)
      rw [h3, hv i hg, hv _ hgb, toi _ (by omega), toi _ (by show b < _; omega)] at this
      exact_mod_cast this
    · rw [h3, hw i hg, toi _ hm] at hle; omega

/-- The race: lane `c` keeps the less of the times of bins `c` and `H + c`, the first on a tie, and that bin; the least word over the lanes of least time is
    the first bin of least time. `f` gives the times, all below the start `M`, the last one above the others. -/
theorem race (H : ℕ) (hH : 0 < H) (hH' : H < 2 ^ 28) (f : ℕ → EReal) (M : EReal) (hM : ∀ b, b < 2 * H - 1 → f b < M) (hl : ∀ b, b < 2 * H - 1 → f b < f (2 * H - 1))
    (T : Fin H → EReal) (B : Fin H → BitVec 32)
    (hT : ∀ c : Fin H, T c = if f (H + c) < (if f c < M then f c else M) then f (H + c) else (if f c < M then f c else M))
    (hB : ∀ c : Fin H, B c = if f (H + c) < (if f c < M then f c else M) then BitVec.ofNat 32 (H + c) else (if f c < M then BitVec.ofNat 32 c else 0#32))
    (init : BitVec 32) (hi : init.toInt = 2147483647) :
    ∃ r, First (2 * H - 1) (fun b => ∀ b', b' < 2 * H - 1 → f b ≤ f b') r ∧
      (Finset.univ : Finset (Fin H)).fold IntOp.minsi init (fun c => if T c = (Finset.univ : Finset (Fin H)).fold min ⊤ T then B c else 1073741824#32)
        = BitVec.ofNat 32 r := by
  classical
  have toi : ∀ k : ℕ, k < 2 ^ 31 → (BitVec.ofNat 32 k).toInt = k := fun k hk => by
    rw [BitVec.toInt_eq_toNat_cond, BitVec.toNat_ofNat, Nat.mod_eq_of_lt (by omega), if_pos (by omega)]
  have key : ∀ c : Fin H, ∃ b, b < 2 * H - 1 ∧ B c = BitVec.ofNat 32 b ∧ T c = f b ∧ T c ≤ f c ∧ T c ≤ f (H + c) ∧ (b = c.val ∨ b = H + c.val ∧ f b < f c) := fun c => by
    have hlast : c.val < 2 * H - 1 := by have := c.isLt; omega
    have hc := hT c; have hb := hB c
    rw [if_pos (hM _ hlast)] at hc hb
    by_cases hlt : f (H + c) < f c
    · rw [if_pos hlt] at hc hb
      refine ⟨H + c, ?_, hb, hc, by rw [hc]; exact hlt.le, by rw [hc], Or.inr ⟨rfl, hlt⟩⟩
      rcases Nat.lt_or_ge (H + c) (2 * H - 1) with h' | h'
      · exact h'
      · have e : H + c.val = 2 * H - 1 := by have := c.isLt; omega
        rw [e] at hlt
        exact absurd hlt (not_lt.mpr (hl _ hlast).le)
    · rw [if_neg hlt] at hc hb
      rw [if_pos (hM _ hlast)] at hb
      exact ⟨c, hlast, hb, hc, by rw [hc], by rw [hc]; exact not_lt.mp hlt, Or.inl rfl⟩
  obtain ⟨hμ, c0, -, hc0⟩ := fold_min_spec T Finset.univ ⟨⟨0, hH⟩, Finset.mem_univ _⟩
  generalize (Finset.univ : Finset (Fin H)).fold min ⊤ T = μ at hμ hc0 ⊢
  have hall : ∀ b, b < 2 * H - 1 → μ ≤ f b := fun b hb => by
    rcases Nat.lt_or_ge b H with h | h
    · obtain ⟨_, _, _, _, hle, _, _⟩ := key ⟨b, h⟩
      exact le_trans (hμ _ (Finset.mem_univ _)) hle
    · obtain ⟨_, _, _, _, _, hle, _⟩ := key ⟨b - H, by omega⟩
      have e : H + (b - H) = b := by omega
      simp only [e] at hle
      exact le_trans (hμ _ (Finset.mem_univ _)) hle
  obtain ⟨h1, h2, h3⟩ := fold_minsi_spec (fun c => if T c = μ then B c else 1073741824#32) Finset.univ init
  generalize (Finset.univ : Finset (Fin H)).fold IntOp.minsi init (fun c => if T c = μ then B c else 1073741824#32) = R at h1 h2 h3 ⊢
  obtain ⟨b0, hb0, hB0, hT0, -, -, -⟩ := key c0
  have hle := h2 c0 (Finset.mem_univ _)
  rw [if_pos hc0.symm, hB0, toi _ (by omega)] at hle
  rcases h3 with h3 | ⟨i, -, h3⟩
  · rw [h3, hi] at hle; omega
  by_cases hti : T i = μ
  · rw [if_pos hti] at h3
    obtain ⟨b, hb, hBi, hTi, -, -, -⟩ := key i
    refine ⟨b, ⟨hb, fun b' hb' => by rw [← hTi, hti]; exact hall b' hb', fun b' hb' hmin => ?_⟩, h3.trans hBi⟩
    have hb'μ : f b' = μ := le_antisymm (by rw [← hti, hTi]; exact hmin b hb) (hall b' hb')
    -- the lane of `b'` holds `b'` or a smaller bin
    have lane : ∃ c : Fin H, ∃ b'', T c = μ ∧ B c = BitVec.ofNat 32 b'' ∧ b'' ≤ b' := by
      rcases Nat.lt_or_ge b' H with h | h
      · obtain ⟨b'', hb'', hBc, hTc, hle1, _, hor⟩ := key ⟨b', h⟩
        have hTμ : T ⟨b', h⟩ = μ := le_antisymm (by rw [← hb'μ]; exact hle1) (hμ _ (Finset.mem_univ _))
        refine ⟨⟨b', h⟩, b'', hTμ, hBc, ?_⟩
        rcases hor with hor | ⟨_, hor⟩
        · exact hor.le
        · rw [← hTc, hTμ] at hor
          exact absurd hor (not_lt.mpr hb'μ.le)
      · obtain ⟨b'', hb'', hBc, hTc, _, hle1, hor⟩ := key ⟨b' - H, by omega⟩
        have e : H + (b' - H) = b' := by omega
        simp only [e] at hle1 hor
        have hTμ : T ⟨b' - H, by omega⟩ = μ := le_antisymm (by rw [← hb'μ]; exact hle1) (hμ _ (Finset.mem_univ _))
        refine ⟨⟨b' - H, by omega⟩, b'', hTμ, hBc, ?_⟩
        rcases hor with hor | ⟨hor, _⟩
        · omega
        · exact hor.le
    obtain ⟨c, b'', hTc, hBc, hle'⟩ := lane
    have h4 := h2 c (Finset.mem_univ _)
    have hb''lt : b'' < 2 ^ 31 := by omega
    rw [if_pos hTc, hBc, h3, hBi, toi _ (by omega), toi _ hb''lt] at h4
    omega
  · rw [if_neg hti] at h3
    rw [h3, show (1073741824#32).toInt = 1073741824 from by decide] at hle
    omega

end Cert.Proof

end
-- ==== Proof.Spec.lean ====
/- The draw both programs make, in one row of the flattened batch: the pattern of each bin, its score and its time. -/
module

public import proofs.«01_k».proof.Proof.Times
public import proofs.«01_k».proof.Proof.First
public import Idealize.ShloMosaic.Lib.ValueIdx

@[expose] public section

set_option maxRecDepth 16384

noncomputable section

namespace Cert.Proof

open Idealize.ShloMosaic

/-- The pattern drawn for bin `b` of row `n`. -/
def patternAt (n b : Nat) : BitVec 32 := pattern .vector (BitVec.ofNat 32 (n * 8191 + b) + 2751771740#32)

theorem pattern_shift (m : BitVec 32) : pattern .vector m = (draw .vector m >>> 9) ||| 1065353216#32 := by
  have h : IntOp.shrui .vector (draw .vector m) 9#32 = draw .vector m >>> 9 := by
    unfold IntOp.shrui; rw [if_pos (by decide)]; rfl
  unfold pattern; rw [h]; rfl

/-- The density tabulated for time step `t` and bin `b`. -/
def densAt (Y : (⟨2, ![101, 8192]⟩ : Shape).Idx → EReal) (t : Fin 101) (b : Nat) : EReal := Y (ix2 t ⟨b % 8192, Nat.mod_lt _ (by decide)⟩)

def scoreAt (Y : (⟨2, ![101, 8192]⟩ : Shape).Idx → EReal) (t : Fin 101) (n b : Nat) : EReal := binScore (patternAt n b) (densAt Y t b)
def raceAt (Y : (⟨2, ![101, 8192]⟩ : Shape).Idx → EReal) (t : Fin 101) (n b : Nat) : EReal :=
  if b < 8191 then binTime (patternAt n b) (densAt Y t b) else padTime (patternAt n b)

/-- The first bin of the greatest score. -/
def Drawn (Y : (⟨2, ![101, 8192]⟩ : Shape).Idx → EReal) (t : Fin 101) (n r : Nat) : Prop :=
  First 8191 (fun b => ∀ b', b' < 8191 → scoreAt Y t n b' ≤ scoreAt Y t n b) r

/-- The first bin of the least time is the first bin of the greatest score. -/
theorem drawn_of_race (Y : (⟨2, ![101, 8192]⟩ : Shape).Idx → EReal) (hY : ∀ j, 0 ≤ Y j) (t : Fin 101) (n r : Nat)
    (h : First 8191 (fun b => ∀ b', b' < 8191 → raceAt Y t n b ≤ raceAt Y t n b') r) : Drawn Y t n r := by
  have key : ∀ b, b < 8191 → ∀ b', b' < 8191 → (scoreAt Y t n b' ≤ scoreAt Y t n b ↔ raceAt Y t n b ≤ raceAt Y t n b') := fun b hb b' hb' => by
    obtain ⟨τ, h0, _, ht, hs⟩ := time_score (draw .vector (BitVec.ofNat 32 (n * 8191 + b) + 2751771740#32)) (densAt Y t b) (hY _)
    obtain ⟨τ', h0', _, ht', hs'⟩ := time_score (draw .vector (BitVec.ofNat 32 (n * 8191 + b') + 2751771740#32)) (densAt Y t b') (hY _)
    unfold scoreAt raceAt patternAt
    rw [if_pos hb, if_pos hb', pattern_shift, pattern_shift, ht, ht', hs, hs']
    exact neg_log_le τ τ' h0 h0'
  refine ⟨h.1, fun b' hb' => (key r h.1 b' hb').mpr (h.2.1 b' hb'), fun b hb hP => h.2.2 b hb fun b' hb' => (key b hb b' hb').mp (hP b' hb')⟩

/-- Every bin's time is below the start of the race and below the padded lane's time. -/
theorem race_bounds (Y : (⟨2, ![101, 8192]⟩ : Shape).Idx → EReal) (hY : ∀ j, 0 ≤ Y j) (t : Fin 101) (n : Nat) :
    (∀ b, b < 8191 → raceAt Y t n b < Ideal.ofBits .f32 0x7F61B1E6#32) ∧ ∀ b, b < 8191 → raceAt Y t n b < raceAt Y t n 8191 := by
  have key : ∀ b, b < 8191 → ∃ τ : ℝ, τ ≤ 10 ^ 24 ∧ raceAt Y t n b = (τ : EReal) := fun b hb => by
    obtain ⟨τ, _, h1, ht, _⟩ := time_score (draw .vector (BitVec.ofNat 32 (n * 8191 + b) + 2751771740#32)) (densAt Y t b) (hY _)
    exact ⟨τ, h1, by unfold raceAt patternAt; rw [if_pos hb, pattern_shift, ht]⟩
  refine ⟨fun b hb => ?_, fun b hb => ?_⟩
  · obtain ⟨τ, h1, h⟩ := key b hb
    obtain ⟨g, hg, hh, _⟩ := huge_real
    rw [h, hh, EReal.coe_lt_coe_iff]
    calc τ ≤ 10 ^ 24 := h1
      _ < 10 ^ 38 := by norm_num
      _ ≤ g := hg
  · obtain ⟨τ, h1, h⟩ := key b hb
    rw [h]
    have hp := pad_time (draw .vector (BitVec.ofNat 32 (n * 8191 + 8191) + 2751771740#32))
    unfold raceAt patternAt
    rw [if_neg (by decide), pattern_shift]
    refine lt_of_lt_of_le (EReal.coe_lt_coe_iff.mpr ?_) hp
    calc τ ≤ 10 ^ 24 := h1
      _ < 10 ^ 30 := by norm_num

/-- A word below 2³¹ is not negative, so jax's wrap of negative indices leaves it. -/
theorem wrap_eq (v : BitVec 32) (h : v.toNat < 100) : Scalar.select (IntOp.cmpi .slt v 0#32) (IntOp.addi v 101#32) v = v := by
  have : IntOp.cmpi .slt v 0#32 = 0#1 := by
    unfold IntOp.cmpi
    have hs : v.slt 0#32 = false := by
      simp only [BitVec.slt, BitVec.toInt, decide_eq_false_iff_not, BitVec.toNat_ofNat]
      omega
    simp only [hs]; rfl
  rw [this]; rfl

end Cert.Proof

end
-- ==== Proof.Prefix.lean ====
/- What the host operations before the region leave: the flag words the kernel tests, and the blocks of densities it reads. -/
module

public import proofs.«01_k».proof.Proof.Array
public import proofs.«01_k».proof.Proof.Tables
public import proofs.«01_k».proof.Proof.Spec
public import Idealize.ShloMosaic.Lib.Routing.OpsSet

@[expose] public section

set_option maxRecDepth 16384

noncomputable section

namespace Cert.KernelIdeal.Gen

open Idealize.ShloMosaic Idealize.ShloMosaic.TcCoe Cert.Proof

variable {F : FTy → Type} [FloatOps F] (m : (ℓ : Loc nD τ sig) → Buf (Elt F) ℓ) (hO : Ok m) (c : Dev nD)

abbrev steps : IVec S32 32 := m (((0 : Dev nD) : Thread nD τ).loc main_arg0)
abbrev dens : FVec F S101x8192 .f32 := m (((0 : Dev nD) : Thread nD τ).loc main_arg1)
abbrev flags : IVec S101 1 := m (((0 : Dev nD) : Thread nD τ).loc main_arg2)

/-- The trajectory step of the point `w`. -/
abbrev stepAt (w : Fin 32) : Fin 101 := ⟨(steps m (ix1 w)).toNat % 101, Nat.mod_lt _ (by decide)⟩

theorem step_word (hb : Below (steps m)) (w : Fin 32) : BitVec.ofNat 32 (stepAt m w).val = steps m (ix1 w) := by
  apply BitVec.eq_of_toNat_eq
  have := hb (ix1 w)
  rw [BitVec.toNat_ofNat]
  show (steps m (ix1 w)).toNat % 101 % 2 ^ 32 = _
  omega

theorem table0 : (tbl m 0 : IVec S32 32) = steps m := V_main_arg0 m 0

theorem table1 (hb : Below (steps m)) (w : Fin 32) :
    (tbl m 1 : IVec S32 32) (ix1 w) = BitVec.setWidth 32 (flags m (ix1 (stepAt m w))) := by
  unfold tbl
  show (V m (0 : Dev nD) main_v8 : IVec S32 32) (ix1 w) = _
  entry_read
  pointwise
  refine congrArg (BitVec.setWidth 32) (Routing.gather_take1 _ rfl rfl rfl rfl (flags m) _ w (stepAt m w) ?_ (by decide))
  refine (show _ = Scalar.select (IntOp.cmpi .slt (steps m (ix1 w)) 0#32) (IntOp.addi (steps m (ix1 w)) 101#32) (steps m (ix1 w)) from ?_).trans ((wrap_eq _ (hb _)).trans (step_word m hb w).symm)
  refine (broadcastInDim_apply _ _ _ _ (ix1 w) fun a => ?_).trans ?_
  · match a with
    | ⟨0, _⟩ => rfl
  · rfl

theorem rows_eq : (V m c main_v0 : FVec F S202x1x4096 .f32) = shapeCast S202x1x4096 (dens m) shapeCasts_S101x8192_S202x1x4096 := by
  obtain rfl : c = 0 := Subsingleton.elim _ _
  entry_read
  rfl

theorem rows_apply (s : Fin 101) (k : Nat) (hk : k < 2) (l : Fin 4096) (R : Fin 202) (hR : R.val = 2 * s.val + k) :
    (V m c main_v0 : FVec F S202x1x4096 .f32) (ix3 R 0 l) = dens m (ix2 s ⟨k * 4096 + l.val, by omega⟩) := by
  rw [rows_eq]
  refine shapeCast_apply _ _ _ _ ?_
  rw [Shape.rowMajor_val_three, Shape.rowMajor_val_two]
  show s.val * 8192 + (k * 4096 + l.val) = (R.val * 1 + 0) * 4096 + l.val
  omega

theorem coord_one (t : Fin grid0.N) : (grid0.coords t 1).val = t.val % 2 :=
  (by decide +kernel : ∀ t : Fin grid0.N, (grid0.coords t 1).val = t.val % 2) t

theorem coord_zero (t : Fin grid0.N) : (grid0.coords t 0).val = t.val / 2 :=
  (by decide +kernel : ∀ t : Fin grid0.N, (grid0.coords t 0).val = t.val / 2) t

theorem row_index (hb : Below (steps m)) (t : Fin (cfgM m hO).N) (w : Fin 32) (hw : w.val = t.val / 8) :
    ((cfgM m hO).win 0).index t = ![2 * (stepAt m w).val + t.val % 2, 0, 0] := by
  have e : ((cfgM m hO).win 0).index t = ![(IntOp.addi (IntOp.muli ((tbl m 0 : IVec S32 32) ((Rect.unit (s := S32) (k0_off1 (grid0.coords t)) S1.size (k0_off1_inb (grid0.coords t))).toLoadRect.idx (Shape.Idx.first (numel1_S1.symm ▸ Nat.one_pos)))) 2#32) (BitVec.ofNat 32 (grid0.coords t 1).val)).toNat, 0, 0] := rfl
  have hk : (grid0.coords t 1).val < 2 := (grid0.coords t 1).isLt
  rw [e, off_idx t w hw, table0, row_lt _ (hb _) _ hk, coord_one]
  have := hb (ix1 w)
  rw [show (stepAt m w).val = (steps m (ix1 w)).toNat from Nat.mod_eq_of_lt (by omega)]

theorem block_apply (hb : Below (steps m)) (t : Fin (cfgM m hO).N) (w : Fin 32) (hw : w.val = t.val / 8) (l : Fin 4096) :
    (iblk m hO c 0 t : Vec F S1x1x4096 .f32) (ix3 0 0 l)
      = dens m (ix2 (stepAt m w) ⟨t.val % 2 * 4096 + l.val, by have := Nat.mod_lt t.val (show 0 < 2 by decide); omega⟩) := by
  have hk := Nat.mod_lt t.val (show 0 < 2 by decide)
  refine Eq.trans ?_ (rows_apply m c (stepAt m w) (t.val % 2) hk l ⟨2 * (stepAt m w).val + t.val % 2, by have := (stepAt m w).isLt; omega⟩ rfl)
  unfold iblk
  blk_simp
  refine congrArg (V m c main_v0 : FVec F S202x1x4096 .f32) (funext fun a => ?_)
  apply Fin.ext
  match a with
  | ⟨0, _⟩ => blk_simp; exact congrFun (row_index m hO hb t w hw) (0 : Fin 3)
  | ⟨1, _⟩ => blk_simp; exact congrFun (row_index m hO hb t w hw) (1 : Fin 3)
  | ⟨2, _⟩ =>
    blk_simp
    rw [show ((cfgM m hO).win 0).index t (2 : Fin 3) = 0 from congrFun (row_index m hO hb t w hw) (2 : Fin 3), Nat.zero_mul, Nat.zero_add]

end Cert.KernelIdeal.Gen

end
-- ==== Proof.Rows.lean ====
/- Reductions along the second axis of a matrix, read at a row. -/
module

public import Idealize.ShloMosaic.PureOps.Reduce
public import Idealize.ShloMosaic.Lib.Pointwise

@[expose] public section

noncomputable section

namespace Cert.Proof

open Idealize.ShloMosaic

variable {A B : Nat} {α : Type}

theorem row_lift (h : (⟨2, ![A, B]⟩ : Shape).Reduces [1] ⟨1, ![A]⟩) (n : Fin A) (c : Fin B) : h.lift (ix1 n) c = ix2 n c := by
  funext a
  match a with
  | ⟨0, _⟩ => rfl
  | ⟨1, _⟩ => rfl

theorem row_comp (h : (⟨2, ![A, B]⟩ : Shape).Reduces [1] ⟨1, ![A]⟩) (x : (⟨2, ![A, B]⟩ : Shape).Idx → α) (n : Fin A) :
    x ∘ h.lift (ix1 n) = fun c : Fin B => x (ix2 n c) := funext fun c => congrArg x (row_lift h n c)

theorem hostReduce_row {u : Shape} (f : α → α → α) [Std.Commutative f] [Std.Associative f] (x : (⟨2, ![A, B]⟩ : Shape).Idx → α) (init : u.Idx → α)
    (h' : (⟨2, ![A, B]⟩ : Shape).ReducesTo [1] ⟨1, ![A]⟩) (h : (⟨2, ![A, B]⟩ : Shape).Reduces [1] ⟨1, ![A]⟩) (hu : 0 < u.numel) (n : Fin A) :
    Host.reduce f x init h' hu (ix1 n) = (Finset.univ : Finset (Fin B)).fold f (init (Shape.Idx.first hu)) (fun c => x (ix2 n c)) :=
  (Host.reduce_eq_fold_single f x init h' h hu (ix1 n)).trans (congrArg (fun g => Finset.fold f (init (Shape.Idx.first hu)) g (Finset.univ : Finset (Fin B))) (row_comp h x n))

theorem multiReductionI_row (kind : IKind) (x : IVec ⟨2, ![A, B]⟩ 32) (acc : BitVec 32) (h : (⟨2, ![A, B]⟩ : Shape).Reduces [1] ⟨1, ![A]⟩)
    (hacc : acc = kind.neutral) (n : Fin A) :
    multiReductionI kind [1] ⟨1, ![A]⟩ x acc h hacc (ix1 n) = (Finset.univ : Finset (Fin B)).fold kind.op acc (fun c => x (ix2 n c)) := by
  rw [multiReductionI_eq_fold]
  exact (h.fold_filter_drop_single kind.op acc x (ix1 n)).trans (congrArg (fun g => Finset.fold kind.op acc g (Finset.univ : Finset (Fin B))) (row_comp h x n))

theorem multiReduction_min_row {F : FTy → Type} [FloatOps F] [Std.Commutative (FloatOps.minimumf (F := F) (φ := .f32))] [Std.Associative (FloatOps.minimumf (F := F) (φ := .f32))]
    (x : FVec F ⟨2, ![A, B]⟩ .f32) (acc : BitVec 32) (h : (⟨2, ![A, B]⟩ : Shape).Reduces [1] ⟨1, ![A]⟩)
    (hφ : FKind.Formats .f32) (hacc : acc = FKind.minimumf.neutral .f32 hφ) (n : Fin A) :
    multiReduction (φ := .f32) .minimumf [1] ⟨1, ![A]⟩ x acc h hφ hacc (ix1 n)
      = (Finset.univ : Finset (Fin B)).fold FloatOps.minimumf (FloatOps.ofBits .f32 acc) (fun c => x (ix2 n c)) := by
  rw [multiReduction_minimumf_eq_fold]
  exact (h.fold_filter_drop_single _ _ x (ix1 n)).trans (congrArg (fun g => Finset.fold FloatOps.minimumf (FloatOps.ofBits .f32 acc) g (Finset.univ : Finset (Fin B))) (row_comp h x n))

end Cert.Proof

end
-- ==== Proof.KernelValue.lean ====
/- The draw the kernel leaves in a row, over the extended reals. -/
module

public import proofs.«01_k».proof.Proof.Prefix
public import proofs.«01_k».proof.Proof.Rows
public import Idealize.ShloMosaic.PureOps.Ideal.Laws

@[expose] public section

set_option maxRecDepth 16384

noncomputable section

namespace Cert.KernelIdeal.Gen

open Idealize.ShloMosaic Idealize.ShloMosaic.TcCoe Cert.Proof

def binAt' (a1 c : BitVec 32) : BitVec 32 := IntOp.addi (IntOp.muli a1 4096#32) c

theorem bin_word (k l : Nat) (hk : k < 2) (hl : l < 4096) : binAt (BitVec.ofNat 32 k) l = BitVec.ofNat 32 (k * 4096 + l) := by
  apply BitVec.eq_of_toNat_eq
  unfold binAt
  simp only [IntOp.addi, IntOp.muli, BitVec.toNat_add, BitVec.toNat_mul, BitVec.toNat_ofNat]
  omega

theorem counter_word (p k r l : Nat) (hp : p < 128) (hk : k < 2) (hr : r < 64) (hl : l < 4096) :
    counterAt (BitVec.ofNat 32 p) (BitVec.ofNat 32 k) r l = BitVec.ofNat 32 ((p * 64 + r) * 8191 + (k * 4096 + l)) + 2751771740#32 := by
  unfold counterAt
  rw [bin_word k l hk hl]
  refine congrArg (· + 2751771740#32) ?_
  apply BitVec.eq_of_toNat_eq
  simp only [IntOp.addi, IntOp.muli, BitVec.toNat_add, BitVec.toNat_mul, BitVec.toNat_ofNat]
  omega

theorem past_last (b : Nat) (hb : b < 8192) : IntOp.cmpi .sge (BitVec.ofNat 32 b) 8191#32 = 1#1 ↔ ¬ b < 8191 := by
  have h : (IntOp.cmpi .sge (BitVec.ofNat 32 b) 8191#32) = BitVec.ofBool ((8191#32 : BitVec 32).sle (BitVec.ofNat 32 b)) := rfl
  rw [h]
  have e : ((8191#32 : BitVec 32).sle (BitVec.ofNat 32 b)) = decide (¬ b < 8191) := by
    simp only [BitVec.sle, BitVec.toInt, BitVec.toNat_ofNat]
    congr 1
    apply propext
    omega
  rw [e]
  by_cases hlt : b < 8191 <;> simp [hlt]

/-- The reciprocal density a lane races with. -/
theorem lane_eq (i : grid0.Coords) (x : Vec Ideal S1x1x4096 .f32) (l : Fin 4096) :
    lane (k0_pay350 (F := Ideal) i x) l
      = if (i 1).val * 4096 + l.val < 8191 then Ideal.div (Ideal.ofBits .f32 0xBF800000#32) (x (ix3 0 0 l) + Ideal.ofBits .f32 0x1E3CE508#32)
        else Ideal.ofBits .f32 0xFF61B1E6#32 := by
  have hk : (i 1).val < 2 := (i 1).isLt
  have hi : iota .tc S1x4096 32 [1] iota_S1x4096_d1_w32 (ix2 0 l) = BitVec.ofNat 32 l.val :=
    congrArg (BitVec.ofNat 32) (show 0 * 4096 + l.val = l.val by rw [Nat.zero_mul, Nat.zero_add])
  have hx : shapeCast S1x4096 x shapeCasts_S1x1x4096_S1x4096 (ix2 0 l) = x (ix3 0 0 l) := by
    refine shapeCast_apply _ _ _ _ ?_
    rw [Shape.rowMajor_val_three, Shape.rowMajor_val_two]
    show (0 * 1 + 0) * 4096 + l.val = 0 * 4096 + l.val
    omega
  have e : lane (k0_pay350 (F := Ideal) i x) l
      = Scalar.select (IntOp.cmpi .sge (binAt' (BitVec.ofNat 32 (i 1).val) (iota .tc S1x4096 32 [1] iota_S1x4096_d1_w32 (ix2 0 l))) 8191#32)
          (Ideal.ofBits .f32 0xFF61B1E6#32)
          (Ideal.div (Ideal.ofBits .f32 0xBF800000#32) (shapeCast S1x4096 x shapeCasts_S1x1x4096_S1x4096 (ix2 0 l) + Ideal.ofBits .f32 0x1E3CE508#32)) := rfl
  rw [e, hi, hx, show binAt' (BitVec.ofNat 32 (i 1).val) (BitVec.ofNat 32 l.val) = BitVec.ofNat 32 ((i 1).val * 4096 + l.val) from bin_word _ _ hk l.isLt]
  by_cases h : (i 1).val * 4096 + l.val < 8191
  · rw [if_pos h]
    exact if_neg fun g => (past_last _ (by omega)).mp g h
  · rw [if_neg h]
    exact if_pos ((past_last _ (by omega)).mpr h)

/-- The time a row and a lane race with. -/
theorem time_eq (i : grid0.Coords) (x : Vec Ideal S1x1x4096 .f32) (Y : (⟨2, ![101, 8192]⟩ : Shape).Idx → EReal) (t : Fin 101)
    (hx : ∀ l : Fin 4096, x (ix3 0 0 l) = densAt Y t ((i 1).val * 4096 + l.val)) (r : Fin 64) (l : Fin 4096) :
    timeAt (F := Ideal) i x (ix2 r l) = raceAt Y t ((i 0).val * 64 + r.val) ((i 1).val * 4096 + l.val) := by
  have hp : (i 0).val < 128 := (i 0).isLt
  have hk : (i 1).val < 2 := (i 1).isLt
  have e : timeAt (F := Ideal) i x (ix2 r l)
      = Ideal.log (unitOf (pattern .vector (counterAt (BitVec.ofNat 32 (i 0).val) (BitVec.ofNat 32 (i 1).val) r.val l.val))) * lane (k0_pay350 (F := Ideal) i x) l := rfl
  rw [e, lane_eq, counter_word _ _ _ _ hp hk r.isLt l.isLt, hx]
  unfold raceAt patternAt binTime padTime
  by_cases h : (i 1).val * 4096 + l.val < 8191
  · rw [if_pos h, if_pos h]
  · rw [if_neg h, if_neg h]

theorem select_lt (a b : EReal) {α : Type} (u v : α) : Scalar.select (FloatOps.cmpf (F := Ideal) (φ := .f32) .olt a b) u v = if a < b then u else v := by
  show Scalar.select (Ideal.cmp .olt a b) u v = _
  by_cases h : a < b
  · rw [if_pos h]; exact if_pos (by simp [Ideal.cmp, h])
  · rw [if_neg h]; exact if_neg (by simp [Ideal.cmp, h])

theorem select_eq (a b : EReal) {α : Type} (u v : α) : Scalar.select (FloatOps.cmpf (F := Ideal) (φ := .f32) .oeq a b) u v = if a = b then u else v := by
  show Scalar.select (Ideal.cmp .oeq a b) u v = _
  by_cases h : a = b
  · rw [if_pos h]; exact if_pos (by simp [Ideal.cmp, h])
  · rw [if_neg h]; exact if_neg (by simp [Ideal.cmp, h])

/-- The closing reduction of a row: the least bin among the lanes of the least time. -/
theorem close_eq (T : Vec Ideal S64x4096 .f32) (B : Vec Ideal S64x4096 .i32) (r : Fin 64) :
    k0_pay1 (F := Ideal) T B (ix3 0 r 0)
      = (Finset.univ : Finset (Fin 4096)).fold IntOp.minsi 2147483647#32
          (fun l => if T (ix2 r l) = (Finset.univ : Finset (Fin 4096)).fold min ⊤ (fun c => T (ix2 r c)) then B (ix2 r l) else 1073741824#32) := by
  unfold k0_pay1
  rw [shapeCast_apply _ _ (ix3 0 r 0) (ix2 r 0) (by
    rw [Shape.rowMajor_val_three, Shape.rowMajor_val_two]; show r.val * 1 + 0 = (0 * 64 + r.val) * 1 + 0; omega)]
  rw [shapeCast_apply _ _ (ix2 r 0) (ix1 r) (by
    rw [Shape.rowMajor_val_one, Shape.rowMajor_val_two]; show r.val = r.val * 1 + 0; omega)]
  refine (multiReductionI_row .minsi _ _ _ _ r).trans ?_
  refine congrArg (fun g => Finset.fold IntOp.minsi 2147483647#32 g (Finset.univ : Finset (Fin 4096))) (funext fun l => ?_)
  have hm : broadcastTo S64x4096 (shapeCast S64x1 (multiReduction (F := Ideal) .minimumf [1] S64 T 0x7F800000#32 reduces_S64x4096_S64 (.inl rfl) rfl) shapeCasts_S64_S64x1) broadcasts_S64x1_S64x4096 (ix2 r l)
      = (Finset.univ : Finset (Fin 4096)).fold min ⊤ (fun c => T (ix2 r c)) := by
    rw [broadcastTo_apply _ _ _ (ix2 r 0) (by
      intro a
      match a with
      | ⟨0, _⟩ => rfl
      | ⟨1, _⟩ => rfl)]
    rw [shapeCast_apply _ _ (ix2 r 0) (ix1 r) (by
      rw [Shape.rowMajor_val_one, Shape.rowMajor_val_two]; show r.val = r.val * 1 + 0; omega)]
    refine (multiReduction_min_row (A := 64) (B := 4096) (F := Ideal) T 0x7F800000#32 reduces_S64x4096_S64 (.inl rfl) rfl r).trans ?_
    exact congrArg (fun z => (Finset.univ : Finset (Fin 4096)).fold min z (fun c => T (ix2 r c))) posInf_real
  refine Eq.trans ?_ (select_eq _ _ _ _)
  rw [← hm]
  rfl

end Cert.KernelIdeal.Gen

end
-- ==== Proof.Draw.lean ====
/- The draw each row of the output holds. -/
module

public import proofs.«01_k».proof.Proof.KernelValue

@[expose] public section

set_option maxRecDepth 16384

noncomputable section

namespace Cert.KernelIdeal.Gen

open Idealize.ShloMosaic Idealize.ShloMosaic.TcCoe Cert.Proof

variable (m : (ℓ : Loc nD τ sig) → Buf (Elt Ideal) ℓ) (hO : Ok m) (c : Dev nD)

theorem start_time (y : S64x4096.Idx) : k0_pay351 (F := Ideal) y = Ideal.ofBits .f32 0x7F61B1E6#32 := rfl
theorem start_bin (y : S64x4096.Idx) : k0_pay352 y = 0#32 := rfl

/-- The time of a row and a lane at a point, from the tabulated densities. -/
theorem point_time (hb : Below (steps m)) (t : Fin (cfgM m hO).N) (w : Fin 32) (hw : w.val = t.val / 8) (r : Fin 64) (l : Fin 4096) :
    timeAt (F := Ideal) (grid0.coords t) (iblk m hO c 0 t) (ix2 r l) = raceAt (dens m) (stepAt m w) (t.val / 2 * 64 + r.val) (t.val % 2 * 4096 + l.val) := by
  have h := time_eq (grid0.coords t) (iblk m hO c 0 t) (dens m) (stepAt m w) (fun l => by
    rw [block_apply m hO c hb t w hw l, coord_one]
    unfold densAt
    congr 2
    have := l.isLt
    exact Fin.ext (Nat.mod_eq_of_lt (by omega)).symm) r l
  rw [h, coord_one, coord_zero]

/-- The race of the two halves of a row, closed: the bin drawn. -/
theorem race_row (hb : Below (steps m)) (hY : ∀ j, 0 ≤ dens m j) (s t : Fin (cfgM m hO).N) (hs : s.val + 1 = t.val) (h2 : t.val % 2 = 1) (w : Fin 32)
    (hw : w.val = t.val / 8) (r : Fin 64) :
    ∃ d, Drawn (dens m) (stepAt m w) (t.val / 2 * 64 + r.val) d ∧
      k0_pay1 (F := Ideal) (stepTime (grid0.coords t) (iblk m hO c 0 t) (stepTime (grid0.coords s) (iblk m hO c 0 s) (k0_pay351 (F := Ideal))))
          (stepBin (grid0.coords t) (iblk m hO c 0 t) (stepTime (grid0.coords s) (iblk m hO c 0 s) (k0_pay351 (F := Ideal)))
            (stepBin (grid0.coords s) (iblk m hO c 0 s) (k0_pay351 (F := Ideal)) k0_pay352)) (ix3 0 r 0) = BitVec.ofNat 32 d := by
  have hs2 : s.val / 2 = t.val / 2 := by omega
  have hs1 : s.val % 2 = 0 := by omega
  have T1 : ∀ l : Fin 4096, timeAt (F := Ideal) (grid0.coords t) (iblk m hO c 0 t) (ix2 r l) = raceAt (dens m) (stepAt m w) (t.val / 2 * 64 + r.val) (4096 + l.val) := fun l => by
    rw [point_time m hO c hb t w hw r l, h2, Nat.one_mul]
  have T0 : ∀ l : Fin 4096, timeAt (F := Ideal) (grid0.coords s) (iblk m hO c 0 s) (ix2 r l) = raceAt (dens m) (stepAt m w) (t.val / 2 * 64 + r.val) l.val := fun l => by
    rw [point_time m hO c hb s w (by omega) r l, hs1, hs2, Nat.zero_mul, Nat.zero_add]
  have B1 : ∀ l : Fin 4096, binAt (BitVec.ofNat 32 (grid0.coords t 1).val) l.val = BitVec.ofNat 32 (4096 + l.val) := fun l => by
    rw [bin_word _ _ (grid0.coords t 1).isLt l.isLt, coord_one, h2, Nat.one_mul]
  have B0 : ∀ l : Fin 4096, binAt (BitVec.ofNat 32 (grid0.coords s 1).val) l.val = BitVec.ofNat 32 l.val := fun l => by
    rw [bin_word _ _ (grid0.coords s 1).isLt l.isLt, coord_one, hs1, Nat.zero_mul, Nat.zero_add]
  obtain ⟨hM, hl⟩ := race_bounds (dens m) hY (stepAt m w) (t.val / 2 * 64 + r.val)
  have S0 : ∀ l : Fin 4096, stepTime (F := Ideal) (grid0.coords s) (iblk m hO c 0 s) (k0_pay351 (F := Ideal)) (ix2 r l)
      = if raceAt (dens m) (stepAt m w) (t.val / 2 * 64 + r.val) l.val < Ideal.ofBits .f32 0x7F61B1E6#32 then raceAt (dens m) (stepAt m w) (t.val / 2 * 64 + r.val) l.val else Ideal.ofBits .f32 0x7F61B1E6#32 := fun l => by
    unfold stepTime
    rw [T0, start_time]
    exact select_lt _ _ _ _
  obtain ⟨d, h, e⟩ := race 4096 (by decide) (by decide) (raceAt (dens m) (stepAt m w) (t.val / 2 * 64 + r.val)) (Ideal.ofBits .f32 0x7F61B1E6#32) hM hl
    (fun l => stepTime (F := Ideal) (grid0.coords t) (iblk m hO c 0 t) (stepTime (grid0.coords s) (iblk m hO c 0 s) (k0_pay351 (F := Ideal))) (ix2 r l))
    (fun l => stepBin (F := Ideal) (grid0.coords t) (iblk m hO c 0 t) (stepTime (grid0.coords s) (iblk m hO c 0 s) (k0_pay351 (F := Ideal)))
            (stepBin (grid0.coords s) (iblk m hO c 0 s) (k0_pay351 (F := Ideal)) k0_pay352) (ix2 r l))
    (fun l => by
      rw [← S0 l, ← T1 l]
      exact select_lt _ _ _ _)
    (fun l => by
      have e0 : stepBin (F := Ideal) (grid0.coords s) (iblk m hO c 0 s) (k0_pay351 (F := Ideal)) k0_pay352 (ix2 r l)
          = if raceAt (dens m) (stepAt m w) (t.val / 2 * 64 + r.val) l.val < Ideal.ofBits .f32 0x7F61B1E6#32 then BitVec.ofNat 32 l.val else 0#32 := by
        rw [← T0 l, ← B0 l]
        exact select_lt _ _ _ _
      rw [← S0 l, ← T1 l, ← B1 l, ← e0]
      exact select_lt _ _ _ _)
    2147483647#32 (by decide)
  exact ⟨d, drawn_of_race (dens m) hY _ _ _ h, (close_eq _ _ r).trans e⟩

/-- A flagged row holds bin 0. -/
theorem flag_row (r : Fin 64) : k0_pay1 (F := Ideal) (k0_pay351 (F := Ideal)) k0_pay352 (ix3 0 r 0) = 0#32 := by
  obtain ⟨_, j, _, hj⟩ := fold_min_spec (fun c : Fin 4096 => k0_pay351 (F := Ideal) (ix2 r c)) Finset.univ ⟨0, Finset.mem_univ _⟩
  have hg : ∀ l : Fin 4096, (if k0_pay351 (F := Ideal) (ix2 r l) = (Finset.univ : Finset (Fin 4096)).fold min ⊤ (fun c => k0_pay351 (F := Ideal) (ix2 r c)) then k0_pay352 (ix2 r l) else 1073741824#32) = 0#32 :=
    fun l => if_pos ((start_time _).trans ((start_time (ix2 r j)).symm.trans hj.symm))
  rw [close_eq]
  rw [show (fun l : Fin 4096 => if k0_pay351 (F := Ideal) (ix2 r l) = (Finset.univ : Finset (Fin 4096)).fold min ⊤ (fun c => k0_pay351 (F := Ideal) (ix2 r c)) then k0_pay352 (ix2 r l) else 1073741824#32) = fun _ => 0#32 from funext hg]
  obtain ⟨_, h2, h3⟩ := fold_minsi_spec (fun _ : Fin 4096 => 0#32) Finset.univ 2147483647#32
  rcases h3 with h | ⟨_, _, h⟩
  · have := h2 0 (Finset.mem_univ _)
    rw [h] at this
    exact absurd this (by decide)
  · exact h

/-- The output array, row by row. -/
theorem out_row (hb : Below (steps m)) (hY : ∀ j, 0 ≤ dens m j) (t : Fin (cfgM m hO).N) (h2 : t.val % 2 = 1) (w : Fin 32)
    (hw : w.val = t.val / 8) (r : Fin 64) :
    (flags m (ix1 (stepAt m w)) = 1#1 → (outsAt0 m hO c t.val t.isLt).1 (ix3 0 r 0) = 0#32) ∧
    (flags m (ix1 (stepAt m w)) ≠ 1#1 → ∃ d, Drawn (dens m) (stepAt m w) (t.val / 2 * 64 + r.val) d ∧ (outsAt0 m hO c t.val t.isLt).1 (ix3 0 r 0) = BitVec.ofNat 32 d) := by
  have f1 : flagWord m t = BitVec.setWidth 32 (flags m (ix1 (stepAt m w))) := (flagWord_eq m t w hw).trans (table1 m hb w)
  have f0 : flagWord m (prev m hO t) = BitVec.setWidth 32 (flags m (ix1 (stepAt m w))) :=
    (flagWord_eq m (prev m hO t) w (by show w.val = (t.val - 1) / 8; omega)).trans (table1 m hb w)
  refine ⟨fun h => ?_, fun h => ?_⟩
  · rw [h] at f1 f0
    rw [out_flag m hO c t h2 (by rw [f0]; decide) (by rw [f1]; decide)]
    exact flag_row r
  · have hz : flags m (ix1 (stepAt m w)) = 0#1 := by
      revert h; generalize flags m (ix1 (stepAt m w)) = v; revert v; decide
    rw [hz] at f1 f0
    rw [out_race m hO c t h2 (by rw [f0]; rfl) (by rw [f1]; rfl)]
    exact race_row m hO c hb hY (prev m hO t) t (by show t.val - 1 + 1 = t.val; omega) h2 w hw r

end Cert.KernelIdeal.Gen

end
-- ==== Proof.RefWords.lean ====
/- The word that the reference draws for an entry: its chain of operations, one value per operation, is the rounds of `Threefry` on the entry's counter. -/
module

public import proofs.«01_k».proof.Proof.Threefry
public import proofs.«01_k».proof.Proof.Gen.ReferenceIdeal.Read
public import Idealize.ShloMosaic.Lib.Ring

@[expose] public section

set_option maxRecDepth 16384

noncomputable section

namespace Cert.Proof

open Idealize.ShloMosaic

/-- The rounds do not depend on the unit that turns the words: no turn is past 31. -/
theorem shli_unit (u : ArithUnit) (x y : BitVec 32) : IntOp.shli u x y = IntOp.shli .vector x y := by
  unfold IntOp.shli; split
  · rfl
  · cases u <;> rfl
theorem shrui_unit (u : ArithUnit) (x y : BitVec 32) : IntOp.shrui u x y = IntOp.shrui .vector x y := by
  unfold IntOp.shrui; split
  · rfl
  · cases u <;> rfl
theorem mix_unit (u : ArithUnit) (r s : BitVec 32) (p : BitVec 32 × BitVec 32) : mix u r s p = mix .vector r s p := by
  unfold mix; rw [shli_unit, shrui_unit]
theorem mixA_unit (u : ArithUnit) (p : BitVec 32 × BitVec 32) : mixA u p = mixA .vector p := by
  unfold mixA; simp only [mix_unit u]
theorem mixB_unit (u : ArithUnit) (p : BitVec 32 × BitVec 32) : mixB u p = mixB .vector p := by
  unfold mixB; simp only [mix_unit u]

/-- The key words added in three steps, as the reference writes them. -/
def inject3 (a b g : BitVec 32) (p : BitVec 32 × BitVec 32) : BitVec 32 × BitVec 32 := (IntOp.addi p.1 a, IntOp.addi (IntOp.addi p.2 b) g)
theorem inject3_eq (a b g : BitVec 32) (p : BitVec 32 × BitVec 32) : inject3 a b g p = inject a (IntOp.addi b g) p := by
  unfold inject3 inject IntOp.addi; rw [BitVec.add_assoc]

def rst0 (m : BitVec 32) : BitVec 32 × BitVec 32 := (IntOp.addi 0#32 3276925600#32, m)
def rst1 (m : BitVec 32) : BitVec 32 × BitVec 32 := inject3 2751771740#32 2089043238#32 1#32 (mixA .host (rst0 m))
def rst2 (m : BitVec 32) : BitVec 32 × BitVec 32 := inject3 2089043238#32 3276925600#32 2#32 (mixB .host (rst1 m))
def rst3 (m : BitVec 32) : BitVec 32 × BitVec 32 := inject3 3276925600#32 2751771740#32 3#32 (mixA .host (rst2 m))
def rst4 (m : BitVec 32) : BitVec 32 × BitVec 32 := inject3 2751771740#32 2089043238#32 4#32 (mixB .host (rst3 m))
def rst5 (m : BitVec 32) : BitVec 32 × BitVec 32 := inject3 2089043238#32 3276925600#32 5#32 (mixA .host (rst4 m))
def rpattern (m : BitVec 32) : BitVec 32 := IntOp.ori (IntOp.shrui .host (IntOp.xori (rst5 m).1 (rst5 m).2) 9#32) 1065353216#32

theorem rpattern_eq (m : BitVec 32) : rpattern m = pattern .vector m := by
  have h0 : rst0 m = st0 m := by unfold rst0 st0; exact Prod.ext (show IntOp.addi 0#32 3276925600#32 = 3276925600#32 by decide) rfl
  have h1 : rst1 m = st1 .vector m := by unfold rst1 st1; rw [inject3_eq, mixA_unit, h0]; rfl
  have h2 : rst2 m = st2 .vector m := by unfold rst2 st2; rw [inject3_eq, mixB_unit, h1]; rfl
  have h3 : rst3 m = st3 .vector m := by unfold rst3 st3; rw [inject3_eq, mixA_unit, h2]; rfl
  have h4 : rst4 m = st4 .vector m := by unfold rst4 st4; rw [inject3_eq, mixB_unit, h3]; rfl
  have h5 : rst5 m = st5 .vector m := by unfold rst5 st5; rw [inject3_eq, mixA_unit, h4]; rfl
  unfold rpattern pattern draw
  rw [h5, shrui_unit]

end Cert.Proof

namespace Cert.ReferenceIdeal.Read

open Idealize.ShloMosaic Idealize.ShloMosaic.TcCoe Cert.Proof

variable {F : FTy → Type} [FloatOps F]

/-- The counter of an entry, the key's second word added. -/
def refCounter (r c : Nat) : BitVec 32 := IntOp.addi (IntOp.addi (IntOp.muli (BitVec.ofNat 32 r) 8191#32) (BitVec.ofNat 32 c)) 2751771740#32

theorem word_eq (i : S8192x8191.Idx) : val_main_v198 (F := F) i = rpattern (refCounter (i 0).val (i 1).val) := by sl_kernel_rfl

end Cert.ReferenceIdeal.Read

end
-- ==== Proof.RefValue.lean ====
/- The reference's result at an entry: 0 where its time step is flagged, elsewhere the first bin of the greatest score. -/
module

public import proofs.«01_k».proof.Proof.Spec
public import proofs.«01_k».proof.Proof.RefWords
public import proofs.«01_k».proof.Proof.Rows
public import Idealize.ShloMosaic.Lib.Routing.OpsSet

@[expose] public section

set_option maxRecDepth 16384

noncomputable section

namespace Cert.ReferenceIdeal.Read

open Idealize.ShloMosaic Idealize.ShloMosaic.TcCoe Cert.Proof Cert.ReferenceIdeal Cert.ReferenceIdeal.Gen

variable (x0 : S32.Idx → BitVec 32) (x1 : S101x8192.Idx → EReal) (x2 : S101.Idx → BitVec 1)

/-- The time step of a row of the flattened batch, and as an index of the tables. -/
def stepWord (n : Nat) : BitVec 32 := x0 (ix1 ⟨n / 256 % 32, Nat.mod_lt _ (by decide)⟩)
def stepOf (n : Nat) : Fin 101 := ⟨(stepWord x0 n).toNat % 101, Nat.mod_lt _ (by decide)⟩

theorem step_ofNat (hb : ∀ w, (x0 w).toNat < 100) (n : Nat) : stepWord x0 n = BitVec.ofNat 32 (stepOf x0 n).val := by
  have h := hb (ix1 ⟨n / 256 % 32, Nat.mod_lt _ (by decide)⟩)
  have : (stepWord x0 n).toNat < 100 := h
  unfold stepOf
  show _ = BitVec.ofNat 32 ((stepWord x0 n).toNat % 101)
  rw [Nat.mod_eq_of_lt (by omega), BitVec.ofNat_toNat, BitVec.setWidth_eq]

theorem flat_eq (n : Fin 8192) : val_main_v2 (F := Ideal) x0 (ix1 n) = stepWord x0 n.val := by
  rw [val_main_v2_apply, val_main_v1_apply, val_main_v0_apply]
  unfold stepWord
  congr 1; funext a
  match a with
  | ⟨0, _⟩ =>
    refine Fin.ext ?_
    show n.val / 256 = n.val / 256 % 32
    have := n.isLt; omega

theorem start_eq (hb : ∀ w, (x0 w).toNat < 100) (n : Fin 8192) : val_main_v8 (F := Ideal) x0 (ix2 n (0 : Fin 1)) = BitVec.ofNat 32 (stepOf x0 n.val).val := by
  have e : idx_main_v8 (ix2 n (0 : Fin 1)) = ix1 n := by funext a; match a with | ⟨0, _⟩ => rfl
  rw [val_main_v8_apply, e, val_main_v7_apply, val_main_v4_apply, val_main_v6_apply, val_main_v3_apply, val_main_v5_apply, val_main_c_apply, val_main_c_0_apply, flat_eq]
  exact (wrap_eq _ (hb _)).trans (step_ofNat x0 hb n.val)

theorem start_eq' (hb : ∀ w, (x0 w).toNat < 100) (n : Fin 8192) : val_main_v221 (F := Ideal) x0 (ix2 n (0 : Fin 1)) = BitVec.ofNat 32 (stepOf x0 n.val).val := by
  have e : idx_main_v221 (ix2 n (0 : Fin 1)) = ix1 n := by funext a; match a with | ⟨0, _⟩ => rfl
  rw [val_main_v221_apply, e, val_main_v220_apply, val_main_v217_apply, val_main_v219_apply, val_main_v216_apply, val_main_v218_apply, val_main_c_67_apply, val_main_c_68_apply, flat_eq]
  exact (wrap_eq _ (hb _)).trans (step_ofNat x0 hb n.val)

/-- The density of an entry. -/
theorem prob_eq (hb : ∀ w, (x0 w).toNat < 100) (n : Fin 8192) (c : Fin 8191) : val_main_v10 (F := Ideal) x0 x1 (ix2 n c) = densAt x1 (stepOf x0 n.val) c.val := by
  have e : idx_main_v10 (ix2 n c) = ix2 n ⟨c.val, by have := c.isLt; omega⟩ := by funext a; match a with | ⟨0, _⟩ => rfl | ⟨1, _⟩ => rfl
  rw [val_main_v10_apply, e]
  unfold val_main_v9
  refine (Routing.gather_row _ rfl rfl rfl rfl rfl x1 _ n _ (stepOf x0 n.val) (start_eq x0 hb n) (by decide)).trans ?_
  unfold densAt
  congr 2
  exact Fin.ext (Nat.mod_eq_of_lt (by have := c.isLt; omega)).symm

/-- Its score. -/
theorem score_eq (hb : ∀ w, (x0 w).toNat < 100) (n : Fin 8192) (c : Fin 8191) : val_main_v208 (F := Ideal) x0 x1 (ix2 n c) = scoreAt x1 (stepOf x0 n.val) n.val c.val := by
  have hw := word_eq (F := Ideal) (ix2 n c)
  rw [rpattern_eq, show refCounter ((ix2 n c : S8192x8191.Idx) 0).val ((ix2 n c : S8192x8191.Idx) 1).val = BitVec.ofNat 32 (n.val * 8191 + c.val) + 2751771740#32 by
    show BitVec.ofNat 32 n.val * 8191#32 + BitVec.ofNat 32 c.val + 2751771740#32 = _
    rw [BitVec.ofNat_add, BitVec.ofNat_mul]] at hw
  have hp := prob_eq x0 x1 hb n c
  rw [val_main_v208_apply, val_main_v207_apply, val_main_v206_apply, val_main_v205_apply, val_main_v204_apply, val_main_v203_apply, val_main_v202_apply,
    val_main_v201_apply, val_main_v200_apply, val_main_v199_apply, hw, val_main_v13_apply, val_main_v12_apply, hp, val_main_v11_apply]
  rfl

theorem reduces_row : S8192x8191.Reduces [1] S8192 := by decide

/-- Its row's greatest score. -/
theorem max_eq (hb : ∀ w, (x0 w).toNat < 100) (n : Fin 8192) :
    val_main_v209 (F := Ideal) x0 x1 (ix1 n) = (Finset.univ : Finset (Fin 8191)).fold max ⊥ (fun c => scoreAt x1 (stepOf x0 n.val) n.val c.val) := by
  have h := hostReduce_row (FloatOps.maximumf (F := Ideal) (φ := .f32)) (val_main_v208 (F := Ideal) x0 x1) (val_main_cst_64 (F := Ideal)) reducesTo_S8192x8191_S8192_d1 reduces_row h_S_ n
  rw [val_main_cst_64_apply, show FloatOps.ofBits (F := Ideal) .f32 0xFF800000#32 = (⊥ : EReal) from negInf_real, funext (score_eq x0 x1 hb n)] at h
  exact h

/-- The bin drawn. -/
theorem draw_eq (hb : ∀ w, (x0 w).toNat < 100) (n : Fin 8192) :
    ∃ r, Drawn x1 (stepOf x0 n.val) n.val r ∧ val_main_v215 (F := Ideal) x0 x1 (ix1 n) = BitVec.ofNat 32 r := by
  have e := hostReduce_row IntOp.minsi (val_main_v214 (F := Ideal) x0 x1) (val_main_c_66 (F := Ideal)) reducesTo_S8192x8191_S8192_d1 reduces_row h_S_ n
  rw [val_main_c_66_apply] at e
  obtain ⟨hmax, c0, -, hc0⟩ := fold_max_spec (fun c : Fin 8191 => scoreAt x1 (stepOf x0 n.val) n.val c.val) Finset.univ ⟨⟨0, by decide⟩, Finset.mem_univ _⟩
  have hm := max_eq x0 x1 hb n
  generalize (Finset.univ : Finset (Fin 8191)).fold max ⊥ (fun c => scoreAt x1 (stepOf x0 n.val) n.val c.val) = μ at hmax hc0 hm
  have hsel : ∀ c : Fin 8191, val_main_v214 (F := Ideal) x0 x1 (ix2 n c)
      = if scoreAt x1 (stepOf x0 n.val) n.val c.val = μ then BitVec.ofNat 32 c.val else BitVec.ofNat 32 8191 := fun c => by
    have e1 : idx_main_v212 (ix2 n c) = ix2 n (0 : Fin 1) := by funext a; match a with | ⟨0, _⟩ => rfl | ⟨1, _⟩ => rfl
    have e2 : idx_main_v210 (ix2 n (0 : Fin 1)) = ix1 n := by funext a; match a with | ⟨0, _⟩ => rfl
    rw [val_main_v214_apply, val_main_v213_apply, val_main_v212_apply, e1, val_main_v210_apply, e2, hm, score_eq x0 x1 hb, val_main_v211_apply,
      val_main_call0_v1_apply, val_main_call0_v0_apply, val_main_c_65_apply, Ideal.cmpf_def]
    unfold Ideal.cmp Scalar.select
    by_cases h : scoreAt x1 (stepOf x0 n.val) n.val c.val = μ
    · simp [h]
    · simp [h]
  obtain ⟨r, hr1, hr2⟩ := first_of_fold 8191 8191 (by decide) (le_refl _) (fun c => scoreAt x1 (stepOf x0 n.val) n.val c.val = μ)
    (fun c => val_main_v214 (F := Ideal) x0 x1 (ix2 n c)) 2147483647#32 (by decide) (fun c h => by rw [hsel, if_pos h]) (fun c h => by rw [hsel, if_neg h])
    ⟨c0, hc0.symm⟩
  refine ⟨r, ⟨hr1.1, fun b' hb' => ?_, fun b hb' hP => hr1.2.2 b hb' ⟨hb', ?_⟩⟩, e.trans hr2⟩
  · obtain ⟨h, hμ⟩ := hr1.2.1
    rw [show scoreAt x1 (stepOf x0 n.val) n.val r = μ from hμ]
    exact hmax ⟨b', hb'⟩ (Finset.mem_univ _)
  · refine le_antisymm (hmax ⟨b, hb'⟩ (Finset.mem_univ _)) ?_
    rw [hc0]
    exact hP c0.val c0.isLt

/-- The result at an entry of tile `p`, row `r`. -/
theorem result_eq (hb : ∀ w, (x0 w).toNat < 100) (i : S128x64x1.Idx) :
    (x2 (ix1 (stepOf x0 ((i 0).val * 64 + (i 1).val))) = 1#1 → val_main_v224 (F := Ideal) x0 x1 x2 i = 0#32) ∧
    (x2 (ix1 (stepOf x0 ((i 0).val * 64 + (i 1).val))) ≠ 1#1 →
      ∃ r, Drawn x1 (stepOf x0 ((i 0).val * 64 + (i 1).val)) ((i 0).val * 64 + (i 1).val) r ∧ val_main_v224 (F := Ideal) x0 x1 x2 i = BitVec.ofNat 32 r) := by
  have h0 : (i 0).val < 128 := (i 0).isLt
  have h1 : (i 1).val < 64 := (i 1).isLt
  have h2 : (i 2).val < 1 := (i 2).isLt
  have hn : (i 0).val * 64 + (i 1).val < 8192 := by omega
  have e : idx_main_v224 i = ix1 ⟨(i 0).val * 64 + (i 1).val, hn⟩ := by
    funext a
    match a with
    | ⟨0, _⟩ => exact Fin.ext (by show ((i 0).val * 64 + (i 1).val) * 1 + (i 2).val = _; show _ = (i 0).val * 64 + (i 1).val; omega)
  have hf : val_main_v222 (F := Ideal) x0 x2 (ix1 ⟨(i 0).val * 64 + (i 1).val, hn⟩) = x2 (ix1 (stepOf x0 ((i 0).val * 64 + (i 1).val))) := by
    unfold val_main_v222
    exact Routing.gather_take1 _ rfl rfl rfl rfl x2 _ _ _ (start_eq' x0 hb ⟨(i 0).val * 64 + (i 1).val, hn⟩) (by decide)
  rw [val_main_v224_apply, e, val_main_v223_apply, hf]
  refine ⟨fun h => (if_pos h).trans (by rw [val_main_call1_v1_apply, val_main_call1_v0_apply, val_main_c_69_apply]), fun h => ?_⟩
  rw [show Scalar.select (x2 (ix1 (stepOf x0 ((i 0).val * 64 + (i 1).val)))) (val_main_call1_v1 (F := Ideal) (ix1 ⟨(i 0).val * 64 + (i 1).val, hn⟩)) (val_main_v215 (F := Ideal) x0 x1 (ix1 ⟨(i 0).val * 64 + (i 1).val, hn⟩)) = _ from if_neg h]
  exact draw_eq x0 x1 hb ⟨(i 0).val * 64 + (i 1).val, hn⟩

end Cert.ReferenceIdeal.Read

end
-- ==== Proof.Cipher.lean ====
/- The twenty rounds of threefry-2x32 under any key, in the kernel's form and in the reference's. -/
module

public import proofs.«01_k».proof.Proof.RefWords

@[expose] public section

set_option maxRecDepth 16384

noncomputable section

namespace Cert.Proof

open Idealize.ShloMosaic

/-- A key: its two words and the third that the cipher derives from them, and the five sums of a word and a group's number. -/
structure Key where
  a : BitVec 32
  b : BitVec 32
  c : BitVec 32
  s1 : BitVec 32
  s2 : BitVec 32
  s3 : BitVec 32
  s4 : BitVec 32
  s5 : BitVec 32

/-- The keys of the axes, of the place inside a bin and of the normal angle. -/
def keyU : Key := ⟨507451445#32, 1853169794#32, 1805329261#32, 1805329262#32, 507451447#32, 1853169797#32, 1805329265#32, 507451450#32⟩
def key2 : Key := ⟨2215249346#32, 143550061#32, 2538961013#32, 2538961014#32, 2215249348#32, 143550064#32, 2538961017#32, 2215249351#32⟩
def key3 : Key := ⟨3270805043#32, 4194985171#32, 590346554#32, 590346555#32, 3270805045#32, 4194985174#32, 590346558#32, 3270805048#32⟩

variable (u : ArithUnit) (k : Key)

/-- The state after each group of four rounds and its key words, from the counter `m` with the key's second word added. -/
def kst0 (m : BitVec 32) : BitVec 32 × BitVec 32 := (k.a, m)
def kst1 (m : BitVec 32) : BitVec 32 × BitVec 32 := inject k.b k.s1 (mixA u (kst0 k m))
def kst2 (m : BitVec 32) : BitVec 32 × BitVec 32 := inject k.c k.s2 (mixB u (kst1 u k m))
def kst3 (m : BitVec 32) : BitVec 32 × BitVec 32 := inject k.a k.s3 (mixA u (kst2 u k m))
def kst4 (m : BitVec 32) : BitVec 32 × BitVec 32 := inject k.b k.s4 (mixB u (kst3 u k m))
def kst5 (m : BitVec 32) : BitVec 32 × BitVec 32 := inject k.c k.s5 (mixA u (kst4 u k m))

/-- The pattern of a float in [1, 2) that the upper 23 bits of the drawn word make. -/
def kpattern (m : BitVec 32) : BitVec 32 := IntOp.ori (IntOp.shrui u (IntOp.xori (kst5 u k m).1 (kst5 u k m).2) 9#32) 1065353216#32

/-- The reference's form: the first word starts at 0, and the key words enter in three steps. -/
def hst0 (m : BitVec 32) : BitVec 32 × BitVec 32 := (IntOp.addi 0#32 k.a, m)
def hst1 (m : BitVec 32) : BitVec 32 × BitVec 32 := inject3 k.b k.c 1#32 (mixA .host (hst0 k m))
def hst2 (m : BitVec 32) : BitVec 32 × BitVec 32 := inject3 k.c k.a 2#32 (mixB .host (hst1 k m))
def hst3 (m : BitVec 32) : BitVec 32 × BitVec 32 := inject3 k.a k.b 3#32 (mixA .host (hst2 k m))
def hst4 (m : BitVec 32) : BitVec 32 × BitVec 32 := inject3 k.b k.c 4#32 (mixB .host (hst3 k m))
def hst5 (m : BitVec 32) : BitVec 32 × BitVec 32 := inject3 k.c k.a 5#32 (mixA .host (hst4 k m))
def hpattern (m : BitVec 32) : BitVec 32 := IntOp.ori (IntOp.shrui .host (IntOp.xori (hst5 k m).1 (hst5 k m).2) 9#32) 1065353216#32

/-- The sums are those of the words. -/
def Key.Ok (k : Key) : Prop :=
  IntOp.addi k.c 1#32 = k.s1 ∧ IntOp.addi k.a 2#32 = k.s2 ∧ IntOp.addi k.b 3#32 = k.s3 ∧ IntOp.addi k.c 4#32 = k.s4 ∧ IntOp.addi k.a 5#32 = k.s5
theorem keyU_ok : keyU.Ok := by unfold Key.Ok keyU; decide
theorem key2_ok : key2.Ok := by unfold Key.Ok key2; decide
theorem key3_ok : key3.Ok := by unfold Key.Ok key3; decide

theorem hpattern_eq (hk : k.Ok) (m : BitVec 32) : hpattern k m = kpattern .vector k m := by
  obtain ⟨e1, e2, e3, e4, e5⟩ := hk
  have h0 : hst0 k m = kst0 k m := by unfold hst0 kst0 IntOp.addi; rw [BitVec.zero_add]
  have h1 : hst1 k m = kst1 .vector k m := by unfold hst1 kst1; rw [inject3_eq, e1, mixA_unit, h0]
  have h2 : hst2 k m = kst2 .vector k m := by unfold hst2 kst2; rw [inject3_eq, e2, mixB_unit, h1]
  have h3 : hst3 k m = kst3 .vector k m := by unfold hst3 kst3; rw [inject3_eq, e3, mixA_unit, h2]
  have h4 : hst4 k m = kst4 .vector k m := by unfold hst4 kst4; rw [inject3_eq, e4, mixB_unit, h3]
  have h5 : hst5 k m = kst5 .vector k m := by unfold hst5 kst5; rw [inject3_eq, e5, mixA_unit, h4]
  unfold hpattern kpattern
  rw [h5, shrui_unit]

/-- The pattern as 23 bits under the exponent of 1. -/
theorem kpattern_shift (m : BitVec 32) : ∃ w : BitVec 32, kpattern .vector k m = (w >>> 9) ||| 1065353216#32 := by
  refine ⟨IntOp.xori (kst5 .vector k m).1 (kst5 .vector k m).2, ?_⟩
  have h : ∀ w : BitVec 32, IntOp.shrui .vector w 9#32 = w >>> 9 := fun w => by
    unfold IntOp.shrui; rw [if_pos (by decide)]; rfl
  unfold kpattern; rw [h]; rfl

end Cert.Proof

end
-- ==== Proof.Angles.lean ====
/- The numbers of the second call at `Ideal`, in the kernel's form and in the reference's: the normal variate, the angle, the rotation
matrix of a vector and the vector of a rotation matrix. -/
module

public import proofs.«01_k».proof.Proof.Cipher
public import proofs.«01_k».proof.Proof.Times

@[expose] public section

set_option maxRecDepth 16384

noncomputable section

namespace Cert.Proof

open Idealize.ShloMosaic

/-- A float32 constant. -/
abbrev fc (b : BitVec 32) : EReal := Ideal.ofBits .f32 b

/-- The unit in [0, 1) of a pattern. -/
def unitW (b : BitVec 32) : EReal := fc b - fc 0x3F800000#32

/-- The unit spread over (-1, 1). -/
def spreadK (b : BitVec 32) : EReal := max (unitW b * fc 0x40000000#32 + fc 0xBF7FFFFF#32) (fc 0xBF7FFFFF#32)
def spreadR (b : BitVec 32) : EReal := max (fc 0xBF7FFFFF#32) (unitW b * fc 0x40000000#32 + fc 0xBF7FFFFF#32)
theorem spreadR_eq (b : BitVec 32) : spreadR b = spreadK b := max_comm _ _

/-- The two polynomials of the inverse error function. -/
def nearPoly (w : EReal) : EReal :=
  ((((((((fc 0x32F16588#32) * w + fc 0x34B84B36#32) * w + fc 0xB66C7357#32) * w + fc 0xB6935AC1#32) * w + fc 0x396532DB#32) * w
    + fc 0xBAA45408#32) * w + fc 0xBB88E4EF#32) * w + fc 0x3E7C8F63#32) * w + fc 0x3FC02E2F#32
def farPoly (w : EReal) : EReal :=
  ((((((((fc 0xB951F09B#32) * w + fc 0x38D3B56B#32) * w + fc 0x3AB0DC72#32) * w + fc 0xBB70BDE7#32) * w + fc 0x3BBC127B#32) * w
    + fc 0xBBF9C5D7#32) * w + fc 0x3C1AA57E#32) * w + fc 0x3F8036DB#32) * w + fc 0x40354F7E#32

/-- The kernel's normal variate of a number in (-1, 1): both polynomials, then a choice. -/
def logK (x : EReal) : EReal := fc 0x00000000#32 - Ideal.log ((fc 0x3F800000#32 - x) * (fc 0x3F800000#32 + x))
def nearBit (w : EReal) : BitVec 1 := Ideal.cmp .olt w (fc 0x40A00000#32)
def normalK (x : EReal) : EReal :=
  fc 0x3FB504F3#32 * (Scalar.select (nearBit (logK x)) (nearPoly (logK x - fc 0x40200000#32))
    (farPoly (Ideal.sqrt (Scalar.select (nearBit (logK x)) (fc 0x40A00000#32) (logK x)) - fc 0x40400000#32)) * x)

/-- The reference's: a choice of each coefficient. -/
def logR (x : EReal) : EReal := -Ideal.log1p (x * -x)
def argR (w : EReal) : EReal := Scalar.select (nearBit w) (w - fc 0x40200000#32) (Ideal.sqrt w - fc 0x40400000#32)
def pick (w : EReal) (a b : BitVec 32) : EReal := Scalar.select (nearBit w) (fc a) (fc b)
def polyR (w s : EReal) : EReal :=
  pick w 0x3FC02E2F#32 0x40354F7E#32 + (pick w 0x3E7C8F63#32 0x3F8036DB#32 + (pick w 0xBB88E4EF#32 0x3C1AA57E#32 + (pick w 0xBAA45408#32 0xBBF9C5D7#32
    + (pick w 0x396532DB#32 0x3BBC127B#32 + (pick w 0xB6935AC1#32 0xBB70BDE7#32 + (pick w 0xB66C7357#32 0x3AB0DC72#32
    + (pick w 0x34B84B36#32 0x38D3B56B#32 + pick w 0x32F16588#32 0xB951F09B#32 * s) * s) * s) * s) * s) * s) * s) * s
def normalR (x : EReal) : EReal := fc 0x3FB504F3#32 * (polyR (logR x) (argR (logR x)) * x)

/-- The constants that must be known to be finite, or by size. -/
theorem low_real : ∃ r : ℝ, -1 ≤ r ∧ fc 0xBF7FFFFF#32 = (r : EReal) := by
  refine ⟨-(16777215 * (2 : ℝ) ^ (-24 : ℤ)), by norm_num, ?_⟩
  simp [fc, Ideal.ofBits, Ideal.ieee, -EReal.coe_mul]; try norm_num
theorem two_real : fc 0x40000000#32 = ((2 : ℝ) : EReal) := by
  simp [fc, Ideal.ofBits, Ideal.ieee, -EReal.coe_mul]; try norm_num
theorem half_real : fc 0x3F000000#32 = ((1 / 2 : ℝ) : EReal) := by
  simp [fc, Ideal.ofBits, Ideal.ieee, -EReal.coe_mul]; try norm_num
theorem pi_real : ∃ r : ℝ, 0 < r ∧ fc 0x40490FDB#32 = (r : EReal) := by
  refine ⟨13176795 * (2 : ℝ) ^ (-22 : ℤ), by norm_num, ?_⟩
  simp [fc, Ideal.ofBits, Ideal.ieee, -EReal.coe_mul]; try norm_num
theorem step_real : ∃ r : ℝ, fc 0x39C91623#32 = (r : EReal) := by
  refine ⟨13178403 * (2 : ℝ) ^ (-35 : ℤ), ?_⟩
  simp [fc, Ideal.ofBits, Ideal.ieee, -EReal.coe_mul]; try norm_num
theorem clip_real : ∃ r : ℝ, -1 ≤ r ∧ fc 0xBF7FBE77#32 = (r : EReal) := by
  refine ⟨-(16760439 * (2 : ℝ) ^ (-24 : ℤ)), by norm_num, ?_⟩
  simp [fc, Ideal.ofBits, Ideal.ieee, -EReal.coe_mul]; try norm_num

theorem unitW_real (w : BitVec 32) : ∃ r : ℝ, unitW ((w >>> 9) ||| 1065353216#32) = (r : EReal) := by
  obtain ⟨f, _, h⟩ := pattern_real w
  refine ⟨(1 + f * (2 : ℝ) ^ (-23 : ℤ)) - 1, ?_⟩
  unfold unitW fc
  rw [h, one_real, ← EReal.coe_sub]

theorem spreadK_real (w : BitVec 32) : ∃ r : ℝ, spreadK ((w >>> 9) ||| 1065353216#32) = (r : EReal) := by
  obtain ⟨f, h⟩ := unitW_real w
  obtain ⟨l, _, hl⟩ := low_real
  refine ⟨max (f * 2 + l) l, ?_⟩
  unfold spreadK
  rw [h, hl, two_real, ← EReal.coe_mul, ← EReal.coe_add]
  exact (EReal.coe_strictMono.monotone.map_max).symm

theorem log_eq (r : ℝ) : logR (r : EReal) = logK (r : EReal) := by
  unfold logR logK Ideal.log1p
  rw [show fc 0x00000000#32 = 0 from Ideal.ofBits_zero_f32, zero_sub, show fc 0x3F800000#32 = ((1 : ℝ) : EReal) from one_real]
  congr 2
  rw [show (1 : EReal) = ((1 : ℝ) : EReal) from rfl]
  norm_cast
  ring

theorem normal_eq (r : ℝ) : normalR (r : EReal) = normalK (r : EReal) := by
  unfold normalR normalK
  rw [log_eq]
  generalize logK (r : EReal) = w
  congr 2
  by_cases h : nearBit w = 1#1
  · have hp : ∀ a b, pick w a b = fc a := fun a b => if_pos h
    have hs : argR w = w - fc 0x40200000#32 := if_pos h
    refine Eq.trans ?_ (if_pos h).symm
    rw [hs]
    unfold polyR nearPoly
    simp only [hp, add_comm]
  · have hp : ∀ a b, pick w a b = fc b := fun a b => if_neg h
    have hs : argR w = Ideal.sqrt w - fc 0x40400000#32 := if_neg h
    have hw : Scalar.select (nearBit w) (fc 0x40A00000#32) w = w := if_neg h
    refine Eq.trans ?_ (if_neg h).symm
    rw [hs, hw]
    unfold polyR farPoly
    simp only [hp, add_comm]

/-- The angle inside a bin: the kernel's by the even spacing, the reference's between two entries of the grid. -/
theorem bin_eq (w : BitVec 32) (n : ℤ) :
    ((n : ℝ) : EReal) * fc 0x39C91623#32 + unitW ((w >>> 9) ||| 1065353216#32) * (((((n + 1 : ℤ) : ℝ) : EReal)) * fc 0x39C91623#32 - ((n : ℝ) : EReal) * fc 0x39C91623#32)
      = ((n : ℝ) : EReal) * fc 0x39C91623#32 + unitW ((w >>> 9) ||| 1065353216#32) * fc 0x39C91623#32 := by
  obtain ⟨f, h⟩ := unitW_real w
  obtain ⟨s, hs⟩ := step_real
  rw [h, hs]
  norm_cast
  push_cast
  ring

/-- The kernel's angle by the normal variate, and the reference's, which adds the divisor to a negative remainder: there is none. -/
def wideK (z σ : EReal) : EReal := max (σ * fc 0x40000000#32 + z * σ) (-(σ * fc 0x40000000#32 + z * σ))
def remK (x : EReal) : EReal := Ideal.remf x (fc 0x40490FDB#32)
def remR (x : EReal) : EReal :=
  Scalar.select (IntOp.andi (IntOp.cmpi .ne (Ideal.cmp .olt (remK x) (fc 0x00000000#32)) (Ideal.cmp .olt (fc 0x40490FDB#32) (fc 0x00000000#32)))
    (Ideal.cmp .une (remK x) (fc 0x00000000#32))) (remK x + fc 0x40490FDB#32) (remK x)

theorem remK_nonneg (r : ℝ) (h : 0 ≤ r) : 0 ≤ remK (r : EReal) := by
  obtain ⟨p, hp, e⟩ := pi_real
  unfold remK
  rw [e]
  show (0 : EReal) ≤ if p = 0 then ⊥ else ((r - p * (Ideal.truncInt (r / p) : ℝ) : ℝ) : EReal)
  rw [if_neg hp.ne']
  have hq : (Ideal.truncInt (r / p) : ℝ) ≤ r / p := by
    unfold Ideal.truncInt
    rw [if_pos (div_nonneg h hp.le)]
    exact Int.floor_le _
  have : p * (Ideal.truncInt (r / p) : ℝ) ≤ r := by
    calc p * (Ideal.truncInt (r / p) : ℝ) ≤ p * (r / p) := by gcongr
      _ = r := by field_simp
  exact_mod_cast sub_nonneg.mpr this

theorem rem_eq (x : EReal) (h : 0 ≤ x) : remR x = remK x := by
  have hz : fc 0x00000000#32 = 0 := Ideal.ofBits_zero_f32
  by_cases hr : 0 ≤ remK x
  · unfold remR
    obtain ⟨p, hp, e⟩ := pi_real
    have h1 : Ideal.cmp .olt (remK x) 0 = 0#1 := by simp [Ideal.cmp, not_lt.mpr hr]
    have h2 : Ideal.cmp .olt (fc 0x40490FDB#32) 0 = 0#1 := by
      rw [e]
      have : ¬ ((p : EReal) < 0) := not_lt.mpr (by exact_mod_cast hp.le)
      simp [Ideal.cmp, this]
    rw [hz, h1, h2, show IntOp.cmpi .ne (0#1) (0#1) = 0#1 by decide]
    refine if_neg ?_
    unfold IntOp.andi
    simp
  · have hb : remK x = ⊥ := by
      induction x with
      | bot => exact absurd h (by simp)
      | top => rfl
      | coe r => exact absurd (remK_nonneg r (by exact_mod_cast h)) hr
    unfold remR
    rw [hb, EReal.bot_add]
    unfold Scalar.select
    split <;> rfl

theorem wide_nonneg (z σ : EReal) : 0 ≤ wideK z σ := by
  unfold wideK
  generalize σ * fc 0x40000000#32 + z * σ = g
  rcases le_total 0 g with h | h
  · exact le_max_of_le_left h
  · exact le_max_of_le_right (EReal.neg_nonneg.mpr h)

/-- The flag as a number is above one half where it is set. -/
theorem flag_eq (b : BitVec 1) : Ideal.cmp .ogt ((b.toNat : ℝ) : EReal) (fc 0x3F000000#32) = b := by
  rw [half_real]
  have : b = 0#1 ∨ b = 1#1 := by
    have := b.isLt
    rcases Nat.lt_or_ge b.toNat 1 with h | h
    · exact Or.inl (BitVec.eq_of_toNat_eq (by simpa using h))
    · exact Or.inr (BitVec.eq_of_toNat_eq (by simp; omega))
  rcases this with rfl | rfl
  · have : ¬ ((((1 / 2 : ℝ)) : EReal) < (((0#1 : BitVec 1).toNat : ℝ) : EReal)) := by
      rw [EReal.coe_lt_coe_iff]; simp
    unfold Ideal.cmp
    simp only [gt_iff_lt, this, decide_false]; rfl
  · have : (((1 / 2 : ℝ)) : EReal) < (((1#1 : BitVec 1).toNat : ℝ) : EReal) := by
      rw [EReal.coe_lt_coe_iff]; norm_num
    unfold Ideal.cmp
    simp only [gt_iff_lt, this, decide_true]; rfl

/-- The length of a vector, its axis's coordinate times an angle, and the two factors of the rotation formula. -/
def len (x y z : EReal) : EReal := Ideal.sqrt (x * x + y * y + z * z)
def along (n x θ : EReal) : EReal := Ideal.div x (n + fc 0x2B8CBCCC#32) * θ
def fsin (n : EReal) : EReal := Ideal.div (Ideal.sin n + fc 0x322BCC77#32) (n + fc 0x322BCC77#32)
def fcos (n : EReal) : EReal := Ideal.div (fc 0x3F800000#32 - Ideal.cos n + fc 0x322BCC77#32) (n * n + fc 0x32ABCC77#32)

/-- The kernel's rotation matrix, entry by entry. -/
def rotK (b c x y z : EReal) : Fin 3 → Fin 3 → EReal
  | 0, 0 => fc 0x3F800000#32 + c * (fc 0x00000000#32 - z * z - y * y)
  | 0, 1 => b * z + c * (x * y)
  | 0, 2 => fc 0x00000000#32 - b * y + c * (x * z)
  | 1, 0 => fc 0x00000000#32 - b * z + c * (x * y)
  | 1, 1 => fc 0x3F800000#32 + c * (fc 0x00000000#32 - z * z - x * x)
  | 1, 2 => b * x + c * (y * z)
  | 2, 0 => b * y + c * (x * z)
  | 2, 1 => fc 0x00000000#32 - b * x + c * (y * z)
  | 2, 2 => fc 0x3F800000#32 + c * (fc 0x00000000#32 - y * y - x * x)

/-- The reference's: the skew matrix of the vector and its square. -/
def skew (x y z : EReal) : Fin 3 → Fin 3 → EReal
  | 0, 0 => 0
  | 0, 1 => z
  | 0, 2 => -y
  | 1, 0 => -z
  | 1, 1 => 0
  | 1, 2 => x
  | 2, 0 => y
  | 2, 1 => -x
  | 2, 2 => 0
def rotR (b c : EReal) (S : Fin 3 → Fin 3 → EReal) (i j : Fin 3) : EReal :=
  ((if i = j then 1 else 0) + b * S i j) + c * (S i 0 * S 0 j + S i 1 * S 1 j + S i 2 * S 2 j)

theorem rot_eq (b c x y z : EReal) (i j : Fin 3) : rotR b c (skew x y z) i j = rotK b c x y z i j := by
  have hz : fc 0x00000000#32 = 0 := Ideal.ofBits_zero_f32
  have ho : fc 0x3F800000#32 = 1 := one_real
  fin_cases i <;> fin_cases j <;>
    simp [rotR, rotK, skew, hz, ho, sub_eq_add_neg, neg_mul, mul_neg, mul_comm, add_comm]

/-- The product of two matrices, and the vector of a rotation matrix. -/
def mul3 (A B : Fin 3 → Fin 3 → EReal) (i j : Fin 3) : EReal := A i 0 * B 0 j + A i 1 * B 1 j + A i 2 * B 2 j
def cosOf (M : Fin 3 → Fin 3 → EReal) : EReal :=
  min (fc 0x3F800000#32) (max (fc 0xBF7FBE77#32) (Ideal.div (M 0 0 + M 1 1 + M 2 2 - fc 0x3F800000#32) (fc 0x40000000#32)))
def arcPoly (a : EReal) : EReal :=
  (((((((fc 0xBAA57A2C#32) * a + fc 0x3BDA90C5#32) * a + fc 0xBC8BFC66#32) * a + fc 0x3CFD10F8#32) * a + fc 0xBD4D8392#32) * a
    + fc 0x3DB63A9E#32) * a + fc 0xBE5BBFCA#32) * a + fc 0x3FC90FDA#32
def arcAbsK (a : EReal) : EReal := Ideal.sqrt (max (fc 0x3F800000#32 - a) (fc 0x00000000#32)) * arcPoly a
def arcAbsR (a : EReal) : EReal := Ideal.sqrt (fc 0x3F800000#32 - a) * arcPoly a
def arcK (x : EReal) : EReal :=
  Scalar.select (Ideal.cmp .oge x (fc 0x00000000#32)) (arcAbsK (max x (-x))) (fc 0x40490FDB#32 - arcAbsK (max x (-x)))
def arcR (x : EReal) : EReal :=
  Scalar.select (Ideal.cmp .olt x (fc 0x00000000#32)) (fc 0x40490FDB#32 - arcAbsR (max x (-x))) (arcAbsR (max x (-x)))
def coefOf (a x : EReal) : EReal :=
  Ideal.div (a + fc 0x322BCC77#32) (fc 0x40000000#32 * Ideal.sqrt (fc 0x3F800000#32 - x * x) + fc 0x32ABCC77#32)

/-- The rotation matrix of a vector, and the coordinate of a rotation matrix's vector that its entries `p q` and `q p` give. -/
def rotOf (x y z : EReal) : Fin 3 → Fin 3 → EReal := rotK (fsin (len x y z)) (fcos (len x y z)) x y z
def logOf (M : Fin 3 → Fin 3 → EReal) (p q : Fin 3) : EReal := coefOf (arcK (cosOf M)) (cosOf M) * (M p q - M q p)

/-- The kernel's angle: by the normal variate where the flag is set, inside the bin otherwise. -/
def thetaK (f σ : EReal) (b : BitVec 32) (x w : EReal) : EReal :=
  Scalar.select (Ideal.cmp .ogt f (fc 0x3F000000#32)) (remK (wideK (normalK x) σ))
    (((b.toInt : ℝ) : EReal) * fc 0x39C91623#32 + w * fc 0x39C91623#32)

theorem arc_eq (x : EReal) (h1 : -1 ≤ x) (h2 : x ≤ 1) : arcR x = arcK x := by
  have hz : fc 0x00000000#32 = 0 := Ideal.ofBits_zero_f32
  have ho : fc 0x3F800000#32 = 1 := one_real
  have ha : arcAbsR (max x (-x)) = arcAbsK (max x (-x)) := by
    unfold arcAbsR arcAbsK
    have hm : max x (-x) ≤ 1 := max_le h2 (by
      have := EReal.neg_le_neg_iff.mpr h1
      rwa [neg_neg] at this)
    have h0 : (0 : EReal) ≤ 1 - max x (-x) :=
      (EReal.sub_nonneg (Or.inl (EReal.coe_ne_top 1)) (Or.inl (EReal.coe_ne_bot 1))).mpr hm
    rw [hz, ho, max_eq_left h0]
  unfold arcR arcK
  rw [ha, hz]
  by_cases h : x < 0
  · simp [Ideal.cmp, Scalar.select, h, not_le.mpr h]
  · simp [Ideal.cmp, Scalar.select, h, not_lt.mp h]

theorem cosOf_bounds (M : Fin 3 → Fin 3 → EReal) : -1 ≤ cosOf M ∧ cosOf M ≤ 1 := by
  have ho : fc 0x3F800000#32 = 1 := one_real
  obtain ⟨r, hr, e⟩ := clip_real
  unfold cosOf
  rw [ho, e]
  have h1 : (-1 : EReal) = ((-1 : ℝ) : EReal) := rfl
  refine ⟨le_min ?_ (le_max_of_le_left ?_), min_le_left _ _⟩
  · rw [h1, ← EReal.coe_one]
    exact EReal.coe_le_coe_iff.mpr (by norm_num)
  · rw [h1]
    exact EReal.coe_le_coe_iff.mpr hr

end Cert.Proof

end
-- ==== Proof.EpiDraw.lean ====
/- The words and numbers that the second call draws for a rotation. -/
module

public import proofs.«01_k».proof.Proof.Angles
public import proofs.«01_k».proof.Proof.Gen.Kernel2Ideal.Value

@[expose] public section

set_option maxRecDepth 16384

noncomputable section

namespace Cert.Kernel2Ideal.Gen

open Idealize.ShloMosaic Idealize.ShloMosaic.TcCoe Cert.Proof

section Words
variable {F : FTy → Type} [FloatOps F] (x0 : Vec F S64x128 .i32) (x1 x2 x3 x4 x5 x6 : Vec F S64x128 .f32) (i : S64x128.Idx)

/-- The unit in [0, 1) of a pattern, and the unit spread over (-1, 1), in any arithmetic. -/
def unitF (b : BitVec 32) : F .f32 := FloatOps.subf (FloatOps.ofBits .f32 b) (FloatOps.ofBits .f32 0x3F800000#32)
def spreadF (b : BitVec 32) : F .f32 :=
  FloatOps.maximumf (FloatOps.addf (FloatOps.mulf (unitF b) (FloatOps.ofBits .f32 0x40000000#32)) (FloatOps.ofBits .f32 0xBF7FFFFF#32)) (FloatOps.ofBits .f32 0xBF7FFFFF#32)

theorem unit_word : k0_pay40 (F := F) (k0_pay38 (k0_pay301 x0 x1 x2 x3 x4 x5 x6) (k0_pay302 x0 x1 x2 x3 x4 x5 x6) (k0_pay303 x0 x1 x2 x3 x4 x5 x6)) (k0_pay39 (k0_pay301 x0 x1 x2 x3 x4 x5 x6) (k0_pay302 x0 x1 x2 x3 x4 x5 x6) (k0_pay303 x0 x1 x2 x3 x4 x5 x6)) i = unitF (kpattern .vector key2 (k0_pay2 i)) := by
  sl_kernel_rfl

theorem angle_word : k0_pay308 x0 x1 x2 x3 x4 x5 x6 i = spreadF (kpattern .vector key3 (IntOp.addi (k0_pay1 i) key3.b)) := by
  sl_kernel_rfl

theorem axis0_word : k0_pay320 x0 x1 x2 x3 x4 x5 x6 i = spreadF (kpattern .vector keyU (IntOp.addi (k0_pay310 x0 x1 x2 x3 x4 x5 x6 i) keyU.b)) := by
  sl_kernel_rfl

theorem axis1_word : k0_pay177 (F := F) (k0_pay332 x0 x1 x2 x3 x4 x5 x6) (k0_pay333 x0 x1 x2 x3 x4 x5 x6) (k0_pay334 x0 x1 x2 x3 x4 x5 x6) 26#32 i = spreadF (kpattern .vector keyU (IntOp.addi (IntOp.addi (k0_pay310 x0 x1 x2 x3 x4 x5 x6 i) 1#32) keyU.b)) := by
  sl_kernel_rfl

theorem axis2_word : k0_pay343 x0 x1 x2 x3 x4 x5 x6 i = spreadF (kpattern .vector keyU (IntOp.addi (IntOp.addi (k0_pay310 x0 x1 x2 x3 x4 x5 x6 i) 2#32) keyU.b)) := by
  sl_kernel_rfl

/-- The normal variate of a number in (-1, 1), in any arithmetic. -/
def logF (x : F .f32) : F .f32 :=
  FloatOps.subf (FloatOps.ofBits .f32 0x00000000#32) (FloatOps.log (FloatOps.mulf (FloatOps.subf (FloatOps.ofBits .f32 0x3F800000#32) x) (FloatOps.addf (FloatOps.ofBits .f32 0x3F800000#32) x)))
def nearF (w : F .f32) : F .f32 :=
  (FloatOps.addf (FloatOps.mulf (FloatOps.addf (FloatOps.mulf (FloatOps.addf (FloatOps.mulf (FloatOps.addf (FloatOps.mulf (FloatOps.addf (FloatOps.mulf (FloatOps.addf (FloatOps.mulf (FloatOps.addf (FloatOps.mulf (FloatOps.addf (FloatOps.mulf (FloatOps.ofBits .f32 0x32F16588#32) w) (FloatOps.ofBits .f32 0x34B84B36#32)) w) (FloatOps.ofBits .f32 0xB66C7357#32)) w) (FloatOps.ofBits .f32 0xB6935AC1#32))
     w) (FloatOps.ofBits .f32 0x396532DB#32)) w) (FloatOps.ofBits .f32 0xBAA45408#32)) w) (FloatOps.ofBits .f32 0xBB88E4EF#32))
     w) (FloatOps.ofBits .f32 0x3E7C8F63#32)) w) (FloatOps.ofBits .f32 0x3FC02E2F#32))
def farF (w : F .f32) : F .f32 :=
  (FloatOps.addf (FloatOps.mulf (FloatOps.addf (FloatOps.mulf (FloatOps.addf (FloatOps.mulf (FloatOps.addf (FloatOps.mulf (FloatOps.addf (FloatOps.mulf (FloatOps.addf (FloatOps.mulf (FloatOps.addf (FloatOps.mulf (FloatOps.addf (FloatOps.mulf (FloatOps.ofBits .f32 0xB951F09B#32) w) (FloatOps.ofBits .f32 0x38D3B56B#32)) w) (FloatOps.ofBits .f32 0x3AB0DC72#32)) w) (FloatOps.ofBits .f32 0xBB70BDE7#32))
     w) (FloatOps.ofBits .f32 0x3BBC127B#32)) w) (FloatOps.ofBits .f32 0xBBF9C5D7#32)) w) (FloatOps.ofBits .f32 0x3C1AA57E#32))
     w) (FloatOps.ofBits .f32 0x3F8036DB#32)) w) (FloatOps.ofBits .f32 0x40354F7E#32))
def normalF (x : F .f32) : F .f32 :=
  FloatOps.mulf (FloatOps.ofBits .f32 0x3FB504F3#32) (FloatOps.mulf (Scalar.select (FloatOps.cmpf .olt (logF x) (FloatOps.ofBits .f32 0x40A00000#32))
    (nearF (FloatOps.subf (logF x) (FloatOps.ofBits .f32 0x40200000#32)))
    (farF (FloatOps.subf (FloatOps.sqrt (Scalar.select (FloatOps.cmpf .olt (logF x) (FloatOps.ofBits .f32 0x40A00000#32)) (FloatOps.ofBits .f32 0x40A00000#32) (logF x))) (FloatOps.ofBits .f32 0x40400000#32)))) x)
/-- The angle: by the normal variate where the flag is set, inside the bin otherwise. -/
def thetaF (f σ : F .f32) (b : BitVec 32) (x w : F .f32) : F .f32 :=
  Scalar.select (FloatOps.cmpf .ogt f (FloatOps.ofBits .f32 0x3F000000#32))
    (FloatOps.remf (FloatOps.absf (FloatOps.addf (FloatOps.mulf σ (FloatOps.ofBits .f32 0x40000000#32)) (FloatOps.mulf (normalF x) σ))) (FloatOps.ofBits .f32 0x40490FDB#32))
    (FloatOps.addf (FloatOps.mulf (FloatOps.sitofp .f32 b) (FloatOps.ofBits .f32 0x39C91623#32)) (FloatOps.mulf w (FloatOps.ofBits .f32 0x39C91623#32)))

theorem axis0_normal : k0_pay323 x0 x1 x2 x3 x4 x5 x6 i = normalF (k0_pay320 x0 x1 x2 x3 x4 x5 x6 i) := by
  sl_kernel_rfl

theorem axis1_normal : k0_pay335 x0 x1 x2 x3 x4 x5 x6 i = normalF (k0_pay177 (F := F) (k0_pay332 x0 x1 x2 x3 x4 x5 x6) (k0_pay333 x0 x1 x2 x3 x4 x5 x6) (k0_pay334 x0 x1 x2 x3 x4 x5 x6) 26#32 i) := by
  sl_kernel_rfl

theorem axis2_normal : k0_pay228 (k0_pay343 x0 x1 x2 x3 x4 x5 x6) (k0_pay344 x0 x1 x2 x3 x4 x5 x6) (k0_pay345 x0 x1 x2 x3 x4 x5 x6) (k0_pay346 x0 x1 x2 x3 x4 x5 x6) i = normalF (k0_pay343 x0 x1 x2 x3 x4 x5 x6 i) := by
  sl_kernel_rfl

theorem theta_eq : k0_pay309 x0 x1 x2 x3 x4 x5 x6 i = thetaF (shapeCast S64x128 (View.ld x1 r0_0) shapeCasts_S64x128_S64x128 i) (shapeCast S64x128 (View.ld x2 r0_0) shapeCasts_S64x128_S64x128 i)
    (shapeCast S64x128 (View.ld x0 r0_0) shapeCasts_S64x128_S64x128 i) (k0_pay308 x0 x1 x2 x3 x4 x5 x6 i) (k0_pay40 (F := F) (k0_pay38 (k0_pay301 x0 x1 x2 x3 x4 x5 x6) (k0_pay302 x0 x1 x2 x3 x4 x5 x6) (k0_pay303 x0 x1 x2 x3 x4 x5 x6)) (k0_pay39 (k0_pay301 x0 x1 x2 x3 x4 x5 x6) (k0_pay302 x0 x1 x2 x3 x4 x5 x6) (k0_pay303 x0 x1 x2 x3 x4 x5 x6)) i) := by
  sl_kernel_rfl

end Words

/-- At the extended reals these are the numbers of `Angles`. -/
theorem unitF_ideal (b : BitVec 32) : unitF (F := Ideal) b = unitW b := rfl
theorem spreadF_ideal (b : BitVec 32) : spreadF (F := Ideal) b = spreadK b := rfl
theorem normalF_ideal (x : EReal) : normalF (F := Ideal) x = normalK x := rfl
theorem thetaF_ideal (f σ : EReal) (b : BitVec 32) (x w : EReal) : thetaF (F := Ideal) f σ b x w = thetaK f σ b x w := rfl

end Cert.Kernel2Ideal.Gen

end
-- ==== Proof.EpiBody.lean ====
/- What the second call computes at an index, from its seven planes. -/
module

public import proofs.«01_k».proof.Proof.EpiDraw
public import Idealize.ShloMosaic.Lib.Pipeline.ValueKit.Basic

@[expose] public section

set_option maxRecDepth 16384

noncomputable section

namespace Cert.Kernel2Ideal.Gen

open Idealize.ShloMosaic Idealize.ShloMosaic.TcCoe Cert.Proof

section Body
variable {F : FTy → Type} [FloatOps F] (x0 : Vec F S64x128 .i32) (x1 x2 x3 x4 x5 x6 : Vec F S64x128 .f32) (i : S64x128.Idx)

/-- A number rounded to bfloat16 and back. -/
def bfF (x : F .f32) : F .f32 := FloatOps.extf .f32 bitsLt_bf16_f32 (FloatOps.truncf .bf16 bitsLt_bf16_f32 x)

/-- The length of a vector, an axis's coordinate times an angle, and the two factors of the rotation formula. -/
def lenF (x y z : F .f32) : F .f32 := FloatOps.sqrt (FloatOps.addf (FloatOps.addf (FloatOps.mulf x x) (FloatOps.mulf y y)) (FloatOps.mulf z z))
def alongF (n x θ : F .f32) : F .f32 := (FloatOps.mulf (FloatOps.divf x (FloatOps.addf n (FloatOps.ofBits .f32 0x2B8CBCCC#32))) θ)
def fsinF (n : F .f32) : F .f32 := (FloatOps.divf (FloatOps.addf (FloatOps.sin n) (FloatOps.ofBits .f32 0x322BCC77#32)) (FloatOps.addf n (FloatOps.ofBits .f32 0x322BCC77#32)))
def fcosF (n : F .f32) : F .f32 := (FloatOps.divf (FloatOps.addf (FloatOps.subf (FloatOps.ofBits .f32 0x3F800000#32) (FloatOps.cos n)) (FloatOps.ofBits .f32 0x322BCC77#32)) (FloatOps.addf (FloatOps.mulf n n) (FloatOps.ofBits .f32 0x32ABCC77#32)))

/-- The rotation matrix of a vector, entry by entry. -/
def matF (b c x y z : F .f32) : Fin 3 → Fin 3 → F .f32
  | 0, 0 => bfF (FloatOps.addf (FloatOps.ofBits .f32 0x3F800000#32) (FloatOps.mulf c (FloatOps.subf (FloatOps.subf (FloatOps.ofBits .f32 0x00000000#32) (FloatOps.mulf (bfF z) (bfF z))) (FloatOps.mulf (bfF y) (bfF y)))))
  | 0, 1 => bfF (FloatOps.addf (FloatOps.mulf b z) (FloatOps.mulf c (FloatOps.mulf (bfF x) (bfF y))))
  | 0, 2 => bfF (FloatOps.addf (FloatOps.subf (FloatOps.ofBits .f32 0x00000000#32) (FloatOps.mulf b y)) (FloatOps.mulf c (FloatOps.mulf (bfF x) (bfF z))))
  | 1, 0 => bfF (FloatOps.addf (FloatOps.subf (FloatOps.ofBits .f32 0x00000000#32) (FloatOps.mulf b z)) (FloatOps.mulf c (FloatOps.mulf (bfF x) (bfF y))))
  | 1, 1 => bfF (FloatOps.addf (FloatOps.ofBits .f32 0x3F800000#32) (FloatOps.mulf c (FloatOps.subf (FloatOps.subf (FloatOps.ofBits .f32 0x00000000#32) (FloatOps.mulf (bfF z) (bfF z))) (FloatOps.mulf (bfF x) (bfF x)))))
  | 1, 2 => bfF (FloatOps.addf (FloatOps.mulf b x) (FloatOps.mulf c (FloatOps.mulf (bfF y) (bfF z))))
  | 2, 0 => bfF (FloatOps.addf (FloatOps.mulf b y) (FloatOps.mulf c (FloatOps.mulf (bfF x) (bfF z))))
  | 2, 1 => bfF (FloatOps.addf (FloatOps.subf (FloatOps.ofBits .f32 0x00000000#32) (FloatOps.mulf b x)) (FloatOps.mulf c (FloatOps.mulf (bfF y) (bfF z))))
  | 2, 2 => bfF (FloatOps.addf (FloatOps.ofBits .f32 0x3F800000#32) (FloatOps.mulf c (FloatOps.subf (FloatOps.subf (FloatOps.ofBits .f32 0x00000000#32) (FloatOps.mulf (bfF y) (bfF y))) (FloatOps.mulf (bfF x) (bfF x)))))

def rotF (x y z : F .f32) : Fin 3 → Fin 3 → F .f32 := matF (fsinF (lenF x y z)) (fcosF (lenF x y z)) x y z
def mulF (R S : Fin 3 → Fin 3 → F .f32) (i j : Fin 3) : F .f32 := (FloatOps.addf (FloatOps.addf (FloatOps.mulf (R i 0) (S 0 j)) (FloatOps.mulf (R i 1) (S 1 j))) (FloatOps.mulf (R i 2) (S 2 j)))

/-- The vector of a rotation matrix: the cosine of its angle, the angle, and the coordinate that two opposite entries give. -/
def cosF (R : Fin 3 → Fin 3 → F .f32) : F .f32 :=
  FloatOps.minimumf (FloatOps.ofBits .f32 0x3F800000#32) (FloatOps.maximumf (FloatOps.ofBits .f32 0xBF7FBE77#32) (FloatOps.divf (FloatOps.subf (FloatOps.addf (FloatOps.addf (R 0 0) (R 1 1)) (R 2 2)) (FloatOps.ofBits .f32 0x3F800000#32)) (FloatOps.ofBits .f32 0x40000000#32)))
def arcPolyF (a : F .f32) : F .f32 :=
  (FloatOps.addf (FloatOps.mulf (FloatOps.addf (FloatOps.mulf (FloatOps.addf (FloatOps.mulf (FloatOps.addf (FloatOps.mulf (FloatOps.addf (FloatOps.mulf (FloatOps.addf (FloatOps.mulf (FloatOps.addf (FloatOps.mulf (FloatOps.ofBits .f32 0xBAA57A2C#32) a) (FloatOps.ofBits .f32 0x3BDA90C5#32)) a) (FloatOps.ofBits .f32 0xBC8BFC66#32)) a) (FloatOps.ofBits .f32 0x3CFD10F8#32))
     a) (FloatOps.ofBits .f32 0xBD4D8392#32)) a) (FloatOps.ofBits .f32 0x3DB63A9E#32)) a) (FloatOps.ofBits .f32 0xBE5BBFCA#32))
     a) (FloatOps.ofBits .f32 0x3FC90FDA#32))
def arcAbsF (a : F .f32) : F .f32 := (FloatOps.mulf (FloatOps.sqrt (FloatOps.maximumf (FloatOps.subf (FloatOps.ofBits .f32 0x3F800000#32) a) (FloatOps.ofBits .f32 0x00000000#32))) (arcPolyF a))
def arcF (x : F .f32) : F .f32 :=
  Scalar.select (FloatOps.cmpf .oge x (FloatOps.ofBits .f32 0x00000000#32)) (arcAbsF (FloatOps.absf x)) (FloatOps.subf (FloatOps.ofBits .f32 0x40490FDB#32) (arcAbsF (FloatOps.absf x)))
def coefF (a x : F .f32) : F .f32 := (FloatOps.divf (FloatOps.addf a (FloatOps.ofBits .f32 0x322BCC77#32)) (FloatOps.addf (FloatOps.mulf (FloatOps.ofBits .f32 0x40000000#32) (FloatOps.sqrt (FloatOps.subf (FloatOps.ofBits .f32 0x3F800000#32) (FloatOps.mulf x x)))) (FloatOps.ofBits .f32 0x32ABCC77#32)))
def logOfF (R : Fin 3 → Fin 3 → F .f32) (p q : Fin 3) : F .f32 := (FloatOps.mulf (coefF (arcF (cosF R)) (cosF R)) (FloatOps.subf (R p q) (R q p)))

/-- A plane as the body reads it. -/
def seen {α : Type} (x : S64x128.Idx → α) : S64x128.Idx → α := shapeCast S64x128 x shapeCasts_S64x128_S64x128
/-- The rotation that is drawn at an index, and that of the given vector, scaled. -/
def drawnF : Fin 3 → Fin 3 → F .f32 := rotF (k0_pay347 x0 x1 x2 x3 x4 x5 x6 i) (k0_pay348 x0 x1 x2 x3 x4 x5 x6 i) (k0_pay349 x0 x1 x2 x3 x4 x5 x6 i)
def givenF (a v0 v1 v2 : F .f32) : Fin 3 → Fin 3 → F .f32 :=
  rotF (FloatOps.mulf (FloatOps.sqrt a) v0) (FloatOps.mulf (FloatOps.sqrt a) v1) (FloatOps.mulf (FloatOps.sqrt a) v2)

theorem along0 : k0_pay347 x0 x1 x2 x3 x4 x5 x6 i = alongF (lenF (k0_pay323 x0 x1 x2 x3 x4 x5 x6 i) (k0_pay335 x0 x1 x2 x3 x4 x5 x6 i) (k0_pay228 (k0_pay343 x0 x1 x2 x3 x4 x5 x6) (k0_pay344 x0 x1 x2 x3 x4 x5 x6) (k0_pay345 x0 x1 x2 x3 x4 x5 x6) (k0_pay346 x0 x1 x2 x3 x4 x5 x6) i)) (k0_pay323 x0 x1 x2 x3 x4 x5 x6 i) (k0_pay309 x0 x1 x2 x3 x4 x5 x6 i) := by
  sl_kernel_rfl

theorem along1 : k0_pay348 x0 x1 x2 x3 x4 x5 x6 i = alongF (lenF (k0_pay323 x0 x1 x2 x3 x4 x5 x6 i) (k0_pay335 x0 x1 x2 x3 x4 x5 x6 i) (k0_pay228 (k0_pay343 x0 x1 x2 x3 x4 x5 x6) (k0_pay344 x0 x1 x2 x3 x4 x5 x6) (k0_pay345 x0 x1 x2 x3 x4 x5 x6) (k0_pay346 x0 x1 x2 x3 x4 x5 x6) i)) (k0_pay335 x0 x1 x2 x3 x4 x5 x6 i) (k0_pay309 x0 x1 x2 x3 x4 x5 x6 i) := by
  sl_kernel_rfl

theorem along2 : k0_pay349 x0 x1 x2 x3 x4 x5 x6 i = alongF (lenF (k0_pay323 x0 x1 x2 x3 x4 x5 x6 i) (k0_pay335 x0 x1 x2 x3 x4 x5 x6 i) (k0_pay228 (k0_pay343 x0 x1 x2 x3 x4 x5 x6) (k0_pay344 x0 x1 x2 x3 x4 x5 x6) (k0_pay345 x0 x1 x2 x3 x4 x5 x6) (k0_pay346 x0 x1 x2 x3 x4 x5 x6) i)) (k0_pay228 (k0_pay343 x0 x1 x2 x3 x4 x5 x6) (k0_pay344 x0 x1 x2 x3 x4 x5 x6) (k0_pay345 x0 x1 x2 x3 x4 x5 x6) (k0_pay346 x0 x1 x2 x3 x4 x5 x6) i) (k0_pay309 x0 x1 x2 x3 x4 x5 x6 i) := by
  sl_kernel_rfl

theorem vec0 : k0_pay294 (k0_pay286 (k0_pay358 x0 x1 x2 x3 x4 x5 x6) (k0_pay359 x0 x1 x2 x3 x4 x5 x6) (k0_pay360 x0 x1 x2 x3 x4 x5 x6) (k0_pay373 x0 x1 x2 x3 x4 x5 x6) (k0_pay376 x0 x1 x2 x3 x4 x5 x6) (k0_pay379 x0 x1 x2 x3 x4 x5 x6)) (k0_pay288 (k0_pay361 x0 x1 x2 x3 x4 x5 x6) (k0_pay362 x0 x1 x2 x3 x4 x5 x6) (k0_pay363 x0 x1 x2 x3 x4 x5 x6) (k0_pay375 x0 x1 x2 x3 x4 x5 x6) (k0_pay378 x0 x1 x2 x3 x4 x5 x6) (k0_pay381 x0 x1 x2 x3 x4 x5 x6)) (k0_pay383 x0 x1 x2 x3 x4 x5 x6) (k0_pay384 x0 x1 x2 x3 x4 x5 x6) (Scalar.ofBits .f32 0x322BCC77#32) i = logOfF (mulF (drawnF x0 x1 x2 x3 x4 x5 x6 i) (givenF (seen (View.ld x3 r0_0) i) (seen (View.ld x4 r0_0) i) (seen (View.ld x5 r0_0) i) (seen (View.ld x6 r0_0) i))) 1 2 := by
  sl_kernel_rfl

theorem vec1 : k0_pay295 (k0_pay284 (k0_pay355 x0 x1 x2 x3 x4 x5 x6) (k0_pay356 x0 x1 x2 x3 x4 x5 x6) (k0_pay357 x0 x1 x2 x3 x4 x5 x6) (k0_pay373 x0 x1 x2 x3 x4 x5 x6) (k0_pay376 x0 x1 x2 x3 x4 x5 x6) (k0_pay379 x0 x1 x2 x3 x4 x5 x6)) (k0_pay287 (k0_pay361 x0 x1 x2 x3 x4 x5 x6) (k0_pay362 x0 x1 x2 x3 x4 x5 x6) (k0_pay363 x0 x1 x2 x3 x4 x5 x6) (k0_pay374 x0 x1 x2 x3 x4 x5 x6) (k0_pay377 x0 x1 x2 x3 x4 x5 x6) (k0_pay380 x0 x1 x2 x3 x4 x5 x6)) (k0_pay383 x0 x1 x2 x3 x4 x5 x6) (k0_pay384 x0 x1 x2 x3 x4 x5 x6) (Scalar.ofBits .f32 0x322BCC77#32) i = logOfF (mulF (drawnF x0 x1 x2 x3 x4 x5 x6 i) (givenF (seen (View.ld x3 r0_0) i) (seen (View.ld x4 r0_0) i) (seen (View.ld x5 r0_0) i) (seen (View.ld x6 r0_0) i))) 2 0 := by
  sl_kernel_rfl

theorem vec2 : k0_pay296 (k0_pay283 (k0_pay355 x0 x1 x2 x3 x4 x5 x6) (k0_pay356 x0 x1 x2 x3 x4 x5 x6) (k0_pay357 x0 x1 x2 x3 x4 x5 x6) (k0_pay375 x0 x1 x2 x3 x4 x5 x6) (k0_pay378 x0 x1 x2 x3 x4 x5 x6) (k0_pay381 x0 x1 x2 x3 x4 x5 x6)) (k0_pay285 (k0_pay358 x0 x1 x2 x3 x4 x5 x6) (k0_pay359 x0 x1 x2 x3 x4 x5 x6) (k0_pay360 x0 x1 x2 x3 x4 x5 x6) (k0_pay374 x0 x1 x2 x3 x4 x5 x6) (k0_pay377 x0 x1 x2 x3 x4 x5 x6) (k0_pay380 x0 x1 x2 x3 x4 x5 x6)) (k0_pay383 x0 x1 x2 x3 x4 x5 x6) (k0_pay384 x0 x1 x2 x3 x4 x5 x6) (Scalar.ofBits .f32 0x322BCC77#32) i = logOfF (mulF (drawnF x0 x1 x2 x3 x4 x5 x6 i) (givenF (seen (View.ld x3 r0_0) i) (seen (View.ld x4 r0_0) i) (seen (View.ld x5 r0_0) i) (seen (View.ld x6 r0_0) i))) 0 1 := by
  sl_kernel_rfl

end Body

/-- At the extended reals these are the numbers of `Angles`. -/
theorem alongF_ideal (n x θ : EReal) : alongF (F := Ideal) n x θ = along n x θ := rfl
theorem lenF_ideal (x y z : EReal) : lenF (F := Ideal) x y z = len x y z := rfl
theorem rotF_ideal (x y z : EReal) : rotF (F := Ideal) x y z = rotOf x y z := by
  funext i j
  fin_cases i <;> fin_cases j <;> rfl
theorem logOfF_ideal (R S : Fin 3 → Fin 3 → EReal) (p q : Fin 3) : logOfF (F := Ideal) (mulF (F := Ideal) R S) p q = logOf (mul3 R S) p q := rfl

end Cert.Kernel2Ideal.Gen

end
-- ==== Proof.Target.lean ====
/- What both programs of the second call compute for the rotation with number `n`, from the numbers given for it. -/
module

public import proofs.«01_k».proof.Proof.Angles
public import proofs.«01_k».proof.Proof.Spec
public import proofs.«01_k».proof.Proof.Tables

@[expose] public section

set_option maxRecDepth 16384

noncomputable section

namespace Cert.Proof

open Idealize.ShloMosaic

/-- The pattern drawn at counter `n` under a key. -/
def wordOf (k : Key) (n : Nat) : BitVec 32 := kpattern .vector k (IntOp.addi (BitVec.ofNat 32 n) k.b)
/-- A coordinate of the axis, the angle, and a coordinate of the vector drawn. -/
def axisOf (n c : Nat) : EReal := normalK (spreadK (wordOf keyU (n * 3 + c)))
def thetaOf (n : Nat) (f σ : EReal) (b : BitVec 32) : EReal := thetaK f σ b (spreadK (wordOf key3 n)) (unitW (wordOf key2 n))
def drawnOf (n : Nat) (f σ : EReal) (b : BitVec 32) (c : Nat) : EReal :=
  along (len (axisOf n 0) (axisOf n 1) (axisOf n 2)) (axisOf n c) (thetaOf n f σ b)
/-- A coordinate of the vector of the drawn rotation times the given one. -/
def vecOf (n : Nat) (f σ : EReal) (b : BitVec 32) (a v0 v1 v2 : EReal) (p q : Fin 3) : EReal :=
  logOf (mul3 (rotOf (drawnOf n f σ b 0) (drawnOf n f σ b 1) (drawnOf n f σ b 2)) (rotOf (Ideal.sqrt a * v0) (Ideal.sqrt a * v1) (Ideal.sqrt a * v2))) p q

/-- The counters as the programs make them from a rotation's number. -/
theorem three_word (n c : Nat) : IntOp.addi (IntOp.muli (BitVec.ofNat 32 n) 3#32) (BitVec.ofNat 32 c) = BitVec.ofNat 32 (n * 3 + c) := by
  show BitVec.ofNat 32 n * BitVec.ofNat 32 3 + BitVec.ofNat 32 c = _
  rw [← BitVec.ofNat_mul, ← BitVec.ofNat_add]

/-- The number of the rotation at an index of a plane, its row and column, and its place among the tiles of bins. -/
abbrev Plane : Shape := ⟨2, ![64, 128]⟩
abbrev place (i : Plane.Idx) : Nat := (i 0).val * 128 + (i 1).val
theorem place_lt (i : Plane.Idx) : place i < 8192 := by
  have h0 : (i 0).val < 64 := (i 0).isLt
  have h1 : (i 1).val < 128 := (i 1).isLt
  simp only [place]; omega
abbrev rowOf (i : Plane.Idx) : Fin 32 := ⟨place i / 256, by have := place_lt i; omega⟩
abbrev colOf (i : Plane.Idx) : Fin 256 := ⟨place i % 256, Nat.mod_lt _ (by decide)⟩
abbrev tileOf (i : Plane.Idx) : Fin 128 := ⟨place i / 64, by have := place_lt i; omega⟩
abbrev spotOf (i : Plane.Idx) : Fin 64 := ⟨place i % 64, Nat.mod_lt _ (by decide)⟩

/-- The time step of a row. -/
abbrev stepAt (t : (⟨1, ![32]⟩ : Shape).Idx → BitVec 32) (w : Fin 32) : Fin 101 := ⟨(t (ix1 w)).toNat % 101, Nat.mod_lt _ (by decide)⟩
theorem step_word (t : (⟨1, ![32]⟩ : Shape).Idx → BitVec 32) (hb : Below t) (w : Fin 32) : BitVec.ofNat 32 (stepAt t w).val = t (ix1 w) := by
  apply BitVec.eq_of_toNat_eq
  have := hb (ix1 w)
  rw [BitVec.toNat_ofNat]
  show (t (ix1 w)).toNat % 101 % 2 ^ 32 = _
  omega

section Planes
variable (x0 : (⟨3, ![128, 64, 1]⟩ : Shape).Idx → BitVec 32) (x1 : (⟨3, ![32, 256, 3]⟩ : Shape).Idx → EReal) (x2 : (⟨1, ![32]⟩ : Shape).Idx → BitVec 32)
  (x4 : (⟨1, ![101]⟩ : Shape).Idx → EReal) (x5 : (⟨1, ![101]⟩ : Shape).Idx → BitVec 1) (x6 : (⟨1, ![101]⟩ : Shape).Idx → EReal)

/-- The two results, a coordinate at a time, from the arguments: bins, vectors, time steps, deviations, flags, scales. -/
def drawnPlane (c : Nat) (i : Plane.Idx) : EReal :=
  drawnOf (place i) (((x5 (ix1 (stepAt x2 (rowOf i)))).toNat : ℝ) : EReal) (x4 (ix1 (stepAt x2 (rowOf i)))) (x0 (ix3 (tileOf i) (spotOf i) 0)) c
def vecPlane (p q : Fin 3) (i : Plane.Idx) : EReal :=
  vecOf (place i) (((x5 (ix1 (stepAt x2 (rowOf i)))).toNat : ℝ) : EReal) (x4 (ix1 (stepAt x2 (rowOf i)))) (x0 (ix3 (tileOf i) (spotOf i) 0))
    (x6 (ix1 (stepAt x2 (rowOf i)))) (x1 (ix3 (rowOf i) (colOf i) 0)) (x1 (ix3 (rowOf i) (colOf i) 1)) (x1 (ix3 (rowOf i) (colOf i) 2)) p q
end Planes

end Cert.Proof

end
-- ==== Proof.EpiPoint.lean ====
/- The second call's body at an index, over the extended reals. -/
module

public import proofs.«01_k».proof.Proof.EpiBody
public import proofs.«01_k».proof.Proof.Target

@[expose] public section

set_option maxRecDepth 16384

noncomputable section

namespace Cert.Kernel2Ideal.Gen

open Idealize.ShloMosaic Idealize.ShloMosaic.TcCoe Cert.Proof

theorem iota_row (i : S64x128.Idx) : iota .tc S64x128 32 [0] iota_S64x128_d0_w32 i = BitVec.ofNat 32 (i 0).val :=
  congrArg (BitVec.ofNat 32) (show 0 * 64 + (i 0).val = (i 0).val by rw [Nat.zero_mul, Nat.zero_add])
theorem iota_lane (i : S64x128.Idx) : iota .tc S64x128 32 [1] iota_S64x128_d1_w32 i = BitVec.ofNat 32 (i 1).val :=
  congrArg (BitVec.ofNat 32) (show 0 * 128 + (i 1).val = (i 1).val by rw [Nat.zero_mul, Nat.zero_add])

theorem place_word (i : S64x128.Idx) : k0_pay1 i = BitVec.ofNat 32 (place i) := by
  have e : k0_pay1 i = IntOp.addi (IntOp.muli (iota .tc S64x128 32 [0] iota_S64x128_d0_w32 i) 128#32) (iota .tc S64x128 32 [1] iota_S64x128_d1_w32 i) := rfl
  rw [e, iota_row, iota_lane]
  show BitVec.ofNat 32 (i 0).val * BitVec.ofNat 32 128 + BitVec.ofNat 32 (i 1).val = _
  rw [← BitVec.ofNat_mul, ← BitVec.ofNat_add]

section Generic
variable {F : FTy → Type} [FloatOps F] (x0 : Vec F S64x128 .i32) (x1 x2 x3 x4 x5 x6 : Vec F S64x128 .f32) (i : S64x128.Idx)

theorem shifted_word : k0_pay2 i = IntOp.addi (k0_pay1 i) key2.b := rfl
theorem triple_word : k0_pay310 x0 x1 x2 x3 x4 x5 x6 i = IntOp.muli (k0_pay1 i) 3#32 := rfl
end Generic

/-- A plane read whole is the plane. -/
theorem seen_ld {α : EltTy} (x : Vec Ideal S64x128 α) : seen (View.ld x r0_0) = x := by
  have hz : (![0, 0] : Fin S64x128.rank → Nat) = fun _ => 0 := funext fun a => by fin_cases a <;> rfl
  unfold seen
  rw [shapeCast_self]
  exact View.ld_unit_zero (Val := Elt Ideal) hz _ x

section Point
variable (x0 : Vec Ideal S64x128 .i32) (x1 x2 x3 x4 x5 x6 : Vec Ideal S64x128 .f32) (i : S64x128.Idx)

theorem axis0_at : k0_pay323 x0 x1 x2 x3 x4 x5 x6 i = axisOf (place i) 0 := by
  rw [axis0_normal, axis0_word, triple_word, place_word, normalF_ideal, spreadF_ideal]
  show _ = normalK (spreadK (kpattern .vector keyU (IntOp.addi (BitVec.ofNat 32 (place i * 3 + 0)) keyU.b)))
  rw [← three_word]
  show _ = normalK (spreadK (kpattern .vector keyU (IntOp.addi (IntOp.muli (BitVec.ofNat 32 (place i)) 3#32 + 0#32) keyU.b)))
  rw [BitVec.add_zero]

theorem axis1_at : k0_pay335 x0 x1 x2 x3 x4 x5 x6 i = axisOf (place i) 1 := by
  rw [axis1_normal, axis1_word, triple_word, place_word, normalF_ideal, spreadF_ideal, three_word (place i) 1]
  exact rfl

theorem axis2_at : k0_pay228 (F := Ideal) (k0_pay343 x0 x1 x2 x3 x4 x5 x6) (k0_pay344 x0 x1 x2 x3 x4 x5 x6) (k0_pay345 x0 x1 x2 x3 x4 x5 x6) (k0_pay346 x0 x1 x2 x3 x4 x5 x6) i = axisOf (place i) 2 := by
  rw [axis2_normal, axis2_word, triple_word, place_word, normalF_ideal, spreadF_ideal, three_word (place i) 2]
  exact rfl

theorem theta_at : k0_pay309 x0 x1 x2 x3 x4 x5 x6 i = thetaOf (place i) (x1 i) (x2 i) (x0 i) := by
  rw [theta_eq, angle_word, unit_word, shifted_word, place_word, unitF_ideal, spreadF_ideal, thetaF_ideal]
  show thetaK (seen (View.ld x1 r0_0) i) (seen (View.ld x2 r0_0) i) (seen (View.ld x0 r0_0) i) _ _ = _
  rw [seen_ld, seen_ld, seen_ld]
  exact rfl

theorem drawn0 : k0_pay347 x0 x1 x2 x3 x4 x5 x6 i = drawnOf (place i) (x1 i) (x2 i) (x0 i) 0 := by
  rw [along0, axis0_at, axis1_at, axis2_at, theta_at, lenF_ideal, alongF_ideal]; exact rfl
theorem drawn1 : k0_pay348 x0 x1 x2 x3 x4 x5 x6 i = drawnOf (place i) (x1 i) (x2 i) (x0 i) 1 := by
  rw [along1, axis0_at, axis1_at, axis2_at, theta_at, lenF_ideal, alongF_ideal]; exact rfl
theorem drawn2 : k0_pay349 x0 x1 x2 x3 x4 x5 x6 i = drawnOf (place i) (x1 i) (x2 i) (x0 i) 2 := by
  rw [along2, axis0_at, axis1_at, axis2_at, theta_at, lenF_ideal, alongF_ideal]; exact rfl

/-- The product of the two rotations, as the body has it. -/
theorem product_at (p q : Fin 3) :
    logOfF (F := Ideal) (mulF (drawnF x0 x1 x2 x3 x4 x5 x6 i) (givenF (seen (View.ld x3 r0_0) i) (seen (View.ld x4 r0_0) i) (seen (View.ld x5 r0_0) i) (seen (View.ld x6 r0_0) i))) p q
      = vecOf (place i) (x1 i) (x2 i) (x0 i) (x3 i) (x4 i) (x5 i) (x6 i) p q := by
  rw [logOfF_ideal, seen_ld, seen_ld, seen_ld, seen_ld]
  unfold drawnF givenF
  rw [drawn0, drawn1, drawn2, rotF_ideal, rotF_ideal]
  exact rfl

theorem offsets_zero : (![0, 0] : Fin S64x128.rank → Nat) = fun _ => 0 := funext fun a => by fin_cases a <;> rfl

theorem out_e0 : out0_10 x0 x1 x2 x3 x4 x5 x6 i = drawnOf (place i) (x1 i) (x2 i) (x0 i) 0 := by
  rw [← drawn0]; exact congrFun (View.canon_unit_zero (Val := Elt Ideal) offsets_zero _ _) i
theorem out_e1 : out0_11 x0 x1 x2 x3 x4 x5 x6 i = drawnOf (place i) (x1 i) (x2 i) (x0 i) 1 := by
  rw [← drawn1]; exact congrFun (View.canon_unit_zero (Val := Elt Ideal) offsets_zero _ _) i
theorem out_e2 : out0_12 x0 x1 x2 x3 x4 x5 x6 i = drawnOf (place i) (x1 i) (x2 i) (x0 i) 2 := by
  rw [← drawn2]; exact congrFun (View.canon_unit_zero (Val := Elt Ideal) offsets_zero _ _) i
theorem out_v0 : out0_7 x0 x1 x2 x3 x4 x5 x6 i = vecOf (place i) (x1 i) (x2 i) (x0 i) (x3 i) (x4 i) (x5 i) (x6 i) 1 2 := by
  rw [← product_at, ← vec0]; exact congrFun (View.canon_unit_zero (Val := Elt Ideal) offsets_zero _ _) i
theorem out_v1 : out0_8 x0 x1 x2 x3 x4 x5 x6 i = vecOf (place i) (x1 i) (x2 i) (x0 i) (x3 i) (x4 i) (x5 i) (x6 i) 2 0 := by
  rw [← product_at, ← vec1]; exact congrFun (View.canon_unit_zero (Val := Elt Ideal) offsets_zero _ _) i
theorem out_v2 : out0_9 x0 x1 x2 x3 x4 x5 x6 i = vecOf (place i) (x1 i) (x2 i) (x0 i) (x3 i) (x4 i) (x5 i) (x6 i) 0 1 := by
  rw [← product_at, ← vec2]; exact congrFun (View.canon_unit_zero (Val := Elt Ideal) offsets_zero _ _) i
end Point

end Cert.Kernel2Ideal.Gen

end
-- ==== Proof.EpiPlanes.lean ====
/- The planes that the host code hands to the second call, and the arrays the call leaves. -/
module

public import proofs.«01_k».proof.Proof.EpiPoint
public import proofs.«01_k».proof.Proof.Spec
public import proofs.«01_k».proof.Proof.Tables
public import Idealize.ShloMosaic.Lib.Routing.OpsSet
public import Idealize.ShloMosaic.Lib.Pipeline.ValueKit

@[expose] public section

set_option maxRecDepth 16384

noncomputable section

namespace Cert.Kernel2Ideal.Gen

open Idealize.ShloMosaic Idealize.ShloMosaic.TcCoe Cert.Proof

variable {F : FTy → Type} [FloatOps F] (m : (ℓ : Loc nD τ sig) → Buf (Elt F) ℓ) (c : Dev nD)

abbrev bins : IVec S128x64x1 32 := m ((c : Thread nD τ).loc main_arg0)
abbrev given : FVec F S32x256x3 .f32 := m ((c : Thread nD τ).loc main_arg1)
abbrev steps : IVec S32 32 := m ((c : Thread nD τ).loc main_arg2)
abbrev spans : FVec F S101 .f32 := m ((c : Thread nD τ).loc main_arg4)
abbrev flags : IVec S101 1 := m ((c : Thread nD τ).loc main_arg5)
abbrev scales : FVec F S101 .f32 := m ((c : Thread nD τ).loc main_arg6)

/-- A row of 32 by 256, reshaped to 64 by 128, at an index. -/
theorem reshaped {α : Type} (x : S32x256.Idx → α) (i : S64x128.Idx) : shapeCast S64x128 x shapeCasts_S32x256_S64x128 i = x (ix2 (rowOf i) (colOf i)) := by
  refine shapeCast_apply _ _ _ _ ?_
  rw [Shape.rowMajor_val_two, Shape.rowMajor_val_two]
  show place i / 256 * 256 + place i % 256 = (i 0).val * 128 + (i 1).val
  simp only [place]
  omega

/-- A value for each time step, gathered at the steps, spread over the columns. -/
theorem gathered {α : Type} (tbl : S101.Idx → α) (t : IVec S32 32) (hb : Below t) (w : Fin 32) (s : IVec S32x1 32)
    (hs : ∀ w, s (ix2 w 0) = Scalar.select (IntOp.cmpi .slt (t (ix1 w)) 0#32) (IntOp.addi (t (ix1 w)) 101#32) (t (ix1 w))) :
    Host.gather gather_S101_S32x1_S32_n_0_n_n_0_1_1 tbl s (ix1 w) = tbl (ix1 (stepAt t w)) := by
  refine Routing.gather_take1 _ rfl rfl rfl rfl tbl _ w (stepAt t w) ?_ (by decide)
  refine (hs w).trans ((wrap_eq _ (hb _)).trans (step_word t hb w).symm)

theorem spread_row {α : Type} (x : S32.Idx → α) (w : Fin 32) (b : Fin 256) :
    broadcastInDim S32x256 ![0, 1] bcast_S32x1_S32x256_0_1 (broadcastInDim S32x1 ![0] bcast_S32_S32x1_0 x) (ix2 w b) = x (ix1 w) := by
  refine (broadcastInDim_apply _ _ _ (ix2 w b) (ix2 w 0) fun a => ?_).trans (broadcastInDim_apply _ _ _ (ix2 w 0) (ix1 w) fun a => ?_)
  · match a with
    | ⟨0, _⟩ => rfl
    | ⟨1, _⟩ => rfl
  · match a with
    | ⟨0, _⟩ => rfl

theorem wrapped (t : IVec S32 32) (w : Fin 32) (z k : IVec S_ 32) (hz : z ix0 = 0#32) (hk : k ix0 = 101#32) :
    broadcastInDim S32x1 ![0] bcast_S32_S32x1_0 (select (cmpi .slt t (broadcastInDim S32 ![] bcast_S_S32 z)) (addi t (broadcastInDim S32 ![] bcast_S_S32 k)) t) (ix2 w 0)
      = Scalar.select (IntOp.cmpi .slt (t (ix1 w)) 0#32) (IntOp.addi (t (ix1 w)) 101#32) (t (ix1 w)) := by
  refine (broadcastInDim_apply _ _ _ (ix2 w 0) (ix1 w) fun a => ?_).trans ?_
  · match a with
    | ⟨0, _⟩ => rfl
  · have e1 : broadcastInDim S32 ![] bcast_S_S32 z (ix1 w) = z ix0 := broadcastInDim_apply _ _ _ (ix1 w) ix0 fun a => a.elim0
    have e2 : broadcastInDim S32 ![] bcast_S_S32 k (ix1 w) = k ix0 := broadcastInDim_apply _ _ _ (ix1 w) ix0 fun a => a.elim0
    show Scalar.select (IntOp.cmpi .slt (t (ix1 w)) (broadcastInDim S32 ![] bcast_S_S32 z (ix1 w))) (IntOp.addi (t (ix1 w)) (broadcastInDim S32 ![] bcast_S_S32 k (ix1 w))) (t (ix1 w)) = _
    rw [e1, e2, hz, hk]

theorem plane_bins (i : S64x128.Idx) : (V m c main_v0 : IVec S64x128 32) i = bins m c (ix3 (tileOf i) (spotOf i) 0) := by
  have e : (V m c main_v0 : IVec S64x128 32) = shapeCast S64x128 (bins m c) shapeCasts_S128x64x1_S64x128 := by entry_read; rfl
  rw [e]
  refine shapeCast_apply _ _ _ _ ?_
  rw [Shape.rowMajor_val_three, Shape.rowMajor_val_two]
  show (place i / 64 * 64 + place i % 64) * 1 + 0 = (i 0).val * 128 + (i 1).val
  simp only [place]
  omega

theorem plane_flags (hb : Below (steps m c)) (i : S64x128.Idx) :
    (V m c main_v11 : FVec F S64x128 .f32) i = FloatOps.uitofp .f32 (flags m c (ix1 (stepAt (steps m c) (rowOf i)))) := by
  entry_read
  refine (reshaped _ i).trans ((spread_row _ _ _).trans ?_)
  exact congrArg (FloatOps.uitofp .f32) (gathered _ (steps m c) hb _ _ fun w => wrapped _ w _ _ rfl rfl)

theorem plane_spans (hb : Below (steps m c)) (i : S64x128.Idx) :
    (V m c main_v21 : FVec F S64x128 .f32) i = spans m c (ix1 (stepAt (steps m c) (rowOf i))) := by
  entry_read
  refine (reshaped _ i).trans ((spread_row _ _ _).trans ?_)
  exact gathered _ (steps m c) hb _ _ fun w => wrapped _ w _ _ rfl rfl

theorem plane_scales (hb : Below (steps m c)) (i : S64x128.Idx) :
    (V m c main_v31 : FVec F S64x128 .f32) i = scales m c (ix1 (stepAt (steps m c) (rowOf i))) := by
  entry_read
  refine (reshaped _ i).trans ((spread_row _ _ _).trans ?_)
  exact gathered _ (steps m c) hb _ _ fun w => wrapped _ w _ _ rfl rfl

/-- The slice of one coordinate, as a matrix. -/
theorem coordinate {α : Type} (x : S32x256x1.Idx → α) (a : Fin 32) (b : Fin 256) : shapeCast S32x256 x shapeCasts_S32x256x1_S32x256 (ix2 a b) = x (ix3 a b 0) := by
  refine shapeCast_apply _ _ _ _ ?_
  rw [Shape.rowMajor_val_three, Shape.rowMajor_val_two]
  show (a.val * 256 + b.val) * 1 + 0 = a.val * 256 + b.val
  omega

theorem plane_x (i : S64x128.Idx) : (V m c main_v34 : FVec F S64x128 .f32) i = given m c (ix3 (rowOf i) (colOf i) 0) := by
  entry_read
  refine (reshaped _ i).trans ((coordinate _ _ _).trans ?_)
  exact congrArg (given m c) (funext fun a => match a with | ⟨0, _⟩ => Fin.ext (Nat.zero_add _) | ⟨1, _⟩ => Fin.ext (Nat.zero_add _) | ⟨2, _⟩ => rfl)
theorem plane_y (i : S64x128.Idx) : (V m c main_v37 : FVec F S64x128 .f32) i = given m c (ix3 (rowOf i) (colOf i) 1) := by
  entry_read
  refine (reshaped _ i).trans ((coordinate _ _ _).trans ?_)
  exact congrArg (given m c) (funext fun a => match a with | ⟨0, _⟩ => Fin.ext (Nat.zero_add _) | ⟨1, _⟩ => Fin.ext (Nat.zero_add _) | ⟨2, _⟩ => rfl)
theorem plane_z (i : S64x128.Idx) : (V m c main_v40 : FVec F S64x128 .f32) i = given m c (ix3 (rowOf i) (colOf i) 2) := by
  entry_read
  refine (reshaped _ i).trans ((coordinate _ _ _).trans ?_)
  exact congrArg (given m c) (funext fun a => match a with | ⟨0, _⟩ => Fin.ext (Nat.zero_add _) | ⟨1, _⟩ => Fin.ext (Nat.zero_add _) | ⟨2, _⟩ => rfl)

end Cert.Kernel2Ideal.Gen

end
-- ==== Proof.EpiArrays.lean ====
/- The arrays that the second call leaves. -/
module

public import proofs.«01_k».proof.Proof.EpiPlanes

@[expose] public section

set_option maxRecDepth 16384

noncomputable section

namespace Cert.Kernel2Ideal.Gen

open Idealize.ShloMosaic Idealize.ShloMosaic.TcCoe Cert.Proof

variable {F : FTy → Type} [FloatOps F] (m : (ℓ : Loc nD τ sig) → Buf (Elt F) ℓ) (c : Dev nD)

/-- The one grid point. -/
def t₀ : Fin cfg0.N := ⟨0, by decide⟩

/-- Each window is its whole array. -/
theorem block0 : (iblk m c 0 t₀ : IVec S64x128 32) = V m c main_v0 :=
  Memref.read_access_unit_zero (Elt F) main_v0 (show (fun a => (win0_0.index t₀) a * main_v0.ty.shape.size a) = fun _ => 0 from funext fun a => by fin_cases a <;> decide) (fun a => by fin_cases a <;> decide) _
theorem block1 : (iblk m c 1 t₀ : FVec F S64x128 .f32) = V m c main_v11 :=
  Memref.read_access_unit_zero (Elt F) main_v11 (show (fun a => (win0_1.index t₀) a * main_v11.ty.shape.size a) = fun _ => 0 from funext fun a => by fin_cases a <;> decide) (fun a => by fin_cases a <;> decide) _
theorem block2 : (iblk m c 2 t₀ : FVec F S64x128 .f32) = V m c main_v21 :=
  Memref.read_access_unit_zero (Elt F) main_v21 (show (fun a => (win0_2.index t₀) a * main_v21.ty.shape.size a) = fun _ => 0 from funext fun a => by fin_cases a <;> decide) (fun a => by fin_cases a <;> decide) _
theorem block3 : (iblk m c 3 t₀ : FVec F S64x128 .f32) = V m c main_v31 :=
  Memref.read_access_unit_zero (Elt F) main_v31 (show (fun a => (win0_3.index t₀) a * main_v31.ty.shape.size a) = fun _ => 0 from funext fun a => by fin_cases a <;> decide) (fun a => by fin_cases a <;> decide) _
theorem block4 : (iblk m c 4 t₀ : FVec F S64x128 .f32) = V m c main_v34 :=
  Memref.read_access_unit_zero (Elt F) main_v34 (show (fun a => (win0_4.index t₀) a * main_v34.ty.shape.size a) = fun _ => 0 from funext fun a => by fin_cases a <;> decide) (fun a => by fin_cases a <;> decide) _
theorem block5 : (iblk m c 5 t₀ : FVec F S64x128 .f32) = V m c main_v37 :=
  Memref.read_access_unit_zero (Elt F) main_v37 (show (fun a => (win0_5.index t₀) a * main_v37.ty.shape.size a) = fun _ => 0 from funext fun a => by fin_cases a <;> decide) (fun a => by fin_cases a <;> decide) _
theorem block6 : (iblk m c 6 t₀ : FVec F S64x128 .f32) = V m c main_v40 :=
  Memref.read_access_unit_zero (Elt F) main_v40 (show (fun a => (win0_6.index t₀) a * main_v40.ty.shape.size a) = fun _ => 0 from funext fun a => by fin_cases a <;> decide) (fun a => by fin_cases a <;> decide) _

/-- Each result array is what the body leaves for it. -/
theorem array0 : (dats m 0 c).arrAt 7 cfg0.N = (out0_7 (V m c main_v0) (V m c main_v11) (V m c main_v21) (V m c main_v31) (V m c main_v34) (V m c main_v37) (V m c main_v40) : FVec F S64x128 .f32) := by
  have h := (Value.blocks7 m c t₀ (by decide)).trans (Value.flushed7 m c t₀)
  rw [Memref.read_access_unit_zero (Elt F) main_v41_0 (show (fun a => (win0_7.index t₀) a * main_v41_0.ty.shape.size a) = fun _ => 0 from funext fun a => by fin_cases a <;> decide) (fun a => by fin_cases a <;> decide)] at h
  rw [← block0, ← block1, ← block2, ← block3, ← block4, ← block5, ← block6]
  exact h
theorem array1 : (dats m 0 c).arrAt 8 cfg0.N = (out0_8 (V m c main_v0) (V m c main_v11) (V m c main_v21) (V m c main_v31) (V m c main_v34) (V m c main_v37) (V m c main_v40) : FVec F S64x128 .f32) := by
  have h := (Value.blocks8 m c t₀ (by decide)).trans (Value.flushed8 m c t₀)
  rw [Memref.read_access_unit_zero (Elt F) main_v41_1 (show (fun a => (win0_8.index t₀) a * main_v41_1.ty.shape.size a) = fun _ => 0 from funext fun a => by fin_cases a <;> decide) (fun a => by fin_cases a <;> decide)] at h
  rw [← block0, ← block1, ← block2, ← block3, ← block4, ← block5, ← block6]
  exact h
theorem array2 : (dats m 0 c).arrAt 9 cfg0.N = (out0_9 (V m c main_v0) (V m c main_v11) (V m c main_v21) (V m c main_v31) (V m c main_v34) (V m c main_v37) (V m c main_v40) : FVec F S64x128 .f32) := by
  have h := (Value.blocks9 m c t₀ (by decide)).trans (Value.flushed9 m c t₀)
  rw [Memref.read_access_unit_zero (Elt F) main_v41_2 (show (fun a => (win0_9.index t₀) a * main_v41_2.ty.shape.size a) = fun _ => 0 from funext fun a => by fin_cases a <;> decide) (fun a => by fin_cases a <;> decide)] at h
  rw [← block0, ← block1, ← block2, ← block3, ← block4, ← block5, ← block6]
  exact h
theorem array3 : (dats m 0 c).arrAt 10 cfg0.N = (out0_10 (V m c main_v0) (V m c main_v11) (V m c main_v21) (V m c main_v31) (V m c main_v34) (V m c main_v37) (V m c main_v40) : FVec F S64x128 .f32) := by
  have h := (Value.blocks10 m c t₀ (by decide)).trans (Value.flushed10 m c t₀)
  rw [Memref.read_access_unit_zero (Elt F) main_v41_3 (show (fun a => (win0_10.index t₀) a * main_v41_3.ty.shape.size a) = fun _ => 0 from funext fun a => by fin_cases a <;> decide) (fun a => by fin_cases a <;> decide)] at h
  rw [← block0, ← block1, ← block2, ← block3, ← block4, ← block5, ← block6]
  exact h
theorem array4 : (dats m 0 c).arrAt 11 cfg0.N = (out0_11 (V m c main_v0) (V m c main_v11) (V m c main_v21) (V m c main_v31) (V m c main_v34) (V m c main_v37) (V m c main_v40) : FVec F S64x128 .f32) := by
  have h := (Value.blocks11 m c t₀ (by decide)).trans (Value.flushed11 m c t₀)
  rw [Memref.read_access_unit_zero (Elt F) main_v41_4 (show (fun a => (win0_11.index t₀) a * main_v41_4.ty.shape.size a) = fun _ => 0 from funext fun a => by fin_cases a <;> decide) (fun a => by fin_cases a <;> decide)] at h
  rw [← block0, ← block1, ← block2, ← block3, ← block4, ← block5, ← block6]
  exact h
theorem array5 : (dats m 0 c).arrAt 12 cfg0.N = (out0_12 (V m c main_v0) (V m c main_v11) (V m c main_v21) (V m c main_v31) (V m c main_v34) (V m c main_v37) (V m c main_v40) : FVec F S64x128 .f32) := by
  have h := (Value.blocks12 m c t₀ (by decide)).trans (Value.flushed12 m c t₀)
  rw [Memref.read_access_unit_zero (Elt F) main_v41_5 (show (fun a => (win0_12.index t₀) a * main_v41_5.ty.shape.size a) = fun _ => 0 from funext fun a => by fin_cases a <;> decide) (fun a => by fin_cases a <;> decide)] at h
  rw [← block0, ← block1, ← block2, ← block3, ← block4, ← block5, ← block6]
  exact h

section Values
variable (m : (ℓ : Loc nD τ sig) → Buf (Elt Ideal) ℓ) (c : Dev nD)

theorem array_v0 (hb : Below (steps m c)) :
    (dats m 0 c).arrAt 7 cfg0.N = (vecPlane (bins m c) (given m c) (steps m c) (spans m c) (flags m c) (scales m c) 1 2 : FVec Ideal S64x128 .f32) := by
  rw [array0]
  funext i
  rw [out_v0, plane_bins, plane_flags m c hb, plane_spans m c hb, plane_scales m c hb, plane_x, plane_y, plane_z]
  exact rfl
theorem array_v1 (hb : Below (steps m c)) :
    (dats m 0 c).arrAt 8 cfg0.N = (vecPlane (bins m c) (given m c) (steps m c) (spans m c) (flags m c) (scales m c) 2 0 : FVec Ideal S64x128 .f32) := by
  rw [array1]
  funext i
  rw [out_v1, plane_bins, plane_flags m c hb, plane_spans m c hb, plane_scales m c hb, plane_x, plane_y, plane_z]
  exact rfl
theorem array_v2 (hb : Below (steps m c)) :
    (dats m 0 c).arrAt 9 cfg0.N = (vecPlane (bins m c) (given m c) (steps m c) (spans m c) (flags m c) (scales m c) 0 1 : FVec Ideal S64x128 .f32) := by
  rw [array2]
  funext i
  rw [out_v2, plane_bins, plane_flags m c hb, plane_spans m c hb, plane_scales m c hb, plane_x, plane_y, plane_z]
  exact rfl
theorem array_e0 (hb : Below (steps m c)) :
    (dats m 0 c).arrAt 10 cfg0.N = (drawnPlane (bins m c) (steps m c) (spans m c) (flags m c) 0 : FVec Ideal S64x128 .f32) := by
  rw [array3]
  funext i
  rw [out_e0, plane_bins, plane_flags m c hb, plane_spans m c hb]
  exact rfl
theorem array_e1 (hb : Below (steps m c)) :
    (dats m 0 c).arrAt 11 cfg0.N = (drawnPlane (bins m c) (steps m c) (spans m c) (flags m c) 1 : FVec Ideal S64x128 .f32) := by
  rw [array4]
  funext i
  rw [out_e1, plane_bins, plane_flags m c hb, plane_spans m c hb]
  exact rfl
theorem array_e2 (hb : Below (steps m c)) :
    (dats m 0 c).arrAt 12 cfg0.N = (drawnPlane (bins m c) (steps m c) (spans m c) (flags m c) 2 : FVec Ideal S64x128 .f32) := by
  rw [array5]
  funext i
  rw [out_e2, plane_bins, plane_flags m c hb, plane_spans m c hb]
  exact rfl
end Values

end Cert.Kernel2Ideal.Gen

end
-- ==== Proof.Ref2Draw.lean ====
/- The words and numbers that the reference of the second call draws. -/
module

public import proofs.«01_k».proof.Proof.Target
public import proofs.«01_k».proof.Proof.Gen.Reference2Ideal.Read

@[expose] public section

set_option maxRecDepth 16384

noncomputable section

namespace Cert.Reference2Ideal.Read

open Idealize.ShloMosaic Idealize.ShloMosaic.TcCoe Cert.Proof

section Words
variable {F : FTy → Type} [FloatOps F]

/-- The unit of a pattern, the unit spread over (-1, 1), and the normal variate of it, in any arithmetic. -/
def hunitF (b : BitVec 32) : F .f32 := FloatOps.subf (FloatOps.ofBits .f32 b) (FloatOps.ofBits .f32 0x3F800000#32)
def hspreadF (b : BitVec 32) : F .f32 :=
  FloatOps.maximumf (FloatOps.ofBits .f32 0xBF7FFFFF#32) (FloatOps.addf (FloatOps.mulf (hunitF b) (FloatOps.ofBits .f32 0x40000000#32)) (FloatOps.ofBits .f32 0xBF7FFFFF#32))
def hlogF (x : F .f32) : F .f32 := FloatOps.hostNegf (FloatOps.hostUnary .log1p (FloatOps.mulf x (FloatOps.hostNegf x)))
def hnearF (w : F .f32) : BitVec 1 := FloatOps.cmpf .olt w (FloatOps.ofBits .f32 0x40A00000#32)
def hargF (w : F .f32) : F .f32 :=
  Scalar.select (hnearF w) (FloatOps.subf w (FloatOps.ofBits .f32 0x40200000#32)) (FloatOps.subf (FloatOps.hostUnary .sqrt w) (FloatOps.ofBits .f32 0x40400000#32))
def hpickF (w : F .f32) (a b : BitVec 32) : F .f32 := Scalar.select (hnearF w) (FloatOps.ofBits .f32 a) (FloatOps.ofBits .f32 b)
def hpolyF (w s : F .f32) : F .f32 :=
  FloatOps.addf (hpickF w 0x3FC02E2F#32 0x40354F7E#32) (FloatOps.mulf (FloatOps.addf (hpickF w 0x3E7C8F63#32 0x3F8036DB#32) (FloatOps.mulf
    (FloatOps.addf (hpickF w 0xBB88E4EF#32 0x3C1AA57E#32) (FloatOps.mulf (FloatOps.addf (hpickF w 0xBAA45408#32 0xBBF9C5D7#32) (FloatOps.mulf
    (FloatOps.addf (hpickF w 0x396532DB#32 0x3BBC127B#32) (FloatOps.mulf (FloatOps.addf (hpickF w 0xB6935AC1#32 0xBB70BDE7#32) (FloatOps.mulf
    (FloatOps.addf (hpickF w 0xB66C7357#32 0x3AB0DC72#32) (FloatOps.mulf (FloatOps.addf (hpickF w 0x34B84B36#32 0x38D3B56B#32) (FloatOps.mulf
    (hpickF w 0x32F16588#32 0xB951F09B#32) s)) s)) s)) s)) s)) s)) s)) s)
def hnormalF (x : F .f32) : F .f32 := FloatOps.mulf (FloatOps.ofBits .f32 0x3FB504F3#32) (FloatOps.mulf (hpolyF (hlogF x) (hargF (hlogF x))) x)

theorem axis_word (j : S32x256x3.Idx) : val_main_v199 (F := F) j = hpattern keyU (IntOp.addi (val_main_v19 (F := F) j) keyU.b) := by sl_kernel_rfl
theorem axis_spread (j : S32x256x3.Idx) : val_main_v208 (F := F) j = hspreadF (val_main_v199 (F := F) j) := by sl_kernel_rfl
theorem axis_normal (j : S32x256x3.Idx) : val_main_v257 (F := F) j = hnormalF (val_main_v208 (F := F) j) := by sl_kernel_rfl
theorem place_word (j : S8192.Idx) : val_main_v476 (F := F) j = hpattern key2 (IntOp.addi (val_main_v296 (F := F) j) key2.b) := by sl_kernel_rfl
theorem place_unit (j : S8192.Idx) : val_main_v479 (F := F) j = hunitF (val_main_v476 (F := F) j) := by sl_kernel_rfl
theorem angle_word (j : S8192.Idx) : val_main_v678 (F := F) j = hpattern key3 (IntOp.addi (val_main_v498 (F := F) j) key3.b) := by sl_kernel_rfl
theorem angle_spread (j : S8192.Idx) : val_main_v687 (F := F) j = hspreadF (val_main_v678 (F := F) j) := by sl_kernel_rfl
theorem angle_normal (j : S8192.Idx) : val_main_v736 (F := F) j = hnormalF (val_main_v687 (F := F) j) := by sl_kernel_rfl
end Words

/-- At the extended reals these are the numbers of `Angles`. -/
theorem hunitF_ideal (b : BitVec 32) : hunitF (F := Ideal) b = unitW b := rfl
theorem hspreadF_ideal (b : BitVec 32) : hspreadF (F := Ideal) b = spreadR b := rfl
theorem hnormalF_ideal (x : EReal) : hnormalF (F := Ideal) x = normalR x := rfl

/-- Either normal variate is the kernel's, since the pattern's unit is a real number. -/
theorem normal_pattern (k : Key) (hk : k.Ok) (m : BitVec 32) : normalR (spreadR (hpattern k m)) = normalK (spreadK (kpattern .vector k m)) := by
  rw [hpattern_eq k hk, spreadR_eq]
  obtain ⟨w, hw⟩ := kpattern_shift k m
  rw [hw]
  obtain ⟨r, hr⟩ := spreadK_real w
  rw [hr, normal_eq]

theorem counter_axis (j : S32x256x3.Idx) : val_main_v19 (F := Ideal) j = BitVec.ofNat 32 (((j 0).val * 256 + (j 1).val) * 3 + (j 2).val) := by
  have e : val_main_v19 (F := Ideal) j = IntOp.addi (IntOp.muli (IntOp.addi (IntOp.muli (BitVec.ofNat 32 (j 0).val) 256#32) (BitVec.ofNat 32 (j 1).val)) 3#32) (BitVec.ofNat 32 (j 2).val) := rfl
  rw [e, ← three_word]
  refine congrArg (fun n => IntOp.addi (IntOp.muli n 3#32) (BitVec.ofNat 32 (j 2).val)) ?_
  show BitVec.ofNat 32 (j 0).val * BitVec.ofNat 32 256 + BitVec.ofNat 32 (j 1).val = _
  rw [← BitVec.ofNat_mul, ← BitVec.ofNat_add]

/-- The axis before it is made a unit vector. -/
theorem axis_at (j : S32x256x3.Idx) : val_main_v257 (F := Ideal) j = axisOf ((j 0).val * 256 + (j 1).val) (j 2).val := by
  rw [axis_normal, axis_spread, axis_word, counter_axis, hnormalF_ideal, hspreadF_ideal, normal_pattern keyU keyU_ok]
  exact rfl

theorem unit_at (j : S8192.Idx) : val_main_v479 (F := Ideal) j = unitW (wordOf key2 (j 0).val) := by
  rw [place_unit, place_word, hunitF_ideal, hpattern_eq key2 key2_ok]
  exact rfl

theorem angle_at (j : S8192.Idx) : val_main_v736 (F := Ideal) j = normalK (spreadK (wordOf key3 (j 0).val)) := by
  rw [angle_normal, angle_spread, angle_word, hnormalF_ideal, hspreadF_ideal, normal_pattern key3 key3_ok]
  exact rfl

end Cert.Reference2Ideal.Read

end
-- ==== Proof.Ref2Theta.lean ====
/- The angle that the reference of the second call draws for a rotation. -/
module

public import proofs.«01_k».proof.Proof.Ref2Draw
public import Idealize.ShloMosaic.Lib.Routing.OpsSet
public import Idealize.ShloMosaic.Lib.Pipeline.ValueKit

@[expose] public section

set_option maxRecDepth 16384

noncomputable section

namespace Cert.Reference2Ideal.Read

open Idealize.ShloMosaic Idealize.ShloMosaic.TcCoe Idealize.ShloMosaic.Routing Cert.Proof

/-- `table[r, c]` over a matrix: where `idx` holds at row `p` the numbers `b` and `c`, entry `p` of the result is the table's entry `(b, c)`. -/
theorem gather_two {α : Type} {N B n : Nat} (d : GatherDims (shape2 N B) (shape2 n 2) (shape1 n)) (hcoll : d.collapsedSliceDims = [0, 1])
    (hob : d.operandBatchingDims = []) (hsim : d.startIndexMap = [0, 1]) (hivd : d.indexVectorDim = 1) (x : (shape2 N B).Idx → α)
    (idx : IVec (shape2 n 2) 32) (p : Fin n) (b : Fin N) (c : Fin B) (hb : idx (ix2 p (0 : Fin 2)) = BitVec.ofNat 32 b.val)
    (hc : idx (ix2 p (1 : Fin 2)) = BitVec.ofNat 32 c.val) (hN : N < 2 ^ 31) (hB : B < 2 ^ 31) : Host.gather d x idx (ix1 p) = x (ix2 b c) := by
  have hbl := b.isLt
  have hcl := c.isLt
  unfold Host.gather
  refine congrArg x (funext fun a => Fin.ext ?_)
  have hbN : a ∉ d.operandBatchingDims := by rw [hob]; exact List.not_mem_nil
  have hin : ∀ a : Fin 2, a ∈ ([0, 1] : List (Fin 2)) := by decide
  have hac : a ∈ d.collapsedSliceDims := by rw [hcoll]; exact hin a
  have hk : a ∉ d.sKept := fun h => ((d.mem_sKept a).1 h).1 hac
  have hm : a ∈ d.startIndexMap := by rw [hsim]; exact hin a
  have hsl : d.sliceSizes a = 1 := d.slice_collapsed a hac
  show d.start (ix1 p) idx a + d.batchCoord (ix1 p) a + d.offCoord (ix1 p) a = (ix2 b c a).val
  rw [d.batchCoord_eq_zero _ _ hbN, d.offCoord_eq_zero _ _ hk]
  simp only [Nat.add_zero]
  unfold GatherDims.start
  rw [dif_pos hm]
  have hsi : d.siIdx (ix1 p) ⟨d.startIndexMap.idxOf a, List.idxOf_lt_length_iff.2 hm⟩ = ix2 p a := by
    funext b'
    apply Fin.ext
    match b' with
    | ⟨0, _⟩ =>
      unfold GatherDims.siIdx
      rw [dif_neg (by rw [hivd]; simp)]
      unfold GatherDims.siCoord
      simp only [Fin.val_cast]
      have e : ∀ X : Fin 1, ((ix1 p : (shape1 n).Idx) X).val = p.val := fun X => by
        have hX : X = 0 := Subsingleton.elim _ _
        subst hX; rfl
      exact e _
    | ⟨1, _⟩ =>
      unfold GatherDims.siIdx
      rw [dif_pos (by rw [hivd])]
      show List.idxOf a d.startIndexMap = a.val
      rw [hsim]
      have : ∀ a : Fin 2, List.idxOf a ([0, 1] : List (Fin 2)) = a.val := by decide
      exact this a
  rw [hsi, hsl]
  match a with
  | ⟨0, _⟩ =>
    show min (idx (ix2 p (0 : Fin 2))).toInt.toNat (N - 1) = b.val
    rw [hb, StableHlo.Predicate.toInt_ofNat_small _ (by omega)]
    omega
  | ⟨1, _⟩ =>
    show min (idx (ix2 p (1 : Fin 2))).toInt.toNat (B - 1) = c.val
    rw [hc, StableHlo.Predicate.toInt_ofNat_small _ (by omega)]
    omega

/-- The wrap of a bin is without effect. -/
theorem bin_wrap (v k : BitVec 32) (h : v.toNat < 2 ^ 31) : Scalar.select (IntOp.cmpi .slt v 0#32) (IntOp.addi v k) v = v := by
  refine if_neg ?_
  have hi : v.toInt = v.toNat := BitVec.toInt_eq_toNat_of_lt (by omega)
  have : ¬ (v.slt 0#32 = true) := by
    rw [BitVec.slt_iff_toInt_lt, hi]
    show ¬ ((v.toNat : Int) < 0)
    omega
  simp [IntOp.cmpi, this]

section Angle
variable (x0 : S128x64x1.Idx → BitVec 32) (x2 : S32.Idx → BitVec 32) (x3 : S101x8192.Idx → EReal) (x4 : S101.Idx → EReal) (x5 : S101.Idx → BitVec 1)

abbrev rowN (n : Fin 8192) : Fin 32 := ⟨n.val / 256, by omega⟩
abbrev binN (n : Fin 8192) : BitVec 32 := x0 (ix3 ⟨n.val / 64, by omega⟩ ⟨n.val % 64, by omega⟩ 0)

theorem flat_step (n : Fin 8192) : val_main_v264 (F := Ideal) x2 (ix1 n) = x2 (ix1 (rowN n)) := by
  rw [val_main_v264_apply, val_main_v10_apply, val_main_v9_apply]
  exact congrArg x2 (funext fun a => match a with | ⟨0, _⟩ => rfl)

theorem flat_bin (n : Fin 8192) : val_main_v263 (F := Ideal) x0 (ix1 n) = binN x0 n := by
  rw [val_main_v263_apply]
  exact congrArg x0 (funext fun a => match a with | ⟨0, _⟩ => Fin.ext (by show n.val / 64 = n.val / 64; rfl) | ⟨1, _⟩ => Fin.ext (by show n.val / 1 % 64 = n.val % 64; rw [Nat.div_one]) | ⟨2, _⟩ => Subsingleton.elim (α := Fin 1) _ _)

/-- The row of each table. -/
theorem wrap_step (hb : Below x2) (n : Fin 8192) :
    Scalar.select (IntOp.cmpi .slt (val_main_v264 (F := Ideal) x2 (ix1 n)) 0#32) (IntOp.addi (val_main_v264 (F := Ideal) x2 (ix1 n)) 101#32) (val_main_v264 (F := Ideal) x2 (ix1 n))
      = BitVec.ofNat 32 (stepAt x2 (rowN n)).val := by
  rw [flat_step]
  exact (wrap_eq _ (hb _)).trans (step_word x2 hb (rowN n)).symm

theorem col_idx (n : Fin 8192) : (fun a => match a with | ⟨0, _⟩ => ⟨(ix2 n (0 : Fin 1) 0).val, (ix2 n (0 : Fin 1) 0).isLt⟩ : S8192.Idx) = ix1 n := by
  funext a; match a with | ⟨0, _⟩ => rfl

theorem start_span (hb : Below x2) (n : Fin 8192) : val_main_v487 (F := Ideal) x2 (ix2 n (0 : Fin 1)) = BitVec.ofNat 32 (stepAt x2 (rowN n)).val := by
  have e : idx_main_v487 (ix2 n (0 : Fin 1)) = ix1 n := col_idx n
  rw [val_main_v487_apply, e, val_main_v486_apply, val_main_v483_apply, val_main_v485_apply, val_main_v482_apply, val_main_v484_apply]
  exact wrap_step x2 hb n
theorem start_span' (hb : Below x2) (n : Fin 8192) : val_main_v496 (F := Ideal) x2 (ix2 n (0 : Fin 1)) = BitVec.ofNat 32 (stepAt x2 (rowN n)).val := by
  have e : idx_main_v496 (ix2 n (0 : Fin 1)) = ix1 n := col_idx n
  rw [val_main_v496_apply, e, val_main_v495_apply, val_main_v492_apply, val_main_v494_apply, val_main_v491_apply, val_main_v493_apply]
  exact wrap_step x2 hb n
theorem start_flag (hb : Below x2) (n : Fin 8192) : val_main_v746 (F := Ideal) x2 (ix2 n (0 : Fin 1)) = BitVec.ofNat 32 (stepAt x2 (rowN n)).val := by
  have e : idx_main_v746 (ix2 n (0 : Fin 1)) = ix1 n := col_idx n
  rw [val_main_v746_apply, e, val_main_v745_apply, val_main_v742_apply, val_main_v744_apply, val_main_v741_apply, val_main_v743_apply]
  exact wrap_step x2 hb n
theorem start_row (hb : Below x2) (n : Fin 8192) : val_main_v275 (F := Ideal) x2 (ix2 n (0 : Fin 1)) = BitVec.ofNat 32 (stepAt x2 (rowN n)).val := by
  have e : idx_main_v275 (ix2 n (0 : Fin 1)) = ix1 n := col_idx n
  rw [val_main_v275_apply, e, val_main_v269_apply, val_main_v266_apply, val_main_v268_apply, val_main_v265_apply, val_main_v267_apply]
  exact wrap_step x2 hb n
theorem start_row' (hb : Below x2) (n : Fin 8192) : val_main_v291 (F := Ideal) x2 (ix2 n (0 : Fin 1)) = BitVec.ofNat 32 (stepAt x2 (rowN n)).val := by
  have e : idx_main_v291 (ix2 n (0 : Fin 1)) = ix1 n := col_idx n
  rw [val_main_v291_apply, e, val_main_v285_apply, val_main_v282_apply, val_main_v284_apply, val_main_v281_apply, val_main_v283_apply]
  exact wrap_step x2 hb n
theorem start_bin (hn : ∀ j, (x0 j).toNat < 8191) (n : Fin 8192) : val_main_v276 (F := Ideal) x0 (ix2 n (0 : Fin 1)) = binN x0 n := by
  have e : idx_main_v276 (ix2 n (0 : Fin 1)) = ix1 n := col_idx n
  rw [val_main_v276_apply, e, val_main_v274_apply, val_main_v271_apply, val_main_v273_apply, val_main_v270_apply, val_main_v272_apply, flat_bin]
  exact bin_wrap _ _ (by have : (binN x0 n).toNat < 8191 := hn _; omega)
theorem start_bin' (hn : ∀ j, (x0 j).toNat < 8191) (n : Fin 8192) : val_main_v292 (F := Ideal) x0 (ix2 n (0 : Fin 1)) = binN x0 n + 1#32 := by
  have e : idx_main_v292 (ix2 n (0 : Fin 1)) = ix1 n := col_idx n
  rw [val_main_v292_apply, e, val_main_v290_apply, val_main_v287_apply, val_main_v289_apply, val_main_v286_apply, val_main_v288_apply, val_main_v280_apply, val_main_v279_apply, flat_bin]
  refine bin_wrap _ _ ?_
  have : (binN x0 n).toNat < 8191 := hn _
  show (binN x0 n + 1#32).toNat < _
  rw [BitVec.toNat_add]
  show ((binN x0 n).toNat + 1) % _ < _
  omega

/-- Two columns side by side. -/
theorem columns (a b : IVec S8192x1 32) (n : Fin 8192) (hc : Shape.Concatenates [S8192x1, S8192x1] S8192x2 1) :
    concatenate S8192x2 1 [⟨S8192x1, a⟩, ⟨S8192x1, b⟩] hc (ix2 n (0 : Fin 2)) = a (ix2 n (0 : Fin 1))
      ∧ concatenate S8192x2 1 [⟨S8192x1, a⟩, ⟨S8192x1, b⟩] hc (ix2 n (1 : Fin 2)) = b (ix2 n (0 : Fin 1)) := by
  refine ⟨?_, ?_⟩
  · concat_tiles i h
    · exact congrArg a (funext fun b => match b with | ⟨0, _⟩ => Fin.ext (by assumption) | ⟨1, _⟩ => Subsingleton.elim (α := Fin 1) _ _)
    · exact absurd h Nat.zero_ne_one
  · concat_tiles i h
    · exact absurd h Nat.one_ne_zero
    · exact congrArg b (funext fun b => match b with | ⟨0, _⟩ => Fin.ext (by assumption) | ⟨1, _⟩ => Subsingleton.elim (α := Fin 1) _ _)

/-- The two tables at a rotation's time step, and the grid at its bin and at the next. -/
theorem span_at (hb : Below x2) (n : Fin 8192) : val_main_v488 (F := Ideal) x2 x4 (ix1 n) = x4 (ix1 (stepAt x2 (rowN n))) := by
  unfold val_main_v488
  exact gather_take1 _ rfl rfl rfl rfl x4 _ n (stepAt x2 (rowN n)) (start_span x2 hb n) (by decide)
theorem span_at' (hb : Below x2) (n : Fin 8192) : val_main_v497 (F := Ideal) x2 x4 (ix1 n) = x4 (ix1 (stepAt x2 (rowN n))) := by
  unfold val_main_v497
  exact gather_take1 _ rfl rfl rfl rfl x4 _ n (stepAt x2 (rowN n)) (start_span' x2 hb n) (by decide)
theorem flag_at (hb : Below x2) (n : Fin 8192) : val_main_v747 (F := Ideal) x2 x5 (ix1 n) = x5 (ix1 (stepAt x2 (rowN n))) := by
  unfold val_main_v747
  exact gather_take1 _ rfl rfl rfl rfl x5 _ n (stepAt x2 (rowN n)) (start_flag x2 hb n) (by decide)

/-- The grid is even: entry `k` of each row is `k` steps. -/
def Even : Prop := ∀ (s : Fin 101) (k : Fin 8192), x3 (ix2 s k) = (((k.val : ℤ) : ℝ) : EReal) * fc 0x39C91623#32

theorem low_at (hb : Below x2) (hn : ∀ j, (x0 j).toNat < 8191) (hX : Even x3) (n : Fin 8192) :
    val_main_v278 (F := Ideal) x0 x2 x3 (ix1 n) = (((binN x0 n).toInt : ℝ) : EReal) * fc 0x39C91623#32 := by
  have h : (binN x0 n).toNat < 8191 := hn _
  unfold val_main_v278 val_main_v277
  refine (gather_two _ rfl rfl rfl rfl x3 _ n (stepAt x2 (rowN n)) ⟨(binN x0 n).toNat, by omega⟩ ((columns _ _ n _).1.trans (start_row x2 hb n))
    ((columns _ _ n _).2.trans ((start_bin x0 hn n).trans ?_)) (by decide) (by decide)).trans ((hX _ _).trans ?_)
  · rw [BitVec.ofNat_toNat, BitVec.setWidth_eq]
  · rw [BitVec.toInt_eq_toNat_of_lt (by omega)]
theorem high_at (hb : Below x2) (hn : ∀ j, (x0 j).toNat < 8191) (hX : Even x3) (n : Fin 8192) :
    val_main_v294 (F := Ideal) x0 x2 x3 (ix1 n) = ((((binN x0 n).toInt + 1 : ℤ) : ℝ) : EReal) * fc 0x39C91623#32 := by
  have h : (binN x0 n).toNat < 8191 := hn _
  unfold val_main_v294 val_main_v293
  refine (gather_two _ rfl rfl rfl rfl x3 _ n (stepAt x2 (rowN n)) ⟨(binN x0 n).toNat + 1, by omega⟩ ((columns _ _ n _).1.trans (start_row' x2 hb n))
    ((columns _ _ n _).2.trans ((start_bin' x0 hn n).trans ?_)) (by decide) (by decide)).trans ((hX _ _).trans ?_)
  · show _ = BitVec.ofNat 32 ((binN x0 n).toNat + 1)
    rw [BitVec.ofNat_add, BitVec.ofNat_toNat, BitVec.setWidth_eq]
  · rw [BitVec.toInt_eq_toNat_of_lt (by omega)]
    rfl

/-- The angle by the normal variate. -/
theorem wide_at (hb : Below x2) (n : Fin 8192) :
    val_main_v739 (F := Ideal) x2 x4 (ix1 n) = wideK (normalK (spreadK (wordOf key3 n.val))) (x4 (ix1 (stepAt x2 (rowN n)))) := by
  rw [val_main_v739_apply, val_main_v738_apply, val_main_v490_apply, val_main_v737_apply, val_main_v489_apply, span_at x2 x4 hb, span_at' x2 x4 hb, angle_at]
  rfl
theorem rem_at (hb : Below x2) (n : Fin 8192) :
    val_main_v740 (F := Ideal) x2 x4 (ix1 n) = remK (wideK (normalK (spreadK (wordOf key3 n.val))) (x4 (ix1 (stepAt x2 (rowN n))))) := by
  rw [val_main_v740_apply, val_main_call21_v10_apply, val_main_call21_v12_apply, val_main_call21_v9_apply, val_main_call21_v4_apply, val_main_call21_v6_apply,
    val_main_call21_v2_apply, val_main_call21_v8_apply, val_main_call21_v7_apply, val_main_call21_v1_apply, val_main_call21_v3_apply, val_main_call21_v5_apply, val_main_call21_v11_apply, wide_at x2 x4 hb]
  refine Eq.trans ?_ (rem_eq _ (wide_nonneg _ _))
  rfl

theorem theta_at (hb : Below x2) (hn : ∀ j, (x0 j).toNat < 8191) (hX : Even x3) (n : Fin 8192) :
    val_main_v748 (F := Ideal) x0 x2 x3 x4 x5 (ix1 n)
      = thetaOf n.val (((x5 (ix1 (stepAt x2 (rowN n)))).toNat : ℝ) : EReal) (x4 (ix1 (stepAt x2 (rowN n)))) (binN x0 n) := by
  rw [val_main_v748_apply, flag_at x2 x5 hb, rem_at x2 x4 hb, val_main_v481_apply, val_main_v480_apply, val_main_v295_apply, low_at x0 x2 x3 hb hn hX, high_at x0 x2 x3 hb hn hX, unit_at]
  unfold thetaOf thetaK
  rw [flag_eq]
  refine congrArg (Scalar.select _ _) ?_
  obtain ⟨w, hw⟩ := kpattern_shift key2 (IntOp.addi (BitVec.ofNat 32 n.val) key2.b)
  have e : wordOf key2 n.val = (w >>> 9) ||| 1065353216#32 := hw
  show _ + unitW (wordOf key2 n.val) * (_ - _) = _
  rw [e]
  exact bin_eq w _

end Angle

end Cert.Reference2Ideal.Read

end
-- ==== Proof.Ref2Shapes.lean ====
/- The changes of shape in the second reference, each read at an index: columns, matrix entries, joined pieces. -/
module

public import proofs.«01_k».proof.Proof.Ref2Theta
public import Idealize.ShloMosaic.Lib.Pipeline.Value

@[expose] public section

set_option maxRecDepth 16384

noncomputable section

namespace Cert.Reference2Ideal.Read

open Idealize.ShloMosaic Idealize.ShloMosaic.TcCoe Cert.Proof

section Shapes
variable {α : Type}

theorem two_idx (k : S32x256.Idx) (a : Fin 32) (b : Fin 256) (h0 : (k 0).val = a.val) (h1 : (k 1).val = b.val) : k = ix2 a b :=
  funext fun c => match c with | ⟨0, _⟩ => Fin.ext h0 | ⟨1, _⟩ => Fin.ext h1

/-- A plane of 64 by 128 numbers, from the rotations by row and column. -/
theorem tiled (x : S32x256.Idx → α) (h : S32x256.ShapeCasts S64x128) (i : S64x128.Idx) : shapeCast S64x128 x h i = x (ix2 (rowOf i) (colOf i)) := by
  refine shapeCast_apply _ _ _ _ ?_
  rw [Shape.rowMajor_val_two, Shape.rowMajor_val_two]
  show place i / 256 * 256 + place i % 256 = (i 0).val * 128 + (i 1).val
  simp only [place]; omega

/-- One coordinate of the vectors. -/
theorem coord (x : S32x256x3.Idx → α) (c : Fin 3) (hs : S32x256x3.Slices ![0, 0, c.val] S32x256x1) (h : S32x256x1.ShapeCasts S32x256) (a : Fin 32) (b : Fin 256) :
    shapeCast S32x256 (extractStridedSlice S32x256x1 ![0, 0, c.val] x hs) h (ix2 a b) = x (ix3 a b c) := by
  refine (shapeCast_apply _ _ _ (ix3 a b 0) ?_).trans ?_
  · rw [Shape.rowMajor_val_three, Shape.rowMajor_val_two]
    show (a.val * 256 + b.val) * 1 + 0 = a.val * 256 + b.val
    omega
  · exact congrArg x (funext fun k => match k with | ⟨0, _⟩ => Fin.ext (Nat.zero_add _) | ⟨1, _⟩ => Fin.ext (Nat.zero_add _) | ⟨2, _⟩ => rfl)

/-- One entry of the matrices. -/
theorem entry (x : S32x256x3x3.Idx → α) (p q : Fin 3) (hs : S32x256x3x3.Slices ![0, 0, p.val, q.val] S32x256x1x1) (h : S32x256x1x1.ShapeCasts S32x256) (a : Fin 32) (b : Fin 256) :
    shapeCast S32x256 (extractStridedSlice S32x256x1x1 ![0, 0, p.val, q.val] x hs) h (ix2 a b) = x (ix4 a b p q) := by
  refine (shapeCast_apply _ _ _ (ix4 a b 0 0) ?_).trans ?_
  · rw [Shape.rowMajor_val_four, Shape.rowMajor_val_two]
    show ((a.val * 256 + b.val) * 1 + 0) * 1 + 0 = a.val * 256 + b.val
    omega
  · exact congrArg x (funext fun k => match k with | ⟨0, _⟩ => Fin.ext (Nat.zero_add _) | ⟨1, _⟩ => Fin.ext (Nat.zero_add _) | ⟨2, _⟩ => rfl | ⟨3, _⟩ => rfl)

/-- A matrix of numbers as a column, and columns joined. -/
theorem raised (x : S32x256.Idx → α) (h : S32x256.BroadcastsInDim S32x256x1 ![0, 1]) (a : Fin 32) (b : Fin 256) :
    broadcastInDim S32x256x1 ![0, 1] h x (ix3 a b 0) = x (ix2 a b) :=
  broadcastInDim_apply _ _ _ (ix3 a b 0) (ix2 a b) fun k => match k with | ⟨0, _⟩ => rfl | ⟨1, _⟩ => rfl

theorem joined {N : Nat} (f : Fin N → (S32x256x1.Idx → α)) (h : Shape.Concatenates ((List.ofFn fun n : Fin N => (⟨S32x256x1, f n⟩ : (s : Shape) × (s.Idx → α))).map (·.1)) ⟨3, ![32, 256, N]⟩ 2)
    (a : Fin 32) (b : Fin 256) (k : Fin N) :
    concatenate ⟨3, ![32, 256, N]⟩ 2 (List.ofFn fun n : Fin N => (⟨S32x256x1, f n⟩ : (s : Shape) × (s.Idx → α))) h (ix3 a b k) = f k (ix3 a b (0 : Fin 1)) :=
  concatenate_ofFn_unit_apply (s₁ := S32x256x1) _ f h rfl rfl (ix3 a b k) k rfl (ix3 a b (0 : Fin 1)) fun c hc => match c with
    | ⟨0, _⟩ => rfl
    | ⟨1, _⟩ => rfl
    | ⟨2, _⟩ => absurd rfl hc

/-- Three columns joined. -/
theorem triple (P Q R : S32x256.Idx → α) (hb : S32x256.BroadcastsInDim S32x256x1 ![0, 1]) (h : Shape.Concatenates [S32x256x1, S32x256x1, S32x256x1] S32x256x3 2) (a : Fin 32) (b : Fin 256) (k : Fin 3) :
    concatenate S32x256x3 2 [⟨S32x256x1, broadcastInDim S32x256x1 ![0, 1] hb P⟩, ⟨S32x256x1, broadcastInDim S32x256x1 ![0, 1] hb Q⟩,
      ⟨S32x256x1, broadcastInDim S32x256x1 ![0, 1] hb R⟩] h (ix3 a b k) = (![P, Q, R] k) (ix2 a b) := by
  refine (joined ![broadcastInDim S32x256x1 ![0, 1] hb P, broadcastInDim S32x256x1 ![0, 1] hb Q, broadcastInDim S32x256x1 ![0, 1] hb R] h a b k).trans ?_
  match k with
  | ⟨0, _⟩ => exact raised P hb a b
  | ⟨1, _⟩ => exact raised Q hb a b
  | ⟨2, _⟩ => exact raised R hb a b
end Shapes

/-- The nine columns joined are the skew matrix. -/
theorem skew_entry (O X Y Z nX nY nZ : S32x256.Idx → EReal) (hb : S32x256.BroadcastsInDim S32x256x1 ![0, 1])
    (h : Shape.Concatenates [S32x256x1, S32x256x1, S32x256x1, S32x256x1, S32x256x1, S32x256x1, S32x256x1, S32x256x1, S32x256x1] S32x256x9 2) (hs : S32x256x9.ShapeCasts S32x256x3x3)
    (a : Fin 32) (b : Fin 256) (i j : Fin 3) (x y z : EReal) (hO : O (ix2 a b) = 0) (hX : X (ix2 a b) = x) (hY : Y (ix2 a b) = y) (hZ : Z (ix2 a b) = z)
    (hnX : nX (ix2 a b) = -x) (hnY : nY (ix2 a b) = -y) (hnZ : nZ (ix2 a b) = -z) :
    shapeCast S32x256x3x3 (concatenate S32x256x9 2 [⟨S32x256x1, broadcastInDim S32x256x1 ![0, 1] hb O⟩, ⟨S32x256x1, broadcastInDim S32x256x1 ![0, 1] hb Z⟩, ⟨S32x256x1, broadcastInDim S32x256x1 ![0, 1] hb nY⟩,
      ⟨S32x256x1, broadcastInDim S32x256x1 ![0, 1] hb nZ⟩, ⟨S32x256x1, broadcastInDim S32x256x1 ![0, 1] hb O⟩, ⟨S32x256x1, broadcastInDim S32x256x1 ![0, 1] hb X⟩, ⟨S32x256x1, broadcastInDim S32x256x1 ![0, 1] hb Y⟩,
      ⟨S32x256x1, broadcastInDim S32x256x1 ![0, 1] hb nX⟩, ⟨S32x256x1, broadcastInDim S32x256x1 ![0, 1] hb O⟩] h) hs (ix4 a b i j) = skew x y z i j := by
  refine (shapeCast_apply _ _ _ (ix3 a b (⟨i.val * 3 + j.val, by omega⟩ : Fin 9)) ?_).trans ?_
  · rw [Shape.rowMajor_val_three, Shape.rowMajor_val_four]
    show (a.val * 256 + b.val) * 9 + (i.val * 3 + j.val) = ((a.val * 256 + b.val) * 3 + i.val) * 3 + j.val
    omega
  · refine (joined ![broadcastInDim S32x256x1 ![0, 1] hb O, broadcastInDim S32x256x1 ![0, 1] hb Z, broadcastInDim S32x256x1 ![0, 1] hb nY, broadcastInDim S32x256x1 ![0, 1] hb nZ, broadcastInDim S32x256x1 ![0, 1] hb O,
      broadcastInDim S32x256x1 ![0, 1] hb X, broadcastInDim S32x256x1 ![0, 1] hb Y, broadcastInDim S32x256x1 ![0, 1] hb nX, broadcastInDim S32x256x1 ![0, 1] hb O] h a b _).trans ?_
    match i, j with
    | ⟨0, _⟩, ⟨0, _⟩ => exact (raised O hb a b).trans hO
    | ⟨0, _⟩, ⟨1, _⟩ => exact (raised Z hb a b).trans hZ
    | ⟨0, _⟩, ⟨2, _⟩ => exact (raised nY hb a b).trans hnY
    | ⟨1, _⟩, ⟨0, _⟩ => exact (raised nZ hb a b).trans hnZ
    | ⟨1, _⟩, ⟨1, _⟩ => exact (raised O hb a b).trans hO
    | ⟨1, _⟩, ⟨2, _⟩ => exact (raised X hb a b).trans hX
    | ⟨2, _⟩, ⟨0, _⟩ => exact (raised Y hb a b).trans hY
    | ⟨2, _⟩, ⟨1, _⟩ => exact (raised nX hb a b).trans hnX
    | ⟨2, _⟩, ⟨2, _⟩ => exact (raised O hb a b).trans hO

/-- The identity matrix. -/
theorem eye_bit (i j : Fin 3) : IntOp.cmpi .eq (IntOp.addi (BitVec.ofNat 32 i.val) 0#32) (BitVec.ofNat 32 j.val) = if i = j then 1#1 else 0#1 := by
  revert i j; decide
theorem eye_entry (i j : Fin 3) : (FloatOps.uitofp .f32 (IntOp.cmpi .eq (IntOp.addi (BitVec.ofNat 32 i.val) 0#32) (BitVec.ofNat 32 j.val)) : Ideal .f32) = if i = j then 1 else 0 := by
  rw [eye_bit]
  by_cases h : i = j
  · rw [if_pos h, if_pos h]
    show (((1#1 : BitVec 1).toNat : ℝ) : EReal) = 1
    simp
  · rw [if_neg h, if_neg h]
    show (((0#1 : BitVec 1).toNat : ℝ) : EReal) = 0
    simp

/-- The length by the sum of the squares from zero. -/
theorem len_sum (f : Fin 3 → EReal) : Ideal.sqrt (fc 0x00000000#32 + ∑ k : Fin 3, f k * f k) = len (f 0) (f 1) (f 2) := by
  rw [Fin.sum_univ_three, show fc 0x00000000#32 = 0 from Ideal.ofBits_zero_f32, zero_add]
  rfl

section Drawn
variable (x0 : S128x64x1.Idx → BitVec 32) (x2 : S32.Idx → BitVec 32) (x3 : S101x8192.Idx → EReal) (x4 : S101.Idx → EReal) (x5 : S101.Idx → BitVec 1)

theorem number (i : Plane.Idx) : (rowOf i).val * 256 + (colOf i).val = place i := by
  show place i / 256 * 256 + place i % 256 = place i
  omega

theorem axis_len (a : Fin 32) (b : Fin 256) (c : Fin 3) : val_main_v261 (F := Ideal) (ix3 a b c)
    = len (axisOf (a.val * 256 + b.val) 0) (axisOf (a.val * 256 + b.val) 1) (axisOf (a.val * 256 + b.val) 2) + fc 0x2B8CBCCC#32 := by
  have e : idx_main_call10_v2 (idx_main_v261 (ix3 a b c)) = ix2 a b := two_idx _ _ _ rfl rfl
  rw [val_main_v261_apply, val_main_v260_apply, val_main_v258_apply, val_main_v259_apply, val_main_call10_v2_apply, e, val_main_call10_v1_apply]
  refine congrArg (· + fc 0x2B8CBCCC#32) ((congrArg Ideal.sqrt (congrArg (fc 0x00000000#32 + ·) (Finset.sum_congr rfl fun k _ => ?_))).trans
    (len_sum fun k => axisOf (a.val * 256 + b.val) k.val))
  rw [val_main_call10_v0_apply, axis_at]
  rfl

theorem drawn_at (hb : Below x2) (hn : ∀ j, (x0 j).toNat < 8191) (hX : Even x3) (i : Plane.Idx) (c : Fin 3) :
    val_main_v752 (F := Ideal) x0 x2 x3 x4 x5 (ix3 (rowOf i) (colOf i) c) = drawnPlane x0 x2 x4 x5 c.val i := by
  have e : idx_main_v749 (idx_main_v750 (idx_main_v751 (ix3 (rowOf i) (colOf i) c))) = ix1 (⟨place i, place_lt i⟩ : Fin 8192) :=
    funext fun k => match k with | ⟨0, _⟩ => Fin.ext (number i)
  rw [val_main_v752_apply, val_main_v751_apply, val_main_v750_apply, val_main_v749_apply, e, theta_at x0 x2 x3 x4 x5 hb hn hX, val_main_v262_apply, axis_len, axis_at]
  show Ideal.div (axisOf ((rowOf i).val * 256 + (colOf i).val) c.val) (len (axisOf ((rowOf i).val * 256 + (colOf i).val) 0) (axisOf ((rowOf i).val * 256 + (colOf i).val) 1) (axisOf ((rowOf i).val * 256 + (colOf i).val) 2) + _) * _ = _
  rw [number]
  rfl

theorem out_e0 (hb : Below x2) (hn : ∀ j, (x0 j).toNat < 8191) (hX : Even x3) : val_main_v966 (F := Ideal) x0 x2 x3 x4 x5 = drawnPlane x0 x2 x4 x5 0 :=
  funext fun i => by
    unfold val_main_v966 val_main_v965 val_main_v964
    exact (tiled _ _ i).trans ((coord _ 0 _ _ _ _).trans (drawn_at x0 x2 x3 x4 x5 hb hn hX i 0))
theorem out_e1 (hb : Below x2) (hn : ∀ j, (x0 j).toNat < 8191) (hX : Even x3) : val_main_v969 (F := Ideal) x0 x2 x3 x4 x5 = drawnPlane x0 x2 x4 x5 1 :=
  funext fun i => by
    unfold val_main_v969 val_main_v968 val_main_v967
    exact (tiled _ _ i).trans ((coord _ 1 _ _ _ _).trans (drawn_at x0 x2 x3 x4 x5 hb hn hX i 1))
theorem out_e2 (hb : Below x2) (hn : ∀ j, (x0 j).toNat < 8191) (hX : Even x3) : val_main_v972 (F := Ideal) x0 x2 x3 x4 x5 = drawnPlane x0 x2 x4 x5 2 :=
  funext fun i => by
    unfold val_main_v972 val_main_v971 val_main_v970
    exact (tiled _ _ i).trans ((coord _ 2 _ _ _ _).trans (drawn_at x0 x2 x3 x4 x5 hb hn hX i 2))
end Drawn

end Cert.Reference2Ideal.Read

end
-- ==== Proof.Ref2Rotation.lean ====
/- The rotations, their product and its vector in the second reference. -/
module

public import proofs.«01_k».proof.Proof.Ref2Shapes

@[expose] public section

set_option maxRecDepth 16384

noncomputable section

namespace Cert.Reference2Ideal.Read

open Idealize.ShloMosaic Idealize.ShloMosaic.TcCoe Cert.Proof Cert.Reference2Ideal.Facts Cert.Reference2Ideal.Gen

/-- The three entries of the skew matrix that the length is taken of, and the rotation matrix from its parts. -/
theorem skew_triple (x y z : EReal) (P Q R : S32x256.Idx → EReal) (a : Fin 32) (b : Fin 256) (hP : P (ix2 a b) = skew x y z 1 2) (hQ : Q (ix2 a b) = skew x y z 2 0)
    (hR : R (ix2 a b) = skew x y z 0 1) (k : Fin 3) : (![P, Q, R] k) (ix2 a b) = ![x, y, z] k :=
  match k with | ⟨0, _⟩ => hP | ⟨1, _⟩ => hQ | ⟨2, _⟩ => hR

theorem rot_parts (x y z n : EReal) (hn : n = len x y z) (i j : Fin 3) (S : Fin 3 → Fin 3 → EReal) (hS : ∀ i j, S i j = skew x y z i j) :
    ((if i = j then 1 else 0) + fsin n * S i j) + fcos n * (∑ k : Fin 3, S i k * S k j) = rotOf x y z i j := by
  obtain rfl : S = skew x y z := funext fun i => funext fun j => hS i j
  subst hn
  rw [Fin.sum_univ_three]
  exact rot_eq _ _ x y z i j

section Arrays
variable {F : FTy → Type} [FloatOps F]

/-- The skew matrices of vectors by their coordinates, the vectors' lengths read from them, and the rotation matrices, in any arithmetic. -/
abbrev up (x : S32x256.Idx → F .f32) : S32x256x1.Idx → F .f32 := broadcastInDim S32x256x1 ![0, 1] bcast_S32x256_S32x256x1_0_1 x
abbrev all (b : BitVec 32) : S32x256.Idx → F .f32 := broadcastInDim S32x256 ![] bcast_S_S32x256 (constant S_ .f32 b)
def skewArr (X Y Z : S32x256.Idx → F .f32) : S32x256x3x3.Idx → F .f32 :=
  shapeCast S32x256x3x3 (concatenate S32x256x9 2 [⟨S32x256x1, up (all 0x00000000#32)⟩, ⟨S32x256x1, up Z⟩, ⟨S32x256x1, up (Host.negf Y)⟩, ⟨S32x256x1, up (Host.negf Z)⟩, ⟨S32x256x1, up (all 0x00000000#32)⟩, ⟨S32x256x1, up X⟩,
    ⟨S32x256x1, up Y⟩, ⟨S32x256x1, up (Host.negf X)⟩, ⟨S32x256x1, up (all 0x00000000#32)⟩]
    concatenates_S32x256x1_S32x256x1_S32x256x1_S32x256x1_S32x256x1_S32x256x1_S32x256x1_S32x256x1_S32x256x1_S32x256x9_d2) shapeCasts_S32x256x9_S32x256x3x3
def vecArr (S : S32x256x3x3.Idx → F .f32) : S32x256x3.Idx → F .f32 :=
  concatenate S32x256x3 2 [⟨S32x256x1, up (shapeCast S32x256 (extractStridedSlice S32x256x1x1 ![0, 0, 1, 2] S slices_S32x256x3x3_S32x256x1x1_0_0_1_2) shapeCasts_S32x256x1x1_S32x256)⟩,
    ⟨S32x256x1, up (shapeCast S32x256 (extractStridedSlice S32x256x1x1 ![0, 0, 2, 0] S slices_S32x256x3x3_S32x256x1x1_0_0_2_0) shapeCasts_S32x256x1x1_S32x256)⟩,
    ⟨S32x256x1, up (shapeCast S32x256 (extractStridedSlice S32x256x1x1 ![0, 0, 0, 1] S slices_S32x256x3x3_S32x256x1x1_0_0_0_1) shapeCasts_S32x256x1x1_S32x256)⟩]
    concatenates_S32x256x1_S32x256x1_S32x256x1_S32x256x3_d2
def lenArr (V : S32x256x3.Idx → F .f32) : S32x256.Idx → F .f32 := Host.sqrt (Host.reduceAdd (mulf V V) (constant S_ .f32 0x00000000#32) reducesTo_S32x256x3_S32x256_d2 h_S_)
def sinArr (n : S32x256.Idx → F .f32) : S32x256.Idx → F .f32 := Host.divf (addf (Host.sin n) (all 0x322BCC77#32)) (addf n (all 0x322BCC77#32))
def cosArr (n : S32x256.Idx → F .f32) : S32x256.Idx → F .f32 :=
  Host.divf (addf (subf (all 0x3F800000#32) (Host.cos n)) (all 0x322BCC77#32)) (addf (mulf n n) (all 0x32ABCC77#32))
abbrev wide (x : S32x256.Idx → F .f32) : S32x256x3x3.Idx → F .f32 :=
  broadcastInDim S32x256x3x3 ![0, 1, 2, 3] bcast_S32x256x1x1_S32x256x3x3_0_1_2_3 (broadcastInDim S32x256x1x1 ![0, 1] bcast_S32x256_S32x256x1x1_0_1 x)
def turnArr (S : S32x256x3x3.Idx → F .f32) (n : S32x256.Idx → F .f32) : S32x256x3x3.Idx → F .f32 :=
  addf (addf (val_main_v811 (F := F)) (mulf (wide (sinArr n)) S)) (mulf (wide (cosArr n)) (Host.dotGeneral dot_S32x256x3x3_S32x256x3x3_S32x256x3x3_3_2_2_3_01_01 none S S))
def coordsArr (W : S32x256x3.Idx → F .f32) : S32x256x3x3.Idx → F .f32 :=
  skewArr (shapeCast S32x256 (extractStridedSlice S32x256x1 ![0, 0, 0] W slices_S32x256x3_S32x256x1_0_0_0) shapeCasts_S32x256x1_S32x256)
    (shapeCast S32x256 (extractStridedSlice S32x256x1 ![0, 0, 1] W slices_S32x256x3_S32x256x1_0_0_1) shapeCasts_S32x256x1_S32x256)
    (shapeCast S32x256 (extractStridedSlice S32x256x1 ![0, 0, 2] W slices_S32x256x3_S32x256x1_0_0_2) shapeCasts_S32x256x1_S32x256)
def rotArr (W : S32x256x3.Idx → F .f32) : S32x256x3x3.Idx → F .f32 := turnArr (coordsArr W) (lenArr (vecArr (coordsArr W)))

/-- The two arrays of rotation matrices are made so: of the drawn vectors and of the given ones. -/
theorem drawn_arr (x0 : S128x64x1.Idx → BitVec 32) (x2 : S32.Idx → BitVec 32) (x3 : S101x8192.Idx → F .f32) (x4 : S101.Idx → F .f32) (x5 : S101.Idx → BitVec 1) :
    val_main_v816 (F := F) x0 x2 x3 x4 x5 = rotArr (val_main_v752 (F := F) x0 x2 x3 x4 x5) := rfl
theorem given_arr (x1 : S32x256x3.Idx → F .f32) (x2 : S32.Idx → BitVec 32) (x6 : S101.Idx → F .f32) :
    val_main_v882 (F := F) x1 x2 x6 = rotArr (val_main_v818 (F := F) x1 x2 x6) := rfl
end Arrays

section Rotation
variable (W : S32x256x3.Idx → EReal) (S : S32x256x3x3.Idx → EReal) (a : Fin 32) (b : Fin 256) (x y z : EReal)

theorem coords_at (hx : W (ix3 a b 0) = x) (hy : W (ix3 a b 1) = y) (hz : W (ix3 a b 2) = z) (i j : Fin 3) : coordsArr (F := Ideal) W (ix4 a b i j) = skew x y z i j := by
  have ex := (coord W 0 slices_S32x256x3_S32x256x1_0_0_0 shapeCasts_S32x256x1_S32x256 a b).trans hx
  have ey := (coord W 1 slices_S32x256x3_S32x256x1_0_0_1 shapeCasts_S32x256x1_S32x256 a b).trans hy
  have ez := (coord W 2 slices_S32x256x3_S32x256x1_0_0_2 shapeCasts_S32x256x1_S32x256 a b).trans hz
  unfold coordsArr skewArr
  exact skew_entry _ _ _ _ _ _ _ _ _ _ a b i j x y z Ideal.ofBits_zero_f32 ex ey ez (congrArg (fun t : EReal => -t) ex) (congrArg (fun t : EReal => -t) ey) (congrArg (fun t : EReal => -t) ez)

theorem len_at (hS : ∀ i j, S (ix4 a b i j) = skew x y z i j) : lenArr (F := Ideal) (vecArr (F := Ideal) S) (ix2 a b) = len x y z := by
  have h : ∀ k : Fin 3, vecArr (F := Ideal) S (ix3 a b k) = ![x, y, z] k := fun k =>
    (triple _ _ _ _ _ a b k).trans (skew_triple x y z _ _ _ a b ((entry _ 1 2 _ _ a b).trans (hS 1 2)) ((entry _ 2 0 _ _ a b).trans (hS 2 0)) ((entry _ 0 1 _ _ a b).trans (hS 0 1)) k)
  generalize vecArr (F := Ideal) S = V at h
  have e : Host.reduceAdd (F := Ideal) (mulf V V) (constant S_ .f32 0x00000000#32) reducesTo_S32x256x3_S32x256_d2 h_S_ (ix2 a b) = fc 0x00000000#32 + ∑ k : Fin 3, V (ix3 a b k) * V (ix3 a b k) := by
    simp only [Host.reduceAdd, Ideal.hostReduceAdd_def]
    rw [Ideal.hostReduceAdd_single reducesTo_S32x256x3_S32x256_d2 (by decide)]
    refine congrArg (_ + ·) (Finset.sum_congr rfl fun k _ => ?_)
    exact congrArg (fun j => V j * V j) (funext fun c => Fin.ext (by match c with | ⟨0, _⟩ => rfl | ⟨1, _⟩ => rfl | ⟨2, _⟩ => rfl))
  refine (congrArg Ideal.sqrt (e.trans (congrArg (fc 0x00000000#32 + ·) (Finset.sum_congr rfl fun k _ => ?_)))).trans (len_sum ![x, y, z])
  rw [h]

theorem square_at (i j : Fin 3) : Host.dotGeneral (F := Ideal) (φ₁ := .f32) (φ₂ := .f32) dot_S32x256x3x3_S32x256x3x3_S32x256x3x3_3_2_2_3_01_01 none S S (ix4 a b i j) = ∑ k : Fin 3, S (ix4 a b i k) * S (ix4 a b k j) := by
  simp only [Host.dotGeneral]
  rw [Ideal.dotGeneral_apply, ← Equiv.sum_comp (ValueIdx.contrEquiv1 dot_S32x256x3x3_S32x256x3x3_S32x256x3x3_3_2_2_3_01_01 3 rfl rfl).symm]
  refine Finset.sum_congr rfl fun k _ => ?_
  have hk := ValueIdx.contrEquiv1_symm_val dot_S32x256x3x3_S32x256x3x3_S32x256x3x3_3_2_2_3_01_01 3 rfl rfl k
  refine congrArg₂ (· * ·) (congrArg S (funext fun c => Fin.ext ?_)) (congrArg S (funext fun c => Fin.ext ?_))
  · match c with
    | ⟨0, _⟩ => exact lhs_main_v806_0 _ _
    | ⟨1, _⟩ => exact lhs_main_v806_1 _ _
    | ⟨2, _⟩ => exact lhs_main_v806_2 _ _
    | ⟨3, _⟩ => exact (lhs_main_v806_3 _ _).trans hk
  · match c with
    | ⟨0, _⟩ => exact rhs_main_v806_0 _ _
    | ⟨1, _⟩ => exact rhs_main_v806_1 _ _
    | ⟨2, _⟩ => exact (rhs_main_v806_2 _ _).trans hk
    | ⟨3, _⟩ => exact rhs_main_v806_3 _ _

theorem spread_at (n : S32x256.Idx → EReal) (i j : Fin 3) : wide (F := Ideal) n (ix4 a b i j) = n (ix2 a b) :=
  (broadcastInDim_apply _ _ _ (ix4 a b i j) (ix4 a b (0 : Fin 1) (0 : Fin 1)) fun c => match c with | ⟨0, _⟩ => rfl | ⟨1, _⟩ => rfl | ⟨2, _⟩ => rfl | ⟨3, _⟩ => rfl).trans
    (broadcastInDim_apply _ _ _ _ (ix2 a b) fun c => match c with | ⟨0, _⟩ => rfl | ⟨1, _⟩ => rfl)

theorem eye_at (i j : Fin 3) : val_main_v811 (F := Ideal) (ix4 a b i j) = if i = j then 1 else 0 := by
  have e : idx_main_v810 (idx_main_v811 (ix4 a b i j)) = ix2 i j := funext fun c => match c with | ⟨0, _⟩ => rfl | ⟨1, _⟩ => rfl
  rw [val_main_v811_apply, val_main_v810_apply, e, val_main_v790_apply, val_main_v789_apply, val_main_v788_apply, val_main_v787_apply]
  exact eye_entry i j

theorem rot_at (hx : W (ix3 a b 0) = x) (hy : W (ix3 a b 1) = y) (hz : W (ix3 a b 2) = z) (i j : Fin 3) : rotArr (F := Ideal) W (ix4 a b i j) = rotOf x y z i j := by
  have hS := coords_at W a b x y z hx hy hz
  have hn := len_at _ a b x y z hS
  unfold rotArr
  generalize coordsArr (F := Ideal) W = S at hS hn
  generalize lenArr (F := Ideal) (vecArr (F := Ideal) S) = n at hn
  refine Eq.trans ?_ (rot_parts x y z (n (ix2 a b)) hn i j (fun i j => S (ix4 a b i j)) hS)
  refine congrArg₂ (· + ·) (congrArg₂ (· + ·) (eye_at a b i j) (congrArg (· * S (ix4 a b i j)) (spread_at a b _ i j))) (congrArg₂ (· * ·) (spread_at a b _ i j) (square_at S a b i j))
end Rotation

/-- The given rotation's vector, scaled. -/
theorem scale_at (x2 : S32.Idx → BitVec 32) (x6 : S101.Idx → EReal) (hb : Below x2) (w : Fin 32) : val_main_v6 (F := Ideal) x2 x6 (ix1 w) = x6 (ix1 (stepAt x2 w)) := by
  have e : idx_main_v5 (ix2 w (0 : Fin 1)) = ix1 w := funext fun k => match k with | ⟨0, _⟩ => rfl
  unfold val_main_v6
  refine Routing.gather_take1 _ rfl rfl rfl rfl x6 _ w (stepAt x2 w) ?_ (by decide)
  show val_main_v5 (F := Ideal) x2 (ix2 w (0 : Fin 1)) = _
  rw [val_main_v5_apply, e, val_main_v4_apply, val_main_v1_apply, val_main_v3_apply, val_main_v0_apply, val_main_v2_apply]
  exact (wrap_eq _ (hb _)).trans (step_word x2 hb w).symm

theorem scaled_at (x1 : S32x256x3.Idx → EReal) (x2 : S32.Idx → BitVec 32) (x6 : S101.Idx → EReal) (hb : Below x2) (a : Fin 32) (b : Fin 256) (c : Fin 3) :
    val_main_v818 (F := Ideal) x1 x2 x6 (ix3 a b c) = Ideal.sqrt (x6 (ix1 (stepAt x2 a))) * x1 (ix3 a b c) := by
  have e : idx_main_v8 (idx_main_v817 (ix3 a b c)) = ix1 a := funext fun k => match k with | ⟨0, _⟩ => Fin.ext (by show (a.val * 1 + 0) * 1 + 0 = a.val; omega)
  rw [val_main_v818_apply, val_main_v817_apply, val_main_v8_apply, e, val_main_v7_apply, scale_at x2 x6 hb]
  rfl

section Vector
variable {F : FTy → Type} [FloatOps F]

/-- The cosine of the angle of a matrix with the given diagonal, and the factor of its vector, in any arithmetic. -/
def hcosF (p q r : F .f32) : F .f32 :=
  FloatOps.minimumf (FloatOps.ofBits .f32 0x3F800000#32) (FloatOps.maximumf (FloatOps.ofBits .f32 0xBF7FBE77#32)
    (FloatOps.hostDivf (FloatOps.subf (FloatOps.addf (FloatOps.addf p q) r) (FloatOps.ofBits .f32 0x3F800000#32)) (FloatOps.ofBits .f32 0x40000000#32)))
def harcF (a : F .f32) : F .f32 :=
  FloatOps.mulf (FloatOps.hostUnary .sqrt (FloatOps.subf (FloatOps.ofBits .f32 0x3F800000#32) a))
  (FloatOps.addf (FloatOps.mulf (FloatOps.addf (FloatOps.mulf (FloatOps.addf (FloatOps.mulf (FloatOps.addf (FloatOps.mulf (FloatOps.addf (FloatOps.mulf (FloatOps.addf (FloatOps.mulf
    (FloatOps.addf (FloatOps.mulf (FloatOps.ofBits .f32 0xBAA57A2C#32) a) (FloatOps.ofBits .f32 0x3BDA90C5#32)) a) (FloatOps.ofBits .f32 0xBC8BFC66#32)) a) (FloatOps.ofBits .f32 0x3CFD10F8#32)) a)
    (FloatOps.ofBits .f32 0xBD4D8392#32)) a) (FloatOps.ofBits .f32 0x3DB63A9E#32)) a) (FloatOps.ofBits .f32 0xBE5BBFCA#32)) a) (FloatOps.ofBits .f32 0x3FC90FDA#32))
def hangleF (x : F .f32) : F .f32 :=
  Scalar.select (FloatOps.cmpf .olt x (FloatOps.ofBits .f32 0x00000000#32)) (FloatOps.subf (FloatOps.ofBits .f32 0x40490FDB#32) (harcF (FloatOps.hostAbsf x))) (harcF (FloatOps.hostAbsf x))
def hcoefF (x : F .f32) : F .f32 :=
  FloatOps.hostDivf (FloatOps.addf (hangleF x) (FloatOps.ofBits .f32 0x322BCC77#32))
    (FloatOps.addf (FloatOps.mulf (FloatOps.ofBits .f32 0x40000000#32) (FloatOps.hostUnary .sqrt (FloatOps.subf (FloatOps.ofBits .f32 0x3F800000#32) (FloatOps.mulf x x)))) (FloatOps.ofBits .f32 0x32ABCC77#32))

variable (x0 : S128x64x1.Idx → BitVec 32) (x1 : S32x256x3.Idx → F .f32) (x2 : S32.Idx → BitVec 32) (x3 : S101x8192.Idx → F .f32) (x4 : S101.Idx → F .f32) (x5 : S101.Idx → BitVec 1) (x6 : S101.Idx → F .f32)

theorem cos_word (j : S32x256.Idx) : val_main_v896 (F := F) x0 x1 x2 x3 x4 x5 x6 j
    = hcosF (val_main_v885 (F := F) x0 x1 x2 x3 x4 x5 x6 j) (val_main_v887 (F := F) x0 x1 x2 x3 x4 x5 x6 j) (val_main_v890 (F := F) x0 x1 x2 x3 x4 x5 x6 j) := by sl_kernel_rfl
theorem coef_word (j : S32x256.Idx) : val_main_v939 (F := F) x0 x1 x2 x3 x4 x5 x6 j = hcoefF (val_main_v896 (F := F) x0 x1 x2 x3 x4 x5 x6 j) := by sl_kernel_rfl
end Vector

theorem hcos_ideal (M : Fin 3 → Fin 3 → EReal) : hcosF (F := Ideal) (M 0 0) (M 1 1) (M 2 2) = cosOf M := rfl
theorem hcoef_ideal (x : EReal) : hcoefF (F := Ideal) x = coefOf (arcR x) x := rfl

section Result
variable (x0 : S128x64x1.Idx → BitVec 32) (x1 : S32x256x3.Idx → EReal) (x2 : S32.Idx → BitVec 32) (x3 : S101x8192.Idx → EReal) (x4 : S101.Idx → EReal) (x5 : S101.Idx → BitVec 1) (x6 : S101.Idx → EReal)

/-- An entry of the matrix that the vector is read from. -/
theorem log_at (a : Fin 32) (b : Fin 256) (M : Fin 3 → Fin 3 → EReal) (hM : ∀ i j, val_main_v883 (F := Ideal) x0 x1 x2 x3 x4 x5 x6 (ix4 a b i j) = M i j) (p q : Fin 3) :
    val_main_v944 (F := Ideal) x0 x1 x2 x3 x4 x5 x6 (ix4 a b p q) = logOf M p q := by
  have e1 : idx_main_v940 (idx_main_v943 (ix4 a b p q)) = ix2 a b := two_idx _ _ _ rfl rfl
  have e2 : idx_main_v941 (ix4 a b p q) = ix4 a b q p := funext fun c => match c with | ⟨0, _⟩ => rfl | ⟨1, _⟩ => rfl | ⟨2, _⟩ => rfl | ⟨3, _⟩ => rfl
  have d0 : val_main_v885 (F := Ideal) x0 x1 x2 x3 x4 x5 x6 (ix2 a b) = M 0 0 := by unfold val_main_v885 val_main_v884; exact (entry _ 0 0 _ _ a b).trans (hM 0 0)
  have d1 : val_main_v887 (F := Ideal) x0 x1 x2 x3 x4 x5 x6 (ix2 a b) = M 1 1 := by unfold val_main_v887 val_main_v886; exact (entry _ 1 1 _ _ a b).trans (hM 1 1)
  have d2 : val_main_v890 (F := Ideal) x0 x1 x2 x3 x4 x5 x6 (ix2 a b) = M 2 2 := by unfold val_main_v890 val_main_v889; exact (entry _ 2 2 _ _ a b).trans (hM 2 2)
  rw [val_main_v944_apply, val_main_v943_apply, val_main_v940_apply, val_main_v942_apply, val_main_v941_apply, e1, e2, hM, hM, coef_word, cos_word, d0, d1, d2, hcos_ideal, hcoef_ideal,
    arc_eq _ (cosOf_bounds M).1 (cosOf_bounds M).2]
  rfl

theorem product_at (hb : Below x2) (hn : ∀ j, (x0 j).toNat < 8191) (hX : Even x3) (i : Plane.Idx) (p q : Fin 3) :
    val_main_v944 (F := Ideal) x0 x1 x2 x3 x4 x5 x6 (ix4 (rowOf i) (colOf i) p q) = vecPlane x0 x1 x2 x4 x5 x6 p q i := by
  refine log_at x0 x1 x2 x3 x4 x5 x6 (rowOf i) (colOf i) _ (fun r s => ?_) p q
  have el : ∀ k, lidx_main_v883 (ix4 (rowOf i) (colOf i) r s) k = ix4 (rowOf i) (colOf i) r k := fun k => funext fun c => match c with | ⟨0, _⟩ => rfl | ⟨1, _⟩ => rfl | ⟨2, _⟩ => rfl | ⟨3, _⟩ => rfl
  have er : ∀ k, ridx_main_v883 (ix4 (rowOf i) (colOf i) r s) k = ix4 (rowOf i) (colOf i) k s := fun k => funext fun c => match c with | ⟨0, _⟩ => rfl | ⟨1, _⟩ => rfl | ⟨2, _⟩ => rfl | ⟨3, _⟩ => rfl
  have hd := drawn_at x0 x2 x3 x4 x5 hb hn hX i
  have hg := scaled_at x1 x2 x6 hb (rowOf i) (colOf i)
  rw [val_main_v883_apply, Fin.sum_univ_three, drawn_arr, given_arr]
  simp only [el, er, rot_at _ _ _ _ _ _ (hd 0) (hd 1) (hd 2), rot_at _ _ _ _ _ _ (hg 0) (hg 1) (hg 2)]
  rfl

theorem vector_at (hb : Below x2) (hn : ∀ j, (x0 j).toNat < 8191) (hX : Even x3) (i : Plane.Idx) (k : Fin 3) :
    val_main_v954 (F := Ideal) x0 x1 x2 x3 x4 x5 x6 (ix3 (rowOf i) (colOf i) k)
      = ![vecPlane x0 x1 x2 x4 x5 x6 1 2 i, vecPlane x0 x1 x2 x4 x5 x6 2 0 i, vecPlane x0 x1 x2 x4 x5 x6 0 1 i] k := by
  have h := product_at x0 x1 x2 x3 x4 x5 x6 hb hn hX i
  unfold val_main_v954 val_main_v951 val_main_v952 val_main_v953
  refine (triple _ _ _ _ _ (rowOf i) (colOf i) k).trans ?_
  match k with
  | ⟨0, _⟩ => show val_main_v946 (F := Ideal) x0 x1 x2 x3 x4 x5 x6 _ = _; unfold val_main_v946 val_main_v945; exact (entry _ 1 2 _ _ _ _).trans (h 1 2)
  | ⟨1, _⟩ => show val_main_v948 (F := Ideal) x0 x1 x2 x3 x4 x5 x6 _ = _; unfold val_main_v948 val_main_v947; exact (entry _ 2 0 _ _ _ _).trans (h 2 0)
  | ⟨2, _⟩ => show val_main_v950 (F := Ideal) x0 x1 x2 x3 x4 x5 x6 _ = _; unfold val_main_v950 val_main_v949; exact (entry _ 0 1 _ _ _ _).trans (h 0 1)

theorem out_v0 (hb : Below x2) (hn : ∀ j, (x0 j).toNat < 8191) (hX : Even x3) : val_main_v957 (F := Ideal) x0 x1 x2 x3 x4 x5 x6 = vecPlane x0 x1 x2 x4 x5 x6 1 2 :=
  funext fun i => by
    unfold val_main_v957 val_main_v956 val_main_v955
    exact (tiled _ _ i).trans ((coord _ 0 _ _ _ _).trans (vector_at x0 x1 x2 x3 x4 x5 x6 hb hn hX i 0))
theorem out_v1 (hb : Below x2) (hn : ∀ j, (x0 j).toNat < 8191) (hX : Even x3) : val_main_v960 (F := Ideal) x0 x1 x2 x3 x4 x5 x6 = vecPlane x0 x1 x2 x4 x5 x6 2 0 :=
  funext fun i => by
    unfold val_main_v960 val_main_v959 val_main_v958
    exact (tiled _ _ i).trans ((coord _ 1 _ _ _ _).trans (vector_at x0 x1 x2 x3 x4 x5 x6 hb hn hX i 1))
theorem out_v2 (hb : Below x2) (hn : ∀ j, (x0 j).toNat < 8191) (hX : Even x3) : val_main_v963 (F := Ideal) x0 x1 x2 x3 x4 x5 x6 = vecPlane x0 x1 x2 x4 x5 x6 0 1 :=
  funext fun i => by
    unfold val_main_v963 val_main_v962 val_main_v961
    exact (tiled _ _ i).trans ((coord _ 2 _ _ _ _).trans (vector_at x0 x1 x2 x3 x4 x5 x6 hb hn hX i 2))
end Result

end Cert.Reference2Ideal.Read

end
-- ==== Proof.Second.lean ====
/- The runs of the second call and of its reference, and that they leave the same six planes. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_even_grid
public import proofs.«01_k».proof.Proof.EpiArrays
public import proofs.«01_k».proof.Proof.Ref2Rotation
public import Idealize.ShloMosaic.Adequacy

@[expose] public section

set_option maxRecDepth 16384

noncomputable section

namespace Cert.Proof

open Idealize.ShloMosaic Idealize.SL.Sem Idealize.ShloMosaic.TcCoe

section Grid
variable (x0 : IVec Cert.Pre_even_grid.S128x64x1 32) (x1 : FVec Ideal Cert.Pre_even_grid.S32x256x3 .f32) (x2 : IVec Cert.Pre_even_grid.S32 32)
  (x3 : FVec Ideal Cert.Pre_even_grid.S101x8192 .f32) (x4 : FVec Ideal Cert.Pre_even_grid.S101 .f32) (x5 : IVec Cert.Pre_even_grid.S101 1) (x6 : FVec Ideal Cert.Pre_even_grid.S101 .f32)

/-- The first component of `even_grid`: every bin is below 8191. -/
theorem bins_grid (h : (Cert.Pre_even_grid.fn (F := Ideal) x0 x1 x2 x3 x4 x5 x6).1 = fun _ => 1#1) (j : Cert.Pre_even_grid.S128x64x1.Idx) : (x0 j).toNat < 8191 :=
  lt_of_word 8191 (by decide) _ (congrFun h j)

/-- The second component: every time step is below 100. -/
theorem below_grid (h : (Cert.Pre_even_grid.fn (F := Ideal) x0 x1 x2 x3 x4 x5 x6).2.1 = fun _ => 1#1) : Below x2 := fun w =>
  lt_of_word 100 (by decide) _ (congrFun h w)

/-- The third component: every row of the grid is the even one. -/
theorem even_grid (h : (Cert.Pre_even_grid.fn (F := Ideal) x0 x1 x2 x3 x4 x5 x6).2.2 = fun _ => 1#1) : Cert.Reference2Ideal.Read.Even x3 := fun s k => by
  have e : Ideal.cmp .oeq (x3 (ix2 s k)) (((((BitVec.ofNat 32 k.val).toInt : ℤ) : ℝ) : EReal) * fc 0x39C91623#32) = 1#1 := congrFun h (ix2 s k)
  rw [StableHlo.Predicate.toInt_ofNat_small _ (lt_trans k.isLt (by decide))] at e
  by_contra hn
  have : Ideal.cmp .oeq (x3 (ix2 s k)) ((((k.val : ℤ) : ℝ) : EReal) * fc 0x39C91623#32) = 0#1 := by simp only [Ideal.cmp, hn]; rfl
  rw [this] at e
  exact absurd e (by decide)
end Grid

open Cert.Kernel2Ideal Cert.Kernel2Ideal.Gen in
/-- The second kernel's run: the planes of its arguments, which it leaves as they were. -/
theorem kernel2_run (m : (ℓ : Loc nD τ sig) → Buf (Elt Ideal) ℓ) (g : Dev nD → PrngReg) (hb : ∀ c, Below (steps (F := Ideal) m c)) :
    θ_run (defs (F := Ideal)) (onTc (τ := τ) (main (F := Ideal))) ⟨m, fun _ => 0, g⟩ (fun r => ∀ c : Dev nD,
      r.2.mem ((c.tc : Thread nD τ).loc main_v41_0) = vecPlane (bins (F := Ideal) m c) (given m c) (steps (F := Ideal) m c) (spans m c) (flags (F := Ideal) m c) (scales m c) 1 2
      ∧ r.2.mem ((c.tc : Thread nD τ).loc main_v41_1) = vecPlane (bins (F := Ideal) m c) (given m c) (steps (F := Ideal) m c) (spans m c) (flags (F := Ideal) m c) (scales m c) 2 0
      ∧ r.2.mem ((c.tc : Thread nD τ).loc main_v41_2) = vecPlane (bins (F := Ideal) m c) (given m c) (steps (F := Ideal) m c) (spans m c) (flags (F := Ideal) m c) (scales m c) 0 1
      ∧ r.2.mem ((c.tc : Thread nD τ).loc main_v41_3) = drawnPlane (bins (F := Ideal) m c) (steps (F := Ideal) m c) (spans m c) (flags (F := Ideal) m c) 0
      ∧ r.2.mem ((c.tc : Thread nD τ).loc main_v41_4) = drawnPlane (bins (F := Ideal) m c) (steps (F := Ideal) m c) (spans m c) (flags (F := Ideal) m c) 1
      ∧ r.2.mem ((c.tc : Thread nD τ).loc main_v41_5) = drawnPlane (bins (F := Ideal) m c) (steps (F := Ideal) m c) (spans m c) (flags (F := Ideal) m c) 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hr c => by
    obtain ⟨h0, h1, h2, h3, h4, h5, ha⟩ := hr c
    exact ⟨h0.trans (array_v0 m c (hb c)), h1.trans (array_v1 m c (hb c)), h2.trans (array_v2 m c (hb c)),
      h3.trans (array_e0 m c (hb c)), h4.trans (array_e1 m c (hb c)), h5.trans (array_e2 m c (hb c)), ha⟩) (Cert.Kernel2Ideal.Value.run_blocks m g)

open Cert.Reference2Ideal in
/-- The second reference's run: its results are its values of its arguments, which it leaves as they were. -/
theorem reference2_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v957) = Read.val_main_v957 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v960) = Read.val_main_v960 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v963) = Read.val_main_v963 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v966) = Read.val_main_v966 (F := Ideal) (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v969) = Read.val_main_v969 (F := Ideal) (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v972) = Read.val_main_v972 (F := Ideal) (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hr c => by
    obtain ⟨h0, h1, h2, h3, h4, h5, ha⟩ := hr c
    exact ⟨h0.trans (Read.val_main_v957_eq (StableHlo.launchContents m c)), h1.trans (Read.val_main_v960_eq (StableHlo.launchContents m c)),
      h2.trans (Read.val_main_v963_eq (StableHlo.launchContents m c)), h3.trans (Read.val_main_v966_eq (StableHlo.launchContents m c)),
      h4.trans (Read.val_main_v969_eq (StableHlo.launchContents m c)), h5.trans (Read.val_main_v972_eq (StableHlo.launchContents m c)), ha⟩) (Cert.Reference2Ideal.Value.run m g)

open Cert.Reference2Ideal in
/-- The second reference's frame: it has no semaphore. -/
theorem reference2_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r hr => ⟨fun c => (hr c).2.2.2.2.2.2, sem_eq_zero_of_no_sems (by decide) r.2⟩) (reference2_run m g)

open Cert.Kernel2Ideal.Gen in
/-- On arguments that agree, under `even_grid`, the second kernel and its reference end with the same planes. -/
theorem planes_agree : Cert.algebraic_Kernel2Ideal_Reference2Ideal_pre_even_grid := fun m g m' g' hpre hagree => by
  have hn := bins_grid _ _ _ _ _ _ _ (hpre 0).1
  have hb := below_grid _ _ _ _ _ _ _ (hpre 0).2.1
  have hX := even_grid _ _ _ _ _ _ _ (hpre 0).2.2
  refine ⟨_, _, _, _, _, _, kernel2_run m g (fun c => below_grid _ _ _ _ _ _ _ (hpre c).2.1),
    (θ_run Cert.Reference2Ideal.defs _ _).mono (fun _ hr c => ?_) (reference2_run m' g')⟩
  obtain rfl : c = 0 := Subsingleton.elim _ _
  obtain ⟨e0, e1, e2, e3, e4, e5, e6⟩ := hagree 0
  obtain ⟨h0, h1, h2, h3, h4, h5, ha⟩ := hr 0
  rw [e0, e1, e2, e3, e4, e5, e6] at h0 h1 h2
  rw [e0, e2, e3, e4, e5] at h3 h4 h5
  exact ⟨h0.trans (Cert.Reference2Ideal.Read.out_v0 _ _ _ _ _ _ _ hb hn hX), h1.trans (Cert.Reference2Ideal.Read.out_v1 _ _ _ _ _ _ _ hb hn hX),
    h2.trans (Cert.Reference2Ideal.Read.out_v2 _ _ _ _ _ _ _ hb hn hX), h3.trans (Cert.Reference2Ideal.Read.out_e0 _ _ _ _ _ hb hn hX),
    h4.trans (Cert.Reference2Ideal.Read.out_e1 _ _ _ _ _ hb hn hX), h5.trans (Cert.Reference2Ideal.Read.out_e2 _ _ _ _ _ hb hn hX), ha⟩

end Cert.Proof

end
-- ==== Proof.lean ====
/- The certificate of the bin race and of the rotations built on it: the frames of the six programs, the equality of the first
   kernel's bins with the categorical draw its reference makes, and the equality of the second kernel's six planes with those of
   its reference, over the extended reals. -/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.Pre_densities
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_even_grid
public import proofs.«01_k».proof.Proof.Draw
public import proofs.«01_k».proof.Proof.RefValue
public import proofs.«01_k».proof.Proof.Second
public import Idealize.ShloMosaic.Adequacy
public import Idealize.ShloMosaic.Init

@[expose] public section

noncomputable section

namespace Cert.Proof

open Idealize.ShloMosaic Idealize.SL.Sem Idealize.ShloMosaic.TcCoe

/-- The second component of `densities`: no tabulated density is negative. -/
theorem dens_nonneg (x : IVec Cert.Pre_densities.S32 32) (y : FVec Ideal Cert.Pre_densities.S101x8192 .f32) (z : IVec Cert.Pre_densities.S101 1)
    (h : (Cert.Pre_densities.fn (F := Ideal) x y z).2 = fun _ => 1#1) (j : Cert.Pre_densities.S101x8192.Idx) : (0 : EReal) ≤ y j := by
  have e : Ideal.cmp .oge (y j) (Ideal.ofBits .f32 0x00000000#32) = 1#1 := congrFun h j
  have z0 : Ideal.ofBits .f32 0x00000000#32 = (0 : EReal) := by simp [Ideal.ofBits, Ideal.ieee]
  rw [z0] at e
  by_contra hn
  have : Ideal.cmp .oge (y j) 0 = 0#1 := by simp [Ideal.cmp, hn]
  rw [this] at e
  exact absurd e (by decide)

open Cert.KernelIdeal Cert.KernelIdeal.Gen in
/-- The array the kernel leaves is the one the reference computes. -/
theorem bins_eq (m : (ℓ : Loc nD τ sig) → Buf (Elt Ideal) ℓ) (hO : Ok m) (c : Dev nD) (hb : Below (steps m)) (hY : ∀ j, 0 ≤ dens m j) :
    (dats m hO 0 c).arrAt 1 (cfgM m hO).N = Cert.ReferenceIdeal.Read.val_main_v224 (F := Ideal) (steps m) (dens m) (flags m) := by
  refine arr_eq m hO c _ fun t h2 p hp r => ?_
  have ht : t.val < 256 := lt_of_lt_of_eq t.isLt N_0
  have hr := r.isLt
  obtain ⟨kf, kr⟩ := out_row m hO c hb hY t h2 ⟨t.val / 8, by omega⟩ rfl r
  obtain ⟨rf, rr⟩ := Cert.ReferenceIdeal.Read.result_eq (steps m) (dens m) (flags m) hb (ix3 p r 0)
  have hn : p.val * 64 + r.val = t.val / 2 * 64 + r.val := by rw [hp]
  have hs : Cert.ReferenceIdeal.Read.stepOf (steps m) (((ix3 p r (0 : Fin 1)) 0).val * 64 + ((ix3 p r (0 : Fin 1)) 1).val) = Cert.KernelIdeal.Gen.stepAt m ⟨t.val / 8, by omega⟩ := by
    apply Fin.ext
    show (steps m (ix1 ⟨(p.val * 64 + r.val) / 256 % 32, _⟩)).toNat % 101 = (steps m (ix1 ⟨t.val / 8, _⟩)).toNat % 101
    have : (⟨(p.val * 64 + r.val) / 256 % 32, Nat.mod_lt _ (by decide)⟩ : Fin 32) = ⟨t.val / 8, by omega⟩ := Fin.ext (by show (p.val * 64 + r.val) / 256 % 32 = t.val / 8; omega)
    rw [this]
  rw [hs] at rf rr
  by_cases h : flags m (ix1 (Cert.KernelIdeal.Gen.stepAt m ⟨t.val / 8, by omega⟩)) = 1#1
  · rw [kf h, rf h]
  · obtain ⟨d, hd, e⟩ := kr h
    obtain ⟨d', hd', e'⟩ := rr h
    have hd'' : Drawn (dens m) (Cert.KernelIdeal.Gen.stepAt m ⟨t.val / 8, by omega⟩) (t.val / 2 * 64 + r.val) d' := hn ▸ hd'
    rw [e, e', First.unique hd hd'' fun _ _ => Iff.rfl]

open Cert.KernelIdeal Cert.KernelIdeal.Gen in
/-- The kernel's run: its result is the reference's value of its arguments, which it leaves as they were. -/
theorem kernel_run (m : (ℓ : Loc nD τ sig) → Buf (Elt Ideal) ℓ) (g : Dev nD → PrngReg) (h : Cert.Pre_KernelIdeal_densities m) :
    θ_run (defs (F := Ideal)) (onTc (τ := τ) (main (F := Ideal))) ⟨m, fun _ => 0, g⟩ (fun r => ∀ c : Dev nD,
      r.2.mem ((c.tc : Thread nD τ).loc main_v9) = Cert.ReferenceIdeal.Read.val_main_v224 (F := Ideal) (steps m) (dens m) (flags m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => ⟨((hr.1 c).1 1).trans
      (bins_eq m (KI.ok_of_densities m h) c (below_densities _ _ _ (h 0).1) (dens_nonneg _ _ _ (h 0).2)), hr.2 c⟩)
    (θ_run_and (Cert.KernelIdeal.Gen.run_main m g (KI.ok_of_densities m h)) (unchanged m g (KI.ok_of_densities m h)))

open Cert.ReferenceIdeal in
/-- The reference's run: its result is its value of its arguments, which it leaves as they were. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v224) = Read.val_main_v224 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => ⟨(hr c).1.trans (Read.val_main_v224_eq (StableHlo.launchContents m c)), (hr c).2⟩) (Value.run m g)

open Cert.ReferenceIdeal in
/-- The reference's frame: it has no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r hr => ⟨fun c => (hr c).2, sem_eq_zero_of_no_sems (by decide) r.2⟩) (reference_run m g)

/-- On arguments that agree, under `densities`, the kernel and the reference end with the same bins. -/
theorem bins_agree : Cert.algebraic_KernelIdeal_ReferenceIdeal_pre_densities := fun m g m' g' hpre hagree =>
  ⟨fun _ => Cert.ReferenceIdeal.Read.val_main_v224 (F := Ideal) (Cert.KernelIdeal.Gen.steps m) (Cert.KernelIdeal.Gen.dens m) (Cert.KernelIdeal.Gen.flags m),
    kernel_run m g hpre,
    (θ_run Cert.ReferenceIdeal.defs _ _).mono (fun _ hr c => ⟨by
        obtain rfl : c = 0 := Subsingleton.elim _ _
        obtain ⟨e0, e1, e2⟩ := hagree 0
        rw [(hr 0).1, e0, e1, e2], (hr c).2⟩) (reference_run m' g')⟩

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Pre_in_range.Gen.facts, Cert.Pre_densities.Gen.facts, Cert.Pre_even_grid.Gen.facts,
  fun m g h => Cert.Kernel.Gen.frame m g (K.ok_of_pre m h),
  fun m g h => Cert.KernelIdeal.Gen.frame m g (KI.ok_of_pre m h),
  fun m g h => Cert.KernelIdeal.Gen.frame m g (KI.ok_of_densities m h),
  fun m g _ => reference_frame m g,
  fun m g _ => reference_frame m g,
  fun m g _ => Cert.Kernel2.Gen.frame m g,
  fun m g _ => Cert.Kernel2Ideal.Gen.frame m g,
  fun m g _ => Cert.Kernel2Ideal.Gen.frame m g,
  fun m g _ => reference2_frame m g,
  fun m g _ => reference2_frame m g,
  trivial,
  bins_agree,
  trivial,
  planes_agree⟩

end Cert.Proof

end
